-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ring_and_finite [hPre_ring_and_finite : Cert.Pre_ring_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ring_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ring_and_finite [hPre_ring_and_finite : Cert.Pre_ring_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ring_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_ring_and_finite [hKernelIdeal : Cert.KernelIdeal.Facts] [hPre_ring_and_finite : Cert.Pre_ring_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ring_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_ring_and_finite [hReferenceIdeal : Cert.ReferenceIdeal.Facts] [hPre_ring_and_finite : Cert.Pre_ring_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ring_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_ring_and_finite [hKernelIdeal : Cert.KernelIdeal.Facts] [hReferenceIdeal : Cert.ReferenceIdeal.Facts] [hPre_ring_and_finite : Cert.Pre_ring_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ring_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1453) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_ring_and_finite : Cert.Pre_ring_and_finite.Facts),
    quiescent_Kernel (hKernel := hKernel)
    ∧ quiescent_KernelIdeal (hKernelIdeal := hKernelIdeal)
    ∧ quiescent_KernelIdeal_pre_ring_and_finite (hKernelIdeal := hKernelIdeal) (hPre_ring_and_finite := hPre_ring_and_finite)
    ∧ quiescent_ReferenceIdeal (hReferenceIdeal := hReferenceIdeal)
    ∧ quiescent_ReferenceIdeal_pre_ring_and_finite (hReferenceIdeal := hReferenceIdeal) (hPre_ring_and_finite := hPre_ring_and_finite)
    ∧ preserves_Kernel_KernelIdeal
    ∧ algebraic_KernelIdeal_ReferenceIdeal_pre_ring_and_finite (hKernelIdeal := hKernelIdeal) (hReferenceIdeal := hReferenceIdeal) (hPre_ring_and_finite := hPre_ring_and_finite)
-- ==== Pre_ring_and_finite.lean ====
abbrev S1x4x16x3072 : Shape := ⟨4, ![1, 4, 16, 3072]⟩
abbrev S432x512 : Shape := ⟨2, ![432, 512]⟩
abbrev S512 : Shape := ⟨1, ![512]⟩
abbrev S1920x2048 : Shape := ⟨2, ![1920, 2048]⟩
abbrev S2048 : Shape := ⟨1, ![2048]⟩
abbrev S3072x2048 : Shape := ⟨2, ![3072, 2048]⟩
abbrev S1920x512 : Shape := ⟨2, ![1920, 512]⟩
abbrev S432x64 : Shape := ⟨2, ![432, 64]⟩
abbrev S64 : Shape := ⟨1, ![64]⟩
abbrev S27648 : Shape := ⟨1, ![27648]⟩
abbrev S6912 : Shape := ⟨1, ![6912]⟩
abbrev S1728 : Shape := ⟨1, ![1728]⟩
abbrev S9 : Shape := ⟨1, ![9]⟩
abbrev S_ : Shape := ⟨0, ![]⟩
abbrev S3072 : Shape := ⟨1, ![3072]⟩
abbrev S1x3072 : Shape := ⟨2, ![1, 3072]⟩
abbrev S9x1 : Shape := ⟨2, ![9, 1]⟩
abbrev S9x3072 : Shape := ⟨2, ![9, 3072]⟩
abbrev S768 : Shape := ⟨1, ![768]⟩
abbrev S1x768 : Shape := ⟨2, ![1, 768]⟩
abbrev S9x768 : Shape := ⟨2, ![9, 768]⟩
abbrev S192 : Shape := ⟨1, ![192]⟩
abbrev S1x192 : Shape := ⟨2, ![1, 192]⟩
abbrev S9x192 : Shape := ⟨2, ![9, 192]⟩

class Facts : Prop where
  bcast_S_S1x4x16x3072 : S_.BroadcastsInDim S1x4x16x3072 (![] : Fin 0 → Fin S1x4x16x3072.rank)
  reducesTo_S1x4x16x3072_S_d0_1_2_3 : S1x4x16x3072.ReducesTo [0, 1, 2, 3] S_
  h_S_ : 0 < S_.numel
  bcast_S3072_S1x3072_1 : S3072.BroadcastsInDim S1x3072 (![1] : Fin 1 → Fin S1x3072.rank)
  bcast_S9_S9x1_0 : S9.BroadcastsInDim S9x1 (![0] : Fin 1 → Fin S9x1.rank)
  shapeCasts_S27648_S9x3072 : S27648.ShapeCasts S9x3072
  bcast_S1x3072_S9x3072_0_1 : S1x3072.BroadcastsInDim S9x3072 (![0, 1] : Fin 2 → Fin S9x3072.rank)
  reducesTo_S9x3072_S_d0_1 : S9x3072.ReducesTo [0, 1] S_
  bcast_S9x1_S9x3072_0_1 : S9x1.BroadcastsInDim S9x3072 (![0, 1] : Fin 2 → Fin S9x3072.rank)
  bcast_S_S9x3072 : S_.BroadcastsInDim S9x3072 (![] : Fin 0 → Fin S9x3072.rank)
  bcast_S768_S1x768_1 : S768.BroadcastsInDim S1x768 (![1] : Fin 1 → Fin S1x768.rank)
  shapeCasts_S6912_S9x768 : S6912.ShapeCasts S9x768
  bcast_S1x768_S9x768_0_1 : S1x768.BroadcastsInDim S9x768 (![0, 1] : Fin 2 → Fin S9x768.rank)
  reducesTo_S9x768_S_d0_1 : S9x768.ReducesTo [0, 1] S_
  bcast_S9x1_S9x768_0_1 : S9x1.BroadcastsInDim S9x768 (![0, 1] : Fin 2 → Fin S9x768.rank)
  bcast_S_S9x768 : S_.BroadcastsInDim S9x768 (![] : Fin 0 → Fin S9x768.rank)
  bcast_S192_S1x192_1 : S192.BroadcastsInDim S1x192 (![1] : Fin 1 → Fin S1x192.rank)
  shapeCasts_S1728_S9x192 : S1728.ShapeCasts S9x192
  bcast_S1x192_S9x192_0_1 : S1x192.BroadcastsInDim S9x192 (![0, 1] : Fin 2 → Fin S9x192.rank)
  reducesTo_S9x192_S_d0_1 : S9x192.ReducesTo [0, 1] S_
  bcast_S9x1_S9x192_0_1 : S9x1.BroadcastsInDim S9x192 (![0, 1] : Fin 2 → Fin S9x192.rank)
  bcast_S_S9x192 : S_.BroadcastsInDim S9x192 (![] : Fin 0 → Fin S9x192.rank)

variable [Facts]

noncomputable abbrev lit0 : Fin 9 → BitVec 32 := fun
  | 0 => 0#32 | 1 => 1#32 | 2 => 3071#32 | 3 => 2#32 | 4 => 3070#32 | 5 => 3#32 | 6 => 3069#32 | 7 => 4#32
  | 8 => 3068#32
  | _ => 0#32

noncomputable abbrev lit1 : Fin 9 → BitVec 32 := fun
  | 0 => 0x3F800000#32 | 1 => 0xBE000000#32 | 2 => 0xBE000000#32 | 3 => 0xBE000000#32 | 4 => 0xBE000000#32 | 5 => 0xBE000000#32 | 6 => 0xBE000000#32 | 7 => 0xBE000000#32
  | 8 => 0xBE000000#32
  | _ => 0#32

noncomputable abbrev lit2 : Fin 9 → BitVec 32 := fun
  | 0 => 0#32 | 1 => 1#32 | 2 => 767#32 | 3 => 2#32 | 4 => 766#32 | 5 => 3#32 | 6 => 765#32 | 7 => 4#32
  | 8 => 764#32
  | _ => 0#32

noncomputable abbrev lit3 : Fin 9 → BitVec 32 := fun
  | 0 => 0x3F800000#32 | 1 => 0xBE000000#32 | 2 => 0xBE000000#32 | 3 => 0xBE000000#32 | 4 => 0xBE000000#32 | 5 => 0xBE000000#32 | 6 => 0xBE000000#32 | 7 => 0xBE000000#32
  | 8 => 0xBE000000#32
  | _ => 0#32

noncomputable abbrev lit4 : Fin 9 → BitVec 32 := fun
  | 0 => 0#32 | 1 => 1#32 | 2 => 191#32 | 3 => 2#32 | 4 => 190#32 | 5 => 3#32 | 6 => 189#32 | 7 => 4#32
  | 8 => 188#32
  | _ => 0#32

noncomputable abbrev lit5 : Fin 9 → BitVec 32 := fun
  | 0 => 0x3F800000#32 | 1 => 0xBE000000#32 | 2 => 0xBE000000#32 | 3 => 0xBE000000#32 | 4 => 0xBE000000#32 | 5 => 0xBE000000#32 | 6 => 0xBE000000#32 | 7 => 0xBE000000#32
  | 8 => 0xBE000000#32
  | _ => 0#32

def fn_where {F : FTy → Type} [FloatOps F] (arg0 : IVec S9x3072 1) (arg1 : IVec S9x3072 32) (arg2 : IVec S9x3072 32) : IVec S9x3072 32 :=
  let v0 : IVec S9x3072 32 := select arg0 arg1 arg2
  v0

def fn_where_0 {F : FTy → Type} [FloatOps F] (arg0 : IVec S9x768 1) (arg1 : IVec S9x768 32) (arg2 : IVec S9x768 32) : IVec S9x768 32 :=
  let v0 : IVec S9x768 32 := select arg0 arg1 arg2
  v0

def fn_where_1 {F : FTy → Type} [FloatOps F] (arg0 : IVec S9x192 1) (arg1 : IVec S9x192 32) (arg2 : IVec S9x192 32) : IVec S9x192 32 :=
  let v0 : IVec S9x192 32 := select arg0 arg1 arg2
  v0

def fn_part5 {F : FTy → Type} [FloatOps F] (main_v67 : IVec S_ 1) (main_v93 : IVec S_ 1) (main_v96 : IVec S9x192 1) (main_c_20 : IVec S_ 1) : IVec S_ 1 :=
  let main_v97 : IVec S_ 1 := (fun x v => Host.reduce IntOp.andi x v reducesTo_S9x192_S_d0_1 h_S_) main_v96 main_c_20
  let main_v98 : IVec S_ 1 := andi main_v93 main_v97
  let main_v99 : IVec S_ 1 := andi main_v67 main_v98
  main_v99

def fn_part4 {F : FTy → Type} [FloatOps F] (main_arg19 : FVec F S1728 .f32) (main_v67 : IVec S_ 1) (main_v69 : IVec S1x192 32) (main_v70 : IVec S9x1 32) (main_v71 : FVec F S9x1 .f32) (main_v75 : IVec S_ 1) (main_v76 : IVec S9x192 32) : IVec S_ 1 :=
  let main_v77 : IVec S9x192 32 := broadcastInDim S9x192 ![0, 1] bcast_S1x192_S9x192_0_1 main_v69
  let main_v78 : IVec S9x192 32 := broadcastInDim S9x192 ![0, 1] bcast_S9x1_S9x192_0_1 main_v70
  let main_v79 : IVec S9x192 32 := addi main_v77 main_v78
  let main_c_17 : IVec S_ 32 := constantI S_ 32 192#32
  let main_v80 : IVec S9x192 32 := broadcastInDim S9x192 ![] bcast_S_S9x192 main_c_17
  let main_v81 : IVec S9x192 1 := cmpi .slt main_v79 main_v80
  let main_v82 : IVec S9x192 32 := broadcastInDim S9x192 ![0, 1] bcast_S1x192_S9x192_0_1 main_v69
  let main_v83 : IVec S9x192 32 := broadcastInDim S9x192 ![0, 1] bcast_S9x1_S9x192_0_1 main_v70
  let main_v84 : IVec S9x192 32 := addi main_v82 main_v83
  let main_v85 : IVec S9x192 32 := broadcastInDim S9x192 ![0, 1] bcast_S1x192_S9x192_0_1 main_v69
  let main_v86 : IVec S9x192 32 := broadcastInDim S9x192 ![0, 1] bcast_S9x1_S9x192_0_1 main_v70
  let main_v87 : IVec S9x192 32 := addi main_v85 main_v86
  let main_c_18 : IVec S_ 32 := constantI S_ 32 192#32
  let main_v88 : IVec S9x192 32 := broadcastInDim S9x192 ![] bcast_S_S9x192 main_c_18
  let main_v89 : IVec S9x192 32 := subi main_v87 main_v88
  let main_v90 : IVec S9x192 32 := fn_where_1 (F := F) main_v81 main_v84 main_v89
  let main_v91 : IVec S9x192 1 := cmpi .eq main_v76 main_v90
  let main_c_19 : IVec S_ 1 := constantI S_ 1 1#1
  let main_v92 : IVec S_ 1 := (fun x v => Host.reduce IntOp.andi x v reducesTo_S9x192_S_d0_1 h_S_) main_v91 main_c_19
  let main_v93 : IVec S_ 1 := andi main_v75 main_v92
  let main_v94 : FVec F S9x192 .f32 := shapeCast S9x192 main_arg19 shapeCasts_S1728_S9x192
  let main_v95 : FVec F S9x192 .f32 := broadcastInDim S9x192 ![0, 1] bcast_S9x1_S9x192_0_1 main_v71
  let main_v96 : IVec S9x192 1 := cmpf .oeq main_v94 main_v95
  let main_c_20 : IVec S_ 1 := constantI S_ 1 1#1
  fn_part5 (F := F) main_v67 main_v93 main_v96 main_c_20

def fn_part3 {F : FTy → Type} [FloatOps F] (main_arg16 : FVec F S6912 .f32) (main_arg17 : IVec S1728 32) (main_arg18 : IVec S1728 32) (main_arg19 : FVec F S1728 .f32) (main_c_2 : IVec S9 32) (main_cst_3 : FVec F S9 .f32) (main_v35 : IVec S_ 1) (main_v39 : FVec F S9x1 .f32) (main_v43 : IVec S_ 1) (main_v44 : IVec S9x768 32) (main_v49 : IVec S9x768 1) (main_v52 : IVec S9x768 32) (main_v55 : IVec S9x768 32) (main_c_13 : IVec S_ 32) : IVec S_ 1 :=
  let main_v56 : IVec S9x768 32 := broadcastInDim S9x768 ![] bcast_S_S9x768 main_c_13
  let main_v57 : IVec S9x768 32 := subi main_v55 main_v56
  let main_v58 : IVec S9x768 32 := fn_where_0 (F := F) main_v49 main_v52 main_v57
  let main_v59 : IVec S9x768 1 := cmpi .eq main_v44 main_v58
  let main_c_14 : IVec S_ 1 := constantI S_ 1 1#1
  let main_v60 : IVec S_ 1 := (fun x v => Host.reduce IntOp.andi x v reducesTo_S9x768_S_d0_1 h_S_) main_v59 main_c_14
  let main_v61 : IVec S_ 1 := andi main_v43 main_v60
  let main_v62 : FVec F S9x768 .f32 := shapeCast S9x768 main_arg16 shapeCasts_S6912_S9x768
  let main_v63 : FVec F S9x768 .f32 := broadcastInDim S9x768 ![0, 1] bcast_S9x1_S9x768_0_1 main_v39
  let main_v64 : IVec S9x768 1 := cmpf .oeq main_v62 main_v63
  let main_c_15 : IVec S_ 1 := constantI S_ 1 1#1
  let main_v65 : IVec S_ 1 := (fun x v => Host.reduce IntOp.andi x v reducesTo_S9x768_S_d0_1 h_S_) main_v64 main_c_15
  let main_v66 : IVec S_ 1 := andi main_v61 main_v65
  let main_v67 : IVec S_ 1 := andi main_v35 main_v66
  let main_v68 : IVec S192 32 := iotaInDim S192 32 0
  let main_v69 : IVec S1x192 32 := broadcastInDim S1x192 ![1] bcast_S192_S1x192_1 main_v68
  let main_v70 : IVec S9x1 32 := broadcastInDim S9x1 ![0] bcast_S9_S9x1_0 main_c_2
  let main_v71 : FVec F S9x1 .f32 := broadcastInDim S9x1 ![0] bcast_S9_S9x1_0 main_cst_3
  let main_v72 : IVec S9x192 32 := shapeCast S9x192 main_arg17 shapeCasts_S1728_S9x192
  let main_v73 : IVec S9x192 32 := broadcastInDim S9x192 ![0, 1] bcast_S1x192_S9x192_0_1 main_v69
  let main_v74 : IVec S9x192 1 := cmpi .eq main_v72 main_v73
  let main_c_16 : IVec S_ 1 := constantI S_ 1 1#1
  let main_v75 : IVec S_ 1 := (fun x v => Host.reduce IntOp.andi x v reducesTo_S9x192_S_d0_1 h_S_) main_v74 main_c_16
  let main_v76 : IVec S9x192 32 := shapeCast S9x192 main_arg18 shapeCasts_S1728_S9x192
  fn_part4 (F := F) main_arg19 main_v67 main_v69 main_v70 main_v71 main_v75 main_v76

def fn_part2 {F : FTy → Type} [FloatOps F] (main_arg14 : IVec S6912 32) (main_arg15 : IVec S6912 32) (main_arg16 : FVec F S6912 .f32) (main_arg17 : IVec S1728 32) (main_arg18 : IVec S1728 32) (main_arg19 : FVec F S1728 .f32) (main_c_0 : IVec S9 32) (main_cst_1 : FVec F S9 .f32) (main_c_2 : IVec S9 32) (main_cst_3 : FVec F S9 .f32) (main_v3 : IVec S_ 1) (main_v34 : IVec S_ 1) : IVec S_ 1 :=
  let main_v35 : IVec S_ 1 := andi main_v3 main_v34
  let main_v36 : IVec S768 32 := iotaInDim S768 32 0
  let main_v37 : IVec S1x768 32 := broadcastInDim S1x768 ![1] bcast_S768_S1x768_1 main_v36
  let main_v38 : IVec S9x1 32 := broadcastInDim S9x1 ![0] bcast_S9_S9x1_0 main_c_0
  let main_v39 : FVec F S9x1 .f32 := broadcastInDim S9x1 ![0] bcast_S9_S9x1_0 main_cst_1
  let main_v40 : IVec S9x768 32 := shapeCast S9x768 main_arg14 shapeCasts_S6912_S9x768
  let main_v41 : IVec S9x768 32 := broadcastInDim S9x768 ![0, 1] bcast_S1x768_S9x768_0_1 main_v37
  let main_v42 : IVec S9x768 1 := cmpi .eq main_v40 main_v41
  let main_c_11 : IVec S_ 1 := constantI S_ 1 1#1
  let main_v43 : IVec S_ 1 := (fun x v => Host.reduce IntOp.andi x v reducesTo_S9x768_S_d0_1 h_S_) main_v42 main_c_11
  let main_v44 : IVec S9x768 32 := shapeCast S9x768 main_arg15 shapeCasts_S6912_S9x768
  let main_v45 : IVec S9x768 32 := broadcastInDim S9x768 ![0, 1] bcast_S1x768_S9x768_0_1 main_v37
  let main_v46 : IVec S9x768 32 := broadcastInDim S9x768 ![0, 1] bcast_S9x1_S9x768_0_1 main_v38
  let main_v47 : IVec S9x768 32 := addi main_v45 main_v46
  let main_c_12 : IVec S_ 32 := constantI S_ 32 768#32
  let main_v48 : IVec S9x768 32 := broadcastInDim S9x768 ![] bcast_S_S9x768 main_c_12
  let main_v49 : IVec S9x768 1 := cmpi .slt main_v47 main_v48
  let main_v50 : IVec S9x768 32 := broadcastInDim S9x768 ![0, 1] bcast_S1x768_S9x768_0_1 main_v37
  let main_v51 : IVec S9x768 32 := broadcastInDim S9x768 ![0, 1] bcast_S9x1_S9x768_0_1 main_v38
  let main_v52 : IVec S9x768 32 := addi main_v50 main_v51
  let main_v53 : IVec S9x768 32 := broadcastInDim S9x768 ![0, 1] bcast_S1x768_S9x768_0_1 main_v37
  let main_v54 : IVec S9x768 32 := broadcastInDim S9x768 ![0, 1] bcast_S9x1_S9x768_0_1 main_v38
  let main_v55 : IVec S9x768 32 := addi main_v53 main_v54
  let main_c_13 : IVec S_ 32 := constantI S_ 32 768#32
  fn_part3 (F := F) main_arg16 main_arg17 main_arg18 main_arg19 main_c_2 main_cst_3 main_v35 main_v39 main_v43 main_v44 main_v49 main_v52 main_v55 main_c_13

def fn_part1 {F : FTy → Type} [FloatOps F] (main_arg13 : FVec F S27648 .f32) (main_arg14 : IVec S6912 32) (main_arg15 : IVec S6912 32) (main_arg16 : FVec F S6912 .f32) (main_arg17 : IVec S1728 32) (main_arg18 : IVec S1728 32) (main_arg19 : FVec F S1728 .f32) (main_c_0 : IVec S9 32) (main_cst_1 : FVec F S9 .f32) (main_c_2 : IVec S9 32) (main_cst_3 : FVec F S9 .f32) (main_v3 : IVec S_ 1) (main_v5 : IVec S1x3072 32) (main_v6 : IVec S9x1 32) (main_v7 : FVec F S9x1 .f32) (main_v11 : IVec S_ 1) (main_v12 : IVec S9x3072 32) (main_v13 : IVec S9x3072 32) (main_v14 : IVec S9x3072 32) : IVec S_ 1 :=
  let main_v15 : IVec S9x3072 32 := addi main_v13 main_v14
  let main_c_7 : IVec S_ 32 := constantI S_ 32 3072#32
  let main_v16 : IVec S9x3072 32 := broadcastInDim S9x3072 ![] bcast_S_S9x3072 main_c_7
  let main_v17 : IVec S9x3072 1 := cmpi .slt main_v15 main_v16
  let main_v18 : IVec S9x3072 32 := broadcastInDim S9x3072 ![0, 1] bcast_S1x3072_S9x3072_0_1 main_v5
  let main_v19 : IVec S9x3072 32 := broadcastInDim S9x3072 ![0, 1] bcast_S9x1_S9x3072_0_1 main_v6
  let main_v20 : IVec S9x3072 32 := addi main_v18 main_v19
  let main_v21 : IVec S9x3072 32 := broadcastInDim S9x3072 ![0, 1] bcast_S1x3072_S9x3072_0_1 main_v5
  let main_v22 : IVec S9x3072 32 := broadcastInDim S9x3072 ![0, 1] bcast_S9x1_S9x3072_0_1 main_v6
  let main_v23 : IVec S9x3072 32 := addi main_v21 main_v22
  let main_c_8 : IVec S_ 32 := constantI S_ 32 3072#32
  let main_v24 : IVec S9x3072 32 := broadcastInDim S9x3072 ![] bcast_S_S9x3072 main_c_8
  let main_v25 : IVec S9x3072 32 := subi main_v23 main_v24
  let main_v26 : IVec S9x3072 32 := fn_where (F := F) main_v17 main_v20 main_v25
  let main_v27 : IVec S9x3072 1 := cmpi .eq main_v12 main_v26
  let main_c_9 : IVec S_ 1 := constantI S_ 1 1#1
  let main_v28 : IVec S_ 1 := (fun x v => Host.reduce IntOp.andi x v reducesTo_S9x3072_S_d0_1 h_S_) main_v27 main_c_9
  let main_v29 : IVec S_ 1 := andi main_v11 main_v28
  let main_v30 : FVec F S9x3072 .f32 := shapeCast S9x3072 main_arg13 shapeCasts_S27648_S9x3072
  let main_v31 : FVec F S9x3072 .f32 := broadcastInDim S9x3072 ![0, 1] bcast_S9x1_S9x3072_0_1 main_v7
  let main_v32 : IVec S9x3072 1 := cmpf .oeq main_v30 main_v31
  let main_c_10 : IVec S_ 1 := constantI S_ 1 1#1
  let main_v33 : IVec S_ 1 := (fun x v => Host.reduce IntOp.andi x v reducesTo_S9x3072_S_d0_1 h_S_) main_v32 main_c_10
  let main_v34 : IVec S_ 1 := andi main_v29 main_v33
  fn_part2 (F := F) main_arg14 main_arg15 main_arg16 main_arg17 main_arg18 main_arg19 main_c_0 main_cst_1 main_c_2 main_cst_3 main_v3 main_v34

def fn {F : FTy → Type} [FloatOps F] (main_arg0 : FVec F S1x4x16x3072 .f32) (main_arg1 : FVec F S432x512 .f32) (main_arg2 : FVec F S512 .f32) (main_arg3 : FVec F S1920x2048 .f32) (main_arg4 : FVec F S2048 .f32) (main_arg5 : FVec F S3072x2048 .f32) (main_arg6 : FVec F S2048 .f32) (main_arg7 : FVec F S1920x512 .f32) (main_arg8 : FVec F S512 .f32) (main_arg9 : FVec F S432x64 .f32) (main_arg10 : FVec F S64 .f32) (main_arg11 : IVec S27648 32) (main_arg12 : IVec S27648 32) (main_arg13 : FVec F S27648 .f32) (main_arg14 : IVec S6912 32) (main_arg15 : IVec S6912 32) (main_arg16 : FVec F S6912 .f32) (main_arg17 : IVec S1728 32) (main_arg18 : IVec S1728 32) (main_arg19 : FVec F S1728 .f32) : IVec S_ 1 :=
  let main_c : IVec S9 32 := fun i => lit0 (S9.rowMajor i)
  let main_cst : FVec F S9 .f32 := fun i => FloatOps.ofBits .f32 (lit1 (S9.rowMajor i))
  let main_c_0 : IVec S9 32 := fun i => lit2 (S9.rowMajor i)
  let main_cst_1 : FVec F S9 .f32 := fun i => FloatOps.ofBits .f32 (lit3 (S9.rowMajor i))
  let main_c_2 : IVec S9 32 := fun i => lit4 (S9.rowMajor i)
  let main_cst_3 : FVec F S9 .f32 := fun i => FloatOps.ofBits .f32 (lit5 (S9.rowMajor i))
  let main_v0 : FVec F S1x4x16x3072 .f32 := Host.absf main_arg0
  let main_cst_4 : FVec F S_ .f32 := constant S_ .f32 0x7F800000#32
  let main_v1 : FVec F S1x4x16x3072 .f32 := broadcastInDim S1x4x16x3072 ![] bcast_S_S1x4x16x3072 main_cst_4
  let main_v2 : IVec S1x4x16x3072 1 := cmpf .olt main_v0 main_v1
  let main_c_5 : IVec S_ 1 := constantI S_ 1 1#1
  let main_v3 : IVec S_ 1 := (fun x v => Host.reduce IntOp.andi x v reducesTo_S1x4x16x3072_S_d0_1_2_3 h_S_) main_v2 main_c_5
  let main_v4 : IVec S3072 32 := iotaInDim S3072 32 0
  let main_v5 : IVec S1x3072 32 := broadcastInDim S1x3072 ![1] bcast_S3072_S1x3072_1 main_v4
  let main_v6 : IVec S9x1 32 := broadcastInDim S9x1 ![0] bcast_S9_S9x1_0 main_c
  let main_v7 : FVec F S9x1 .f32 := broadcastInDim S9x1 ![0] bcast_S9_S9x1_0 main_cst
  let main_v8 : IVec S9x3072 32 := shapeCast S9x3072 main_arg11 shapeCasts_S27648_S9x3072
  let main_v9 : IVec S9x3072 32 := broadcastInDim S9x3072 ![0, 1] bcast_S1x3072_S9x3072_0_1 main_v5
  let main_v10 : IVec S9x3072 1 := cmpi .eq main_v8 main_v9
  let main_c_6 : IVec S_ 1 := constantI S_ 1 1#1
  let main_v11 : IVec S_ 1 := (fun x v => Host.reduce IntOp.andi x v reducesTo_S9x3072_S_d0_1 h_S_) main_v10 main_c_6
  let main_v12 : IVec S9x3072 32 := shapeCast S9x3072 main_arg12 shapeCasts_S27648_S9x3072
  let main_v13 : IVec S9x3072 32 := broadcastInDim S9x3072 ![0, 1] bcast_S1x3072_S9x3072_0_1 main_v5
  let main_v14 : IVec S9x3072 32 := broadcastInDim S9x3072 ![0, 1] bcast_S9x1_S9x3072_0_1 main_v6
  fn_part1 (F := F) main_arg13 main_arg14 main_arg15 main_arg16 main_arg17 main_arg18 main_arg19 main_c_0 main_cst_1 main_c_2 main_cst_3 main_v3 main_v5 main_v6 main_v7 main_v11 main_v12 main_v13 main_v14
-- ==== Kernel.lean ====
abbrev S1x4x16x3072 : Shape := ⟨4, ![1, 4, 16, 3072]⟩
abbrev S432x512 : Shape := ⟨2, ![432, 512]⟩
abbrev S512 : Shape := ⟨1, ![512]⟩
abbrev S1920x2048 : Shape := ⟨2, ![1920, 2048]⟩
abbrev S2048 : Shape := ⟨1, ![2048]⟩
abbrev S3072x2048 : Shape := ⟨2, ![3072, 2048]⟩
abbrev S1920x512 : Shape := ⟨2, ![1920, 512]⟩
abbrev S432x64 : Shape := ⟨2, ![432, 64]⟩
abbrev S64 : Shape := ⟨1, ![64]⟩
abbrev S27648 : Shape := ⟨1, ![27648]⟩
abbrev S6912 : Shape := ⟨1, ![6912]⟩
abbrev S1728 : Shape := ⟨1, ![1728]⟩
abbrev S4x16x3072 : Shape := ⟨3, ![4, 16, 3072]⟩
abbrev S1x512 : Shape := ⟨2, ![1, 512]⟩
abbrev S1x2048 : Shape := ⟨2, ![1, 2048]⟩
abbrev S4x192x512 : Shape := ⟨3, ![4, 192, 512]⟩
abbrev S1x16x3072 : Shape := ⟨3, ![1, 16, 3072]⟩
abbrev S16x3072 : Shape := ⟨2, ![16, 3072]⟩
abbrev S3072x16 : Shape := ⟨2, ![3072, 16]⟩
abbrev S3072x128 : Shape := ⟨2, ![3072, 128]⟩
abbrev S3072x144 : Shape := ⟨2, ![3072, 144]⟩
abbrev S3071x144 : Shape := ⟨2, ![3071, 144]⟩
abbrev S1x144 : Shape := ⟨2, ![1, 144]⟩
abbrev S3070x144 : Shape := ⟨2, ![3070, 144]⟩
abbrev S2x144 : Shape := ⟨2, ![2, 144]⟩
abbrev S3068x144 : Shape := ⟨2, ![3068, 144]⟩
abbrev S4x144 : Shape := ⟨2, ![4, 144]⟩
abbrev S3072x432 : Shape := ⟨2, ![3072, 432]⟩
abbrev S3072x512 : Shape := ⟨2, ![3072, 512]⟩
abbrev S768x4x128 : Shape := ⟨3, ![768, 4, 128]⟩
abbrev S768x128 : Shape := ⟨2, ![768, 128]⟩
abbrev S768x512 : Shape := ⟨2, ![768, 512]⟩
abbrev S768x640 : Shape := ⟨2, ![768, 640]⟩
abbrev S767x640 : Shape := ⟨2, ![767, 640]⟩
abbrev S1x640 : Shape := ⟨2, ![1, 640]⟩
abbrev S766x640 : Shape := ⟨2, ![766, 640]⟩
abbrev S2x640 : Shape := ⟨2, ![2, 640]⟩
abbrev S764x640 : Shape := ⟨2, ![764, 640]⟩
abbrev S4x640 : Shape := ⟨2, ![4, 640]⟩
abbrev S768x1920 : Shape := ⟨2, ![768, 1920]⟩
abbrev S768x2048 : Shape := ⟨2, ![768, 2048]⟩
abbrev S192x4x512 : Shape := ⟨3, ![192, 4, 512]⟩
abbrev S192x512 : Shape := ⟨2, ![192, 512]⟩
abbrev S1x192x512 : Shape := ⟨3, ![1, 192, 512]⟩
abbrev S1x64 : Shape := ⟨2, ![1, 64]⟩
abbrev S192x1024 : Shape := ⟨2, ![192, 1024]⟩
abbrev S191x1024 : Shape := ⟨2, ![191, 1024]⟩
abbrev S1x1024 : Shape := ⟨2, ![1, 1024]⟩
abbrev S190x1024 : Shape := ⟨2, ![190, 1024]⟩
abbrev S2x1024 : Shape := ⟨2, ![2, 1024]⟩
abbrev S188x1024 : Shape := ⟨2, ![188, 1024]⟩
abbrev S4x1024 : Shape := ⟨2, ![4, 1024]⟩
abbrev S192x3072 : Shape := ⟨2, ![192, 3072]⟩
abbrev S192x2048 : Shape := ⟨2, ![192, 2048]⟩
abbrev S192x1x512 : Shape := ⟨3, ![192, 1, 512]⟩
abbrev S768x1x128 : Shape := ⟨3, ![768, 1, 128]⟩
abbrev S3072x64 : Shape := ⟨2, ![3072, 64]⟩
abbrev S1x1x16x3072 : Shape := ⟨4, ![1, 1, 16, 3072]⟩

abbrev nBuf : Space → Nat
  | .hbm => 29
  | .vmem => 14
  | .smem => 0
  | _ => 0

abbrev bufTy : (tb : Table) → Fin (tcTables nBuf tb) → BufTy
  | .hbm, ⟨0, _⟩ => ⟨S1x4x16x3072, .f32⟩
  | .hbm, ⟨1, _⟩ => ⟨S432x512, .f32⟩
  | .hbm, ⟨2, _⟩ => ⟨S512, .f32⟩
  | .hbm, ⟨3, _⟩ => ⟨S1920x2048, .f32⟩
  | .hbm, ⟨4, _⟩ => ⟨S2048, .f32⟩
  | .hbm, ⟨5, _⟩ => ⟨S3072x2048, .f32⟩
  | .hbm, ⟨6, _⟩ => ⟨S2048, .f32⟩
  | .hbm, ⟨7, _⟩ => ⟨S1920x512, .f32⟩
  | .hbm, ⟨8, _⟩ => ⟨S512, .f32⟩
  | .hbm, ⟨9, _⟩ => ⟨S432x64, .f32⟩
  | .hbm, ⟨10, _⟩ => ⟨S64, .f32⟩
  | .hbm, ⟨11, _⟩ => ⟨S27648, .i32⟩
  | .hbm, ⟨12, _⟩ => ⟨S27648, .i32⟩
  | .hbm, ⟨13, _⟩ => ⟨S27648, .f32⟩
  | .hbm, ⟨14, _⟩ => ⟨S6912, .i32⟩
  | .hbm, ⟨15, _⟩ => ⟨S6912, .i32⟩
  | .hbm, ⟨16, _⟩ => ⟨S6912, .f32⟩
  | .hbm, ⟨17, _⟩ => ⟨S1728, .i32⟩
  | .hbm, ⟨18, _⟩ => ⟨S1728, .i32⟩
  | .hbm, ⟨19, _⟩ => ⟨S1728, .f32⟩
  | .hbm, ⟨20, _⟩ => ⟨S4x16x3072, .f32⟩
  | .hbm, ⟨21, _⟩ => ⟨S1x512, .f32⟩
  | .hbm, ⟨22, _⟩ => ⟨S1x2048, .f32⟩
  | .hbm, ⟨23, _⟩ => ⟨S4x192x512, .f32⟩
  | .hbm, ⟨24, _⟩ => ⟨S1x2048, .f32⟩
  | .hbm, ⟨25, _⟩ => ⟨S1x512, .f32⟩
  | .hbm, ⟨26, _⟩ => ⟨S1x64, .f32⟩
  | .hbm, ⟨27, _⟩ => ⟨S16x3072, .f32⟩
  | .hbm, ⟨28, _⟩ => ⟨S1x1x16x3072, .f32⟩
  | .local _ .vmem, ⟨0, _⟩ => ⟨S4x16x3072, .f32⟩
  | .local _ .vmem, ⟨1, _⟩ => ⟨S432x512, .f32⟩
  | .local _ .vmem, ⟨2, _⟩ => ⟨S1x512, .f32⟩
  | .local _ .vmem, ⟨3, _⟩ => ⟨S1920x2048, .f32⟩
  | .local _ .vmem, ⟨4, _⟩ => ⟨S1x2048, .f32⟩
  | .local _ .vmem, ⟨5, _⟩ => ⟨S4x192x512, .f32⟩
  | .local _ .vmem, ⟨6, _⟩ => ⟨S4x192x512, .f32⟩
  | .local _ .vmem, ⟨7, _⟩ => ⟨S3072x2048, .f32⟩
  | .local _ .vmem, ⟨8, _⟩ => ⟨S1x2048, .f32⟩
  | .local _ .vmem, ⟨9, _⟩ => ⟨S1920x512, .f32⟩
  | .local _ .vmem, ⟨10, _⟩ => ⟨S1x512, .f32⟩
  | .local _ .vmem, ⟨11, _⟩ => ⟨S432x64, .f32⟩
  | .local _ .vmem, ⟨12, _⟩ => ⟨S1x64, .f32⟩
  | .local _ .vmem, ⟨13, _⟩ => ⟨S16x3072, .f32⟩
  | _, _ => ⟨S1x4x16x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13

abbrev nD : Nat := 1
abbrev τ : Topo := Topo.v7x

variable {F : FTy → Type} [FloatOps F]

abbrev grid0 : Pipeline.Grid := .none

abbrev stage0_0 : Fin 1 → Memref sig .tc .vmem S4x16x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S432x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x192x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

abbrev stage1_0 : Fin 1 → Memref sig .tc .vmem S4x192x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3072x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1920x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S432x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16x3072 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
-- ==== ReferenceIdeal.lean ====
abbrev S1x4x16x3072 : Shape := ⟨4, ![1, 4, 16, 3072]⟩
abbrev S432x512 : Shape := ⟨2, ![432, 512]⟩
abbrev S512 : Shape := ⟨1, ![512]⟩
abbrev S1920x2048 : Shape := ⟨2, ![1920, 2048]⟩
abbrev S2048 : Shape := ⟨1, ![2048]⟩
abbrev S3072x2048 : Shape := ⟨2, ![3072, 2048]⟩
abbrev S1920x512 : Shape := ⟨2, ![1920, 512]⟩
abbrev S432x64 : Shape := ⟨2, ![432, 64]⟩
abbrev S64 : Shape := ⟨1, ![64]⟩
abbrev S27648 : Shape := ⟨1, ![27648]⟩
abbrev S6912 : Shape := ⟨1, ![6912]⟩
abbrev S1728 : Shape := ⟨1, ![1728]⟩
abbrev S_ : Shape := ⟨0, ![]⟩
abbrev S1x3072x128 : Shape := ⟨3, ![1, 3072, 128]⟩
abbrev S1x1x16x3072 : Shape := ⟨4, ![1, 1, 16, 3072]⟩
abbrev S1x16x3072 : Shape := ⟨3, ![1, 16, 3072]⟩
abbrev S1x3072x16 : Shape := ⟨3, ![1, 3072, 16]⟩
abbrev S1x3072x144 : Shape := ⟨3, ![1, 3072, 144]⟩
abbrev S27648x1 : Shape := ⟨2, ![27648, 1]⟩
abbrev S1x27648x144 : Shape := ⟨3, ![1, 27648, 144]⟩
abbrev S1x27648x1 : Shape := ⟨3, ![1, 27648, 1]⟩
abbrev S27648x1x144 : Shape := ⟨3, ![27648, 1, 144]⟩
abbrev S3072x1x144 : Shape := ⟨3, ![3072, 1, 144]⟩
abbrev S1x3072x432 : Shape := ⟨3, ![1, 3072, 432]⟩
abbrev S1x3072x512 : Shape := ⟨3, ![1, 3072, 512]⟩
abbrev S1x1x512 : Shape := ⟨3, ![1, 1, 512]⟩
abbrev S1x1x3072x128 : Shape := ⟨4, ![1, 1, 3072, 128]⟩
abbrev S1x4x3072x128 : Shape := ⟨4, ![1, 4, 3072, 128]⟩
abbrev S1x4x128x3072 : Shape := ⟨4, ![1, 4, 128, 3072]⟩
abbrev S1x4x128x768x4 : Shape := ⟨5, ![1, 4, 128, 768, 4]⟩
abbrev S1x4x128x768 : Shape := ⟨4, ![1, 4, 128, 768]⟩
abbrev S1x768x512 : Shape := ⟨3, ![1, 768, 512]⟩
abbrev S1x1x128x768 : Shape := ⟨4, ![1, 1, 128, 768]⟩
abbrev S1x128x768 : Shape := ⟨3, ![1, 128, 768]⟩
abbrev S1x768x128 : Shape := ⟨3, ![1, 768, 128]⟩
abbrev S1x768x640 : Shape := ⟨3, ![1, 768, 640]⟩
abbrev S6912x1 : Shape := ⟨2, ![6912, 1]⟩
abbrev S1x6912x640 : Shape := ⟨3, ![1, 6912, 640]⟩
abbrev S1x6912x1 : Shape := ⟨3, ![1, 6912, 1]⟩
abbrev S6912x1x640 : Shape := ⟨3, ![6912, 1, 640]⟩
abbrev S768x1x640 : Shape := ⟨3, ![768, 1, 640]⟩
abbrev S1x768x1920 : Shape := ⟨3, ![1, 768, 1920]⟩
abbrev S1x768x2048 : Shape := ⟨3, ![1, 768, 2048]⟩
abbrev S1x1x2048 : Shape := ⟨3, ![1, 1, 2048]⟩
abbrev S1x1x768x512 : Shape := ⟨4, ![1, 1, 768, 512]⟩
abbrev S1x4x768x512 : Shape := ⟨4, ![1, 4, 768, 512]⟩
abbrev S1x4x512x768 : Shape := ⟨4, ![1, 4, 512, 768]⟩
abbrev S1x4x512x192x4 : Shape := ⟨5, ![1, 4, 512, 192, 4]⟩
abbrev S1x4x512x192 : Shape := ⟨4, ![1, 4, 512, 192]⟩
abbrev S1x192x512 : Shape := ⟨3, ![1, 192, 512]⟩
abbrev S1x1x512x192 : Shape := ⟨4, ![1, 1, 512, 192]⟩
abbrev S1x512x192 : Shape := ⟨3, ![1, 512, 192]⟩
abbrev S1x192x1024 : Shape := ⟨3, ![1, 192, 1024]⟩
abbrev S1728x1 : Shape := ⟨2, ![1728, 1]⟩
abbrev S1x1728x1024 : Shape := ⟨3, ![1, 1728, 1024]⟩
abbrev S1x1728x1 : Shape := ⟨3, ![1, 1728, 1]⟩
abbrev S1728x1x1024 : Shape := ⟨3, ![1728, 1, 1024]⟩
abbrev S192x1x1024 : Shape := ⟨3, ![192, 1, 1024]⟩
abbrev S1x192x3072 : Shape := ⟨3, ![1, 192, 3072]⟩
abbrev S1x192x2048 : Shape := ⟨3, ![1, 192, 2048]⟩
abbrev S1x1x192x512 : Shape := ⟨4, ![1, 1, 192, 512]⟩
abbrev S1x4x192x512 : Shape := ⟨4, ![1, 4, 192, 512]⟩
abbrev S1x1x512x768 : Shape := ⟨4, ![1, 1, 512, 768]⟩
abbrev S1x512x768 : Shape := ⟨3, ![1, 512, 768]⟩
abbrev S1x1x768x128 : Shape := ⟨4, ![1, 1, 768, 128]⟩
abbrev S1x4x768x128 : Shape := ⟨4, ![1, 4, 768, 128]⟩
abbrev S1x1x128x3072 : Shape := ⟨4, ![1, 1, 128, 3072]⟩
abbrev S1x128x3072 : Shape := ⟨3, ![1, 128, 3072]⟩
abbrev S1x3072x64 : Shape := ⟨3, ![1, 3072, 64]⟩
abbrev S1x1x64 : Shape := ⟨3, ![1, 1, 64]⟩
abbrev S1x1x3072x16 : Shape := ⟨4, ![1, 1, 3072, 16]⟩
abbrev S1x4x3072x16 : Shape := ⟨4, ![1, 4, 3072, 16]⟩

abbrev nBuf : Space → Nat
  | .hbm => 1756
  | .vmem => 0
  | .smem => 0
  | _ => 0

abbrev hbmTy0_0 (i : Nat) : BufTy := match i % 128 with
  | 0 => ⟨S1x4x16x3072, .f32⟩
  | 1 => ⟨S432x512, .f32⟩
  | 2 => ⟨S512, .f32⟩
  | 3 => ⟨S1920x2048, .f32⟩
  | 4 => ⟨S2048, .f32⟩
  | 5 => ⟨S3072x2048, .f32⟩
  | 6 => ⟨S2048, .f32⟩
  | 7 => ⟨S1920x512, .f32⟩
  | 8 => ⟨S512, .f32⟩
  | 9 => ⟨S432x64, .f32⟩
  | 10 => ⟨S64, .f32⟩
  | 11 => ⟨S27648, .i32⟩
  | 12 => ⟨S27648, .i32⟩
  | 13 => ⟨S27648, .f32⟩
  | 14 => ⟨S6912, .i32⟩
  | 15 => ⟨S6912, .i32⟩
  | 16 => ⟨S6912, .f32⟩
  | 17 => ⟨S1728, .i32⟩
  | 18 => ⟨S1728, .i32⟩
  | 19 => ⟨S1728, .f32⟩
  | 20 => ⟨S_, .f32⟩
  | 21 => ⟨S1x3072x128, .f32⟩
  | 22 => ⟨S_, .f32⟩
  | 23 => ⟨S1x3072x128, .f32⟩
  | 24 => ⟨S1x1x16x3072, .f32⟩
  | 25 => ⟨S1x16x3072, .f32⟩
  | 26 => ⟨S1x3072x16, .f32⟩
  | 27 => ⟨S1x3072x144, .f32⟩
  | 28 => ⟨S_, .i32⟩
  | 29 => ⟨S27648, .i32⟩
  | 30 => ⟨S27648, .i1⟩
  | 31 => ⟨S_, .i32⟩
  | 32 => ⟨S27648, .i32⟩
  | 33 => ⟨S27648, .i32⟩
  | 34 => ⟨S27648, .i32⟩
  | 35 => ⟨S27648x1, .i32⟩
  | 36 => ⟨S1x27648x144, .f32⟩
  | 37 => ⟨S1x27648x1, .f32⟩
  | 38 => ⟨S1x27648x144, .f32⟩
  | 39 => ⟨S1x27648x144, .f32⟩
  | 40 => ⟨S27648x1x144, .f32⟩
  | 41 => ⟨S_, .f32⟩
  | 42 => ⟨S3072x1x144, .f32⟩
  | 43 => ⟨S27648x1, .i32⟩
  | 44 => ⟨S3072x1x144, .f32⟩
  | 45 => ⟨S1x3072x144, .f32⟩
  | 46 => ⟨S_, .i32⟩
  | 47 => ⟨S27648, .i32⟩
  | 48 => ⟨S27648, .i1⟩
  | 49 => ⟨S_, .i32⟩
  | 50 => ⟨S27648, .i32⟩
  | 51 => ⟨S27648, .i32⟩
  | 52 => ⟨S27648, .i32⟩
  | 53 => ⟨S27648x1, .i32⟩
  | 54 => ⟨S1x27648x144, .f32⟩
  | 55 => ⟨S1x27648x1, .f32⟩
  | 56 => ⟨S1x27648x144, .f32⟩
  | 57 => ⟨S1x27648x144, .f32⟩
  | 58 => ⟨S27648x1x144, .f32⟩
  | 59 => ⟨S_, .f32⟩
  | 60 => ⟨S3072x1x144, .f32⟩
  | 61 => ⟨S27648x1, .i32⟩
  | 62 => ⟨S3072x1x144, .f32⟩
  | 63 => ⟨S1x3072x144, .f32⟩
  | 64 => ⟨S_, .f32⟩
  | 65 => ⟨S1x3072x144, .f32⟩
  | 66 => ⟨S1x3072x144, .f32⟩
  | 67 => ⟨S1x3072x144, .f32⟩
  | 68 => ⟨S1x3072x432, .f32⟩
  | 69 => ⟨S1x3072x512, .f32⟩
  | 70 => ⟨S1x1x512, .f32⟩
  | 71 => ⟨S1x3072x512, .f32⟩
  | 72 => ⟨S1x3072x512, .f32⟩
  | 73 => ⟨S1x3072x128, .f32⟩
  | 74 => ⟨S1x3072x128, .f32⟩
  | 75 => ⟨S1x3072x128, .f32⟩
  | 76 => ⟨S1x3072x128, .f32⟩
  | 77 => ⟨S1x3072x128, .f32⟩
  | 78 => ⟨S1x3072x128, .f32⟩
  | 79 => ⟨S_, .f32⟩
  | 80 => ⟨S1x3072x128, .f32⟩
  | 81 => ⟨S1x3072x128, .f32⟩
  | 82 => ⟨S_, .f32⟩
  | 83 => ⟨S1x3072x128, .f32⟩
  | 84 => ⟨S1x3072x128, .f32⟩
  | 85 => ⟨S1x3072x128, .f32⟩
  | 86 => ⟨S1x3072x128, .f32⟩
  | 87 => ⟨S_, .f32⟩
  | 88 => ⟨S1x3072x128, .f32⟩
  | 89 => ⟨S1x3072x128, .f32⟩
  | 90 => ⟨S_, .f32⟩
  | 91 => ⟨S1x3072x128, .f32⟩
  | 92 => ⟨S1x3072x128, .f32⟩
  | 93 => ⟨S1x3072x128, .f32⟩
  | 94 => ⟨S1x3072x128, .f32⟩
  | 95 => ⟨S_, .f32⟩
  | 96 => ⟨S1x3072x128, .f32⟩
  | 97 => ⟨S1x3072x128, .f32⟩
  | 98 => ⟨S_, .f32⟩
  | 99 => ⟨S1x3072x128, .f32⟩
  | 100 => ⟨S1x3072x128, .f32⟩
  | 101 => ⟨S1x3072x128, .f32⟩
  | 102 => ⟨S1x3072x128, .f32⟩
  | 103 => ⟨S1x3072x128, .f32⟩
  | 104 => ⟨S1x3072x128, .f32⟩
  | 105 => ⟨S1x3072x128, .f32⟩
  | 106 => ⟨S1x3072x128, .f32⟩
  | 107 => ⟨S1x1x16x3072, .f32⟩
  | 108 => ⟨S1x16x3072, .f32⟩
  | 109 => ⟨S1x3072x16, .f32⟩
  | 110 => ⟨S1x3072x144, .f32⟩
  | 111 => ⟨S_, .i32⟩
  | 112 => ⟨S27648, .i32⟩
  | 113 => ⟨S27648, .i1⟩
  | 114 => ⟨S_, .i32⟩
  | 115 => ⟨S27648, .i32⟩
  | 116 => ⟨S27648, .i32⟩
  | 117 => ⟨S27648, .i32⟩
  | 118 => ⟨S27648x1, .i32⟩
  | 119 => ⟨S1x27648x144, .f32⟩
  | 120 => ⟨S1x27648x1, .f32⟩
  | 121 => ⟨S1x27648x144, .f32⟩
  | 122 => ⟨S1x27648x144, .f32⟩
  | 123 => ⟨S27648x1x144, .f32⟩
  | 124 => ⟨S_, .f32⟩
  | 125 => ⟨S3072x1x144, .f32⟩
  | 126 => ⟨S27648x1, .i32⟩
  | 127 => ⟨S3072x1x144, .f32⟩
  | _ => ⟨S1x4x16x3072, .f32⟩

abbrev hbmTy0_1 (i : Nat) : BufTy := match i % 128 with
  | 0 => ⟨S1x3072x144, .f32⟩
  | 1 => ⟨S_, .i32⟩
  | 2 => ⟨S27648, .i32⟩
  | 3 => ⟨S27648, .i1⟩
  | 4 => ⟨S_, .i32⟩
  | 5 => ⟨S27648, .i32⟩
  | 6 => ⟨S27648, .i32⟩
  | 7 => ⟨S27648, .i32⟩
  | 8 => ⟨S27648x1, .i32⟩
  | 9 => ⟨S1x27648x144, .f32⟩
  | 10 => ⟨S1x27648x1, .f32⟩
  | 11 => ⟨S1x27648x144, .f32⟩
  | 12 => ⟨S1x27648x144, .f32⟩
  | 13 => ⟨S27648x1x144, .f32⟩
  | 14 => ⟨S_, .f32⟩
  | 15 => ⟨S3072x1x144, .f32⟩
  | 16 => ⟨S27648x1, .i32⟩
  | 17 => ⟨S3072x1x144, .f32⟩
  | 18 => ⟨S1x3072x144, .f32⟩
  | 19 => ⟨S_, .f32⟩
  | 20 => ⟨S1x3072x144, .f32⟩
  | 21 => ⟨S1x3072x144, .f32⟩
  | 22 => ⟨S1x3072x144, .f32⟩
  | 23 => ⟨S1x3072x432, .f32⟩
  | 24 => ⟨S1x3072x512, .f32⟩
  | 25 => ⟨S1x1x512, .f32⟩
  | 26 => ⟨S1x3072x512, .f32⟩
  | 27 => ⟨S1x3072x512, .f32⟩
  | 28 => ⟨S1x3072x128, .f32⟩
  | 29 => ⟨S1x3072x128, .f32⟩
  | 30 => ⟨S1x3072x128, .f32⟩
  | 31 => ⟨S1x3072x128, .f32⟩
  | 32 => ⟨S1x3072x128, .f32⟩
  | 33 => ⟨S1x3072x128, .f32⟩
  | 34 => ⟨S_, .f32⟩
  | 35 => ⟨S1x3072x128, .f32⟩
  | 36 => ⟨S1x3072x128, .f32⟩
  | 37 => ⟨S_, .f32⟩
  | 38 => ⟨S1x3072x128, .f32⟩
  | 39 => ⟨S1x3072x128, .f32⟩
  | 40 => ⟨S1x3072x128, .f32⟩
  | 41 => ⟨S1x3072x128, .f32⟩
  | 42 => ⟨S_, .f32⟩
  | 43 => ⟨S1x3072x128, .f32⟩
  | 44 => ⟨S1x3072x128, .f32⟩
  | 45 => ⟨S_, .f32⟩
  | 46 => ⟨S1x3072x128, .f32⟩
  | 47 => ⟨S1x3072x128, .f32⟩
  | 48 => ⟨S1x3072x128, .f32⟩
  | 49 => ⟨S1x3072x128, .f32⟩
  | 50 => ⟨S_, .f32⟩
  | 51 => ⟨S1x3072x128, .f32⟩
  | 52 => ⟨S1x3072x128, .f32⟩
  | 53 => ⟨S_, .f32⟩
  | 54 => ⟨S1x3072x128, .f32⟩
  | 55 => ⟨S1x3072x128, .f32⟩
  | 56 => ⟨S1x3072x128, .f32⟩
  | 57 => ⟨S1x3072x128, .f32⟩
  | 58 => ⟨S1x3072x128, .f32⟩
  | 59 => ⟨S1x3072x128, .f32⟩
  | 60 => ⟨S1x3072x128, .f32⟩
  | 61 => ⟨S1x3072x128, .f32⟩
  | 62 => ⟨S1x1x16x3072, .f32⟩
  | 63 => ⟨S1x16x3072, .f32⟩
  | 64 => ⟨S1x3072x16, .f32⟩
  | 65 => ⟨S1x3072x144, .f32⟩
  | 66 => ⟨S_, .i32⟩
  | 67 => ⟨S27648, .i32⟩
  | 68 => ⟨S27648, .i1⟩
  | 69 => ⟨S_, .i32⟩
  | 70 => ⟨S27648, .i32⟩
  | 71 => ⟨S27648, .i32⟩
  | 72 => ⟨S27648, .i32⟩
  | 73 => ⟨S27648x1, .i32⟩
  | 74 => ⟨S1x27648x144, .f32⟩
  | 75 => ⟨S1x27648x1, .f32⟩
  | 76 => ⟨S1x27648x144, .f32⟩
  | 77 => ⟨S1x27648x144, .f32⟩
  | 78 => ⟨S27648x1x144, .f32⟩
  | 79 => ⟨S_, .f32⟩
  | 80 => ⟨S3072x1x144, .f32⟩
  | 81 => ⟨S27648x1, .i32⟩
  | 82 => ⟨S3072x1x144, .f32⟩
  | 83 => ⟨S1x3072x144, .f32⟩
  | 84 => ⟨S_, .i32⟩
  | 85 => ⟨S27648, .i32⟩
  | 86 => ⟨S27648, .i1⟩
  | 87 => ⟨S_, .i32⟩
  | 88 => ⟨S27648, .i32⟩
  | 89 => ⟨S27648, .i32⟩
  | 90 => ⟨S27648, .i32⟩
  | 91 => ⟨S27648x1, .i32⟩
  | 92 => ⟨S1x27648x144, .f32⟩
  | 93 => ⟨S1x27648x1, .f32⟩
  | 94 => ⟨S1x27648x144, .f32⟩
  | 95 => ⟨S1x27648x144, .f32⟩
  | 96 => ⟨S27648x1x144, .f32⟩
  | 97 => ⟨S_, .f32⟩
  | 98 => ⟨S3072x1x144, .f32⟩
  | 99 => ⟨S27648x1, .i32⟩
  | 100 => ⟨S3072x1x144, .f32⟩
  | 101 => ⟨S1x3072x144, .f32⟩
  | 102 => ⟨S_, .f32⟩
  | 103 => ⟨S1x3072x144, .f32⟩
  | 104 => ⟨S1x3072x144, .f32⟩
  | 105 => ⟨S1x3072x144, .f32⟩
  | 106 => ⟨S1x3072x432, .f32⟩
  | 107 => ⟨S1x3072x512, .f32⟩
  | 108 => ⟨S1x1x512, .f32⟩
  | 109 => ⟨S1x3072x512, .f32⟩
  | 110 => ⟨S1x3072x512, .f32⟩
  | 111 => ⟨S1x3072x128, .f32⟩
  | 112 => ⟨S1x3072x128, .f32⟩
  | 113 => ⟨S1x3072x128, .f32⟩
  | 114 => ⟨S1x3072x128, .f32⟩
  | 115 => ⟨S1x3072x128, .f32⟩
  | 116 => ⟨S1x3072x128, .f32⟩
  | 117 => ⟨S_, .f32⟩
  | 118 => ⟨S1x3072x128, .f32⟩
  | 119 => ⟨S1x3072x128, .f32⟩
  | 120 => ⟨S_, .f32⟩
  | 121 => ⟨S1x3072x128, .f32⟩
  | 122 => ⟨S1x3072x128, .f32⟩
  | 123 => ⟨S1x3072x128, .f32⟩
  | 124 => ⟨S1x3072x128, .f32⟩
  | 125 => ⟨S_, .f32⟩
  | 126 => ⟨S1x3072x128, .f32⟩
  | 127 => ⟨S1x3072x128, .f32⟩
  | _ => ⟨S1x4x16x3072, .f32⟩

abbrev hbmTy0_2 (i : Nat) : BufTy := match i % 128 with
  | 0 => ⟨S_, .f32⟩
  | 1 => ⟨S1x3072x128, .f32⟩
  | 2 => ⟨S1x3072x128, .f32⟩
  | 3 => ⟨S1x3072x128, .f32⟩
  | 4 => ⟨S1x3072x128, .f32⟩
  | 5 => ⟨S_, .f32⟩
  | 6 => ⟨S1x3072x128, .f32⟩
  | 7 => ⟨S1x3072x128, .f32⟩
  | 8 => ⟨S_, .f32⟩
  | 9 => ⟨S1x3072x128, .f32⟩
  | 10 => ⟨S1x3072x128, .f32⟩
  | 11 => ⟨S1x3072x128, .f32⟩
  | 12 => ⟨S1x3072x128, .f32⟩
  | 13 => ⟨S1x3072x128, .f32⟩
  | 14 => ⟨S1x3072x128, .f32⟩
  | 15 => ⟨S1x3072x128, .f32⟩
  | 16 => ⟨S1x3072x128, .f32⟩
  | 17 => ⟨S1x1x16x3072, .f32⟩
  | 18 => ⟨S1x16x3072, .f32⟩
  | 19 => ⟨S1x3072x16, .f32⟩
  | 20 => ⟨S1x3072x144, .f32⟩
  | 21 => ⟨S_, .i32⟩
  | 22 => ⟨S27648, .i32⟩
  | 23 => ⟨S27648, .i1⟩
  | 24 => ⟨S_, .i32⟩
  | 25 => ⟨S27648, .i32⟩
  | 26 => ⟨S27648, .i32⟩
  | 27 => ⟨S27648, .i32⟩
  | 28 => ⟨S27648x1, .i32⟩
  | 29 => ⟨S1x27648x144, .f32⟩
  | 30 => ⟨S1x27648x1, .f32⟩
  | 31 => ⟨S1x27648x144, .f32⟩
  | 32 => ⟨S1x27648x144, .f32⟩
  | 33 => ⟨S27648x1x144, .f32⟩
  | 34 => ⟨S_, .f32⟩
  | 35 => ⟨S3072x1x144, .f32⟩
  | 36 => ⟨S27648x1, .i32⟩
  | 37 => ⟨S3072x1x144, .f32⟩
  | 38 => ⟨S1x3072x144, .f32⟩
  | 39 => ⟨S_, .i32⟩
  | 40 => ⟨S27648, .i32⟩
  | 41 => ⟨S27648, .i1⟩
  | 42 => ⟨S_, .i32⟩
  | 43 => ⟨S27648, .i32⟩
  | 44 => ⟨S27648, .i32⟩
  | 45 => ⟨S27648, .i32⟩
  | 46 => ⟨S27648x1, .i32⟩
  | 47 => ⟨S1x27648x144, .f32⟩
  | 48 => ⟨S1x27648x1, .f32⟩
  | 49 => ⟨S1x27648x144, .f32⟩
  | 50 => ⟨S1x27648x144, .f32⟩
  | 51 => ⟨S27648x1x144, .f32⟩
  | 52 => ⟨S_, .f32⟩
  | 53 => ⟨S3072x1x144, .f32⟩
  | 54 => ⟨S27648x1, .i32⟩
  | 55 => ⟨S3072x1x144, .f32⟩
  | 56 => ⟨S1x3072x144, .f32⟩
  | 57 => ⟨S_, .f32⟩
  | 58 => ⟨S1x3072x144, .f32⟩
  | 59 => ⟨S1x3072x144, .f32⟩
  | 60 => ⟨S1x3072x144, .f32⟩
  | 61 => ⟨S1x3072x432, .f32⟩
  | 62 => ⟨S1x3072x512, .f32⟩
  | 63 => ⟨S1x1x512, .f32⟩
  | 64 => ⟨S1x3072x512, .f32⟩
  | 65 => ⟨S1x3072x512, .f32⟩
  | 66 => ⟨S1x3072x128, .f32⟩
  | 67 => ⟨S1x3072x128, .f32⟩
  | 68 => ⟨S1x3072x128, .f32⟩
  | 69 => ⟨S1x3072x128, .f32⟩
  | 70 => ⟨S1x3072x128, .f32⟩
  | 71 => ⟨S1x3072x128, .f32⟩
  | 72 => ⟨S_, .f32⟩
  | 73 => ⟨S1x3072x128, .f32⟩
  | 74 => ⟨S1x3072x128, .f32⟩
  | 75 => ⟨S_, .f32⟩
  | 76 => ⟨S1x3072x128, .f32⟩
  | 77 => ⟨S1x3072x128, .f32⟩
  | 78 => ⟨S1x3072x128, .f32⟩
  | 79 => ⟨S1x3072x128, .f32⟩
  | 80 => ⟨S_, .f32⟩
  | 81 => ⟨S1x3072x128, .f32⟩
  | 82 => ⟨S1x3072x128, .f32⟩
  | 83 => ⟨S_, .f32⟩
  | 84 => ⟨S1x3072x128, .f32⟩
  | 85 => ⟨S1x3072x128, .f32⟩
  | 86 => ⟨S1x3072x128, .f32⟩
  | 87 => ⟨S1x3072x128, .f32⟩
  | 88 => ⟨S_, .f32⟩
  | 89 => ⟨S1x3072x128, .f32⟩
  | 90 => ⟨S1x3072x128, .f32⟩
  | 91 => ⟨S_, .f32⟩
  | 92 => ⟨S1x3072x128, .f32⟩
  | 93 => ⟨S1x3072x128, .f32⟩
  | 94 => ⟨S1x3072x128, .f32⟩
  | 95 => ⟨S1x3072x128, .f32⟩
  | 96 => ⟨S1x3072x128, .f32⟩
  | 97 => ⟨S1x3072x128, .f32⟩
  | 98 => ⟨S1x3072x128, .f32⟩
  | 99 => ⟨S1x3072x128, .f32⟩
  | 100 => ⟨S1x1x3072x128, .f32⟩
  | 101 => ⟨S1x1x3072x128, .f32⟩
  | 102 => ⟨S1x1x3072x128, .f32⟩
  | 103 => ⟨S1x1x3072x128, .f32⟩
  | 104 => ⟨S1x4x3072x128, .f32⟩
  | 105 => ⟨S1x4x128x3072, .f32⟩
  | 106 => ⟨S_, .f32⟩
  | 107 => ⟨S1x4x128x3072, .f32⟩
  | 108 => ⟨S1x4x128x3072, .f32⟩
  | 109 => ⟨S1x4x128x768x4, .f32⟩
  | 110 => ⟨S_, .f32⟩
  | 111 => ⟨S1x4x128x768, .f32⟩
  | 112 => ⟨S_, .f32⟩
  | 113 => ⟨S1x768x512, .f32⟩
  | 114 => ⟨S_, .f32⟩
  | 115 => ⟨S1x768x512, .f32⟩
  | 116 => ⟨S1x1x128x768, .f32⟩
  | 117 => ⟨S1x128x768, .f32⟩
  | 118 => ⟨S1x768x128, .f32⟩
  | 119 => ⟨S1x768x640, .f32⟩
  | 120 => ⟨S_, .i32⟩
  | 121 => ⟨S6912, .i32⟩
  | 122 => ⟨S6912, .i1⟩
  | 123 => ⟨S_, .i32⟩
  | 124 => ⟨S6912, .i32⟩
  | 125 => ⟨S6912, .i32⟩
  | 126 => ⟨S6912, .i32⟩
  | 127 => ⟨S6912x1, .i32⟩
  | _ => ⟨S1x4x16x3072, .f32⟩

abbrev hbmTy0_3 (i : Nat) : BufTy := match i % 128 with
  | 0 => ⟨S1x6912x640, .f32⟩
  | 1 => ⟨S1x6912x1, .f32⟩
  | 2 => ⟨S1x6912x640, .f32⟩
  | 3 => ⟨S1x6912x640, .f32⟩
  | 4 => ⟨S6912x1x640, .f32⟩
  | 5 => ⟨S_, .f32⟩
  | 6 => ⟨S768x1x640, .f32⟩
  | 7 => ⟨S6912x1, .i32⟩
  | 8 => ⟨S768x1x640, .f32⟩
  | 9 => ⟨S1x768x640, .f32⟩
  | 10 => ⟨S_, .i32⟩
  | 11 => ⟨S6912, .i32⟩
  | 12 => ⟨S6912, .i1⟩
  | 13 => ⟨S_, .i32⟩
  | 14 => ⟨S6912, .i32⟩
  | 15 => ⟨S6912, .i32⟩
  | 16 => ⟨S6912, .i32⟩
  | 17 => ⟨S6912x1, .i32⟩
  | 18 => ⟨S1x6912x640, .f32⟩
  | 19 => ⟨S1x6912x1, .f32⟩
  | 20 => ⟨S1x6912x640, .f32⟩
  | 21 => ⟨S1x6912x640, .f32⟩
  | 22 => ⟨S6912x1x640, .f32⟩
  | 23 => ⟨S_, .f32⟩
  | 24 => ⟨S768x1x640, .f32⟩
  | 25 => ⟨S6912x1, .i32⟩
  | 26 => ⟨S768x1x640, .f32⟩
  | 27 => ⟨S1x768x640, .f32⟩
  | 28 => ⟨S_, .f32⟩
  | 29 => ⟨S1x768x640, .f32⟩
  | 30 => ⟨S1x768x640, .f32⟩
  | 31 => ⟨S1x768x640, .f32⟩
  | 32 => ⟨S1x768x1920, .f32⟩
  | 33 => ⟨S1x768x2048, .f32⟩
  | 34 => ⟨S1x1x2048, .f32⟩
  | 35 => ⟨S1x768x2048, .f32⟩
  | 36 => ⟨S1x768x2048, .f32⟩
  | 37 => ⟨S1x768x512, .f32⟩
  | 38 => ⟨S1x768x512, .f32⟩
  | 39 => ⟨S1x768x512, .f32⟩
  | 40 => ⟨S1x768x512, .f32⟩
  | 41 => ⟨S1x768x512, .f32⟩
  | 42 => ⟨S1x768x512, .f32⟩
  | 43 => ⟨S_, .f32⟩
  | 44 => ⟨S1x768x512, .f32⟩
  | 45 => ⟨S1x768x512, .f32⟩
  | 46 => ⟨S_, .f32⟩
  | 47 => ⟨S1x768x512, .f32⟩
  | 48 => ⟨S1x768x512, .f32⟩
  | 49 => ⟨S1x768x512, .f32⟩
  | 50 => ⟨S1x768x512, .f32⟩
  | 51 => ⟨S_, .f32⟩
  | 52 => ⟨S1x768x512, .f32⟩
  | 53 => ⟨S1x768x512, .f32⟩
  | 54 => ⟨S_, .f32⟩
  | 55 => ⟨S1x768x512, .f32⟩
  | 56 => ⟨S1x768x512, .f32⟩
  | 57 => ⟨S1x768x512, .f32⟩
  | 58 => ⟨S1x768x512, .f32⟩
  | 59 => ⟨S_, .f32⟩
  | 60 => ⟨S1x768x512, .f32⟩
  | 61 => ⟨S1x768x512, .f32⟩
  | 62 => ⟨S_, .f32⟩
  | 63 => ⟨S1x768x512, .f32⟩
  | 64 => ⟨S1x768x512, .f32⟩
  | 65 => ⟨S1x768x512, .f32⟩
  | 66 => ⟨S1x768x512, .f32⟩
  | 67 => ⟨S1x768x512, .f32⟩
  | 68 => ⟨S1x768x512, .f32⟩
  | 69 => ⟨S1x768x512, .f32⟩
  | 70 => ⟨S1x768x512, .f32⟩
  | 71 => ⟨S1x1x128x768, .f32⟩
  | 72 => ⟨S1x128x768, .f32⟩
  | 73 => ⟨S1x768x128, .f32⟩
  | 74 => ⟨S1x768x640, .f32⟩
  | 75 => ⟨S_, .i32⟩
  | 76 => ⟨S6912, .i32⟩
  | 77 => ⟨S6912, .i1⟩
  | 78 => ⟨S_, .i32⟩
  | 79 => ⟨S6912, .i32⟩
  | 80 => ⟨S6912, .i32⟩
  | 81 => ⟨S6912, .i32⟩
  | 82 => ⟨S6912x1, .i32⟩
  | 83 => ⟨S1x6912x640, .f32⟩
  | 84 => ⟨S1x6912x1, .f32⟩
  | 85 => ⟨S1x6912x640, .f32⟩
  | 86 => ⟨S1x6912x640, .f32⟩
  | 87 => ⟨S6912x1x640, .f32⟩
  | 88 => ⟨S_, .f32⟩
  | 89 => ⟨S768x1x640, .f32⟩
  | 90 => ⟨S6912x1, .i32⟩
  | 91 => ⟨S768x1x640, .f32⟩
  | 92 => ⟨S1x768x640, .f32⟩
  | 93 => ⟨S_, .i32⟩
  | 94 => ⟨S6912, .i32⟩
  | 95 => ⟨S6912, .i1⟩
  | 96 => ⟨S_, .i32⟩
  | 97 => ⟨S6912, .i32⟩
  | 98 => ⟨S6912, .i32⟩
  | 99 => ⟨S6912, .i32⟩
  | 100 => ⟨S6912x1, .i32⟩
  | 101 => ⟨S1x6912x640, .f32⟩
  | 102 => ⟨S1x6912x1, .f32⟩
  | 103 => ⟨S1x6912x640, .f32⟩
  | 104 => ⟨S1x6912x640, .f32⟩
  | 105 => ⟨S6912x1x640, .f32⟩
  | 106 => ⟨S_, .f32⟩
  | 107 => ⟨S768x1x640, .f32⟩
  | 108 => ⟨S6912x1, .i32⟩
  | 109 => ⟨S768x1x640, .f32⟩
  | 110 => ⟨S1x768x640, .f32⟩
  | 111 => ⟨S_, .f32⟩
  | 112 => ⟨S1x768x640, .f32⟩
  | 113 => ⟨S1x768x640, .f32⟩
  | 114 => ⟨S1x768x640, .f32⟩
  | 115 => ⟨S1x768x1920, .f32⟩
  | 116 => ⟨S1x768x2048, .f32⟩
  | 117 => ⟨S1x1x2048, .f32⟩
  | 118 => ⟨S1x768x2048, .f32⟩
  | 119 => ⟨S1x768x2048, .f32⟩
  | 120 => ⟨S1x768x512, .f32⟩
  | 121 => ⟨S1x768x512, .f32⟩
  | 122 => ⟨S1x768x512, .f32⟩
  | 123 => ⟨S1x768x512, .f32⟩
  | 124 => ⟨S1x768x512, .f32⟩
  | 125 => ⟨S1x768x512, .f32⟩
  | 126 => ⟨S_, .f32⟩
  | 127 => ⟨S1x768x512, .f32⟩
  | _ => ⟨S1x4x16x3072, .f32⟩

abbrev hbmTy0_4 (i : Nat) : BufTy := match i % 128 with
  | 0 => ⟨S1x768x512, .f32⟩
  | 1 => ⟨S_, .f32⟩
  | 2 => ⟨S1x768x512, .f32⟩
  | 3 => ⟨S1x768x512, .f32⟩
  | 4 => ⟨S1x768x512, .f32⟩
  | 5 => ⟨S1x768x512, .f32⟩
  | 6 => ⟨S_, .f32⟩
  | 7 => ⟨S1x768x512, .f32⟩
  | 8 => ⟨S1x768x512, .f32⟩
  | 9 => ⟨S_, .f32⟩
  | 10 => ⟨S1x768x512, .f32⟩
  | 11 => ⟨S1x768x512, .f32⟩
  | 12 => ⟨S1x768x512, .f32⟩
  | 13 => ⟨S1x768x512, .f32⟩
  | 14 => ⟨S_, .f32⟩
  | 15 => ⟨S1x768x512, .f32⟩
  | 16 => ⟨S1x768x512, .f32⟩
  | 17 => ⟨S_, .f32⟩
  | 18 => ⟨S1x768x512, .f32⟩
  | 19 => ⟨S1x768x512, .f32⟩
  | 20 => ⟨S1x768x512, .f32⟩
  | 21 => ⟨S1x768x512, .f32⟩
  | 22 => ⟨S1x768x512, .f32⟩
  | 23 => ⟨S1x768x512, .f32⟩
  | 24 => ⟨S1x768x512, .f32⟩
  | 25 => ⟨S1x768x512, .f32⟩
  | 26 => ⟨S1x1x128x768, .f32⟩
  | 27 => ⟨S1x128x768, .f32⟩
  | 28 => ⟨S1x768x128, .f32⟩
  | 29 => ⟨S1x768x640, .f32⟩
  | 30 => ⟨S_, .i32⟩
  | 31 => ⟨S6912, .i32⟩
  | 32 => ⟨S6912, .i1⟩
  | 33 => ⟨S_, .i32⟩
  | 34 => ⟨S6912, .i32⟩
  | 35 => ⟨S6912, .i32⟩
  | 36 => ⟨S6912, .i32⟩
  | 37 => ⟨S6912x1, .i32⟩
  | 38 => ⟨S1x6912x640, .f32⟩
  | 39 => ⟨S1x6912x1, .f32⟩
  | 40 => ⟨S1x6912x640, .f32⟩
  | 41 => ⟨S1x6912x640, .f32⟩
  | 42 => ⟨S6912x1x640, .f32⟩
  | 43 => ⟨S_, .f32⟩
  | 44 => ⟨S768x1x640, .f32⟩
  | 45 => ⟨S6912x1, .i32⟩
  | 46 => ⟨S768x1x640, .f32⟩
  | 47 => ⟨S1x768x640, .f32⟩
  | 48 => ⟨S_, .i32⟩
  | 49 => ⟨S6912, .i32⟩
  | 50 => ⟨S6912, .i1⟩
  | 51 => ⟨S_, .i32⟩
  | 52 => ⟨S6912, .i32⟩
  | 53 => ⟨S6912, .i32⟩
  | 54 => ⟨S6912, .i32⟩
  | 55 => ⟨S6912x1, .i32⟩
  | 56 => ⟨S1x6912x640, .f32⟩
  | 57 => ⟨S1x6912x1, .f32⟩
  | 58 => ⟨S1x6912x640, .f32⟩
  | 59 => ⟨S1x6912x640, .f32⟩
  | 60 => ⟨S6912x1x640, .f32⟩
  | 61 => ⟨S_, .f32⟩
  | 62 => ⟨S768x1x640, .f32⟩
  | 63 => ⟨S6912x1, .i32⟩
  | 64 => ⟨S768x1x640, .f32⟩
  | 65 => ⟨S1x768x640, .f32⟩
  | 66 => ⟨S_, .f32⟩
  | 67 => ⟨S1x768x640, .f32⟩
  | 68 => ⟨S1x768x640, .f32⟩
  | 69 => ⟨S1x768x640, .f32⟩
  | 70 => ⟨S1x768x1920, .f32⟩
  | 71 => ⟨S1x768x2048, .f32⟩
  | 72 => ⟨S1x1x2048, .f32⟩
  | 73 => ⟨S1x768x2048, .f32⟩
  | 74 => ⟨S1x768x2048, .f32⟩
  | 75 => ⟨S1x768x512, .f32⟩
  | 76 => ⟨S1x768x512, .f32⟩
  | 77 => ⟨S1x768x512, .f32⟩
  | 78 => ⟨S1x768x512, .f32⟩
  | 79 => ⟨S1x768x512, .f32⟩
  | 80 => ⟨S1x768x512, .f32⟩
  | 81 => ⟨S_, .f32⟩
  | 82 => ⟨S1x768x512, .f32⟩
  | 83 => ⟨S1x768x512, .f32⟩
  | 84 => ⟨S_, .f32⟩
  | 85 => ⟨S1x768x512, .f32⟩
  | 86 => ⟨S1x768x512, .f32⟩
  | 87 => ⟨S1x768x512, .f32⟩
  | 88 => ⟨S1x768x512, .f32⟩
  | 89 => ⟨S_, .f32⟩
  | 90 => ⟨S1x768x512, .f32⟩
  | 91 => ⟨S1x768x512, .f32⟩
  | 92 => ⟨S_, .f32⟩
  | 93 => ⟨S1x768x512, .f32⟩
  | 94 => ⟨S1x768x512, .f32⟩
  | 95 => ⟨S1x768x512, .f32⟩
  | 96 => ⟨S1x768x512, .f32⟩
  | 97 => ⟨S_, .f32⟩
  | 98 => ⟨S1x768x512, .f32⟩
  | 99 => ⟨S1x768x512, .f32⟩
  | 100 => ⟨S_, .f32⟩
  | 101 => ⟨S1x768x512, .f32⟩
  | 102 => ⟨S1x768x512, .f32⟩
  | 103 => ⟨S1x768x512, .f32⟩
  | 104 => ⟨S1x768x512, .f32⟩
  | 105 => ⟨S1x768x512, .f32⟩
  | 106 => ⟨S1x768x512, .f32⟩
  | 107 => ⟨S1x768x512, .f32⟩
  | 108 => ⟨S1x768x512, .f32⟩
  | 109 => ⟨S1x1x128x768, .f32⟩
  | 110 => ⟨S1x128x768, .f32⟩
  | 111 => ⟨S1x768x128, .f32⟩
  | 112 => ⟨S1x768x640, .f32⟩
  | 113 => ⟨S_, .i32⟩
  | 114 => ⟨S6912, .i32⟩
  | 115 => ⟨S6912, .i1⟩
  | 116 => ⟨S_, .i32⟩
  | 117 => ⟨S6912, .i32⟩
  | 118 => ⟨S6912, .i32⟩
  | 119 => ⟨S6912, .i32⟩
  | 120 => ⟨S6912x1, .i32⟩
  | 121 => ⟨S1x6912x640, .f32⟩
  | 122 => ⟨S1x6912x1, .f32⟩
  | 123 => ⟨S1x6912x640, .f32⟩
  | 124 => ⟨S1x6912x640, .f32⟩
  | 125 => ⟨S6912x1x640, .f32⟩
  | 126 => ⟨S_, .f32⟩
  | 127 => ⟨S768x1x640, .f32⟩
  | _ => ⟨S1x4x16x3072, .f32⟩

abbrev hbmTy0_5 (i : Nat) : BufTy := match i % 128 with
  | 0 => ⟨S6912x1, .i32⟩
  | 1 => ⟨S768x1x640, .f32⟩
  | 2 => ⟨S1x768x640, .f32⟩
  | 3 => ⟨S_, .i32⟩
  | 4 => ⟨S6912, .i32⟩
  | 5 => ⟨S6912, .i1⟩
  | 6 => ⟨S_, .i32⟩
  | 7 => ⟨S6912, .i32⟩
  | 8 => ⟨S6912, .i32⟩
  | 9 => ⟨S6912, .i32⟩
  | 10 => ⟨S6912x1, .i32⟩
  | 11 => ⟨S1x6912x640, .f32⟩
  | 12 => ⟨S1x6912x1, .f32⟩
  | 13 => ⟨S1x6912x640, .f32⟩
  | 14 => ⟨S1x6912x640, .f32⟩
  | 15 => ⟨S6912x1x640, .f32⟩
  | 16 => ⟨S_, .f32⟩
  | 17 => ⟨S768x1x640, .f32⟩
  | 18 => ⟨S6912x1, .i32⟩
  | 19 => ⟨S768x1x640, .f32⟩
  | 20 => ⟨S1x768x640, .f32⟩
  | 21 => ⟨S_, .f32⟩
  | 22 => ⟨S1x768x640, .f32⟩
  | 23 => ⟨S1x768x640, .f32⟩
  | 24 => ⟨S1x768x640, .f32⟩
  | 25 => ⟨S1x768x1920, .f32⟩
  | 26 => ⟨S1x768x2048, .f32⟩
  | 27 => ⟨S1x1x2048, .f32⟩
  | 28 => ⟨S1x768x2048, .f32⟩
  | 29 => ⟨S1x768x2048, .f32⟩
  | 30 => ⟨S1x768x512, .f32⟩
  | 31 => ⟨S1x768x512, .f32⟩
  | 32 => ⟨S1x768x512, .f32⟩
  | 33 => ⟨S1x768x512, .f32⟩
  | 34 => ⟨S1x768x512, .f32⟩
  | 35 => ⟨S1x768x512, .f32⟩
  | 36 => ⟨S_, .f32⟩
  | 37 => ⟨S1x768x512, .f32⟩
  | 38 => ⟨S1x768x512, .f32⟩
  | 39 => ⟨S_, .f32⟩
  | 40 => ⟨S1x768x512, .f32⟩
  | 41 => ⟨S1x768x512, .f32⟩
  | 42 => ⟨S1x768x512, .f32⟩
  | 43 => ⟨S1x768x512, .f32⟩
  | 44 => ⟨S_, .f32⟩
  | 45 => ⟨S1x768x512, .f32⟩
  | 46 => ⟨S1x768x512, .f32⟩
  | 47 => ⟨S_, .f32⟩
  | 48 => ⟨S1x768x512, .f32⟩
  | 49 => ⟨S1x768x512, .f32⟩
  | 50 => ⟨S1x768x512, .f32⟩
  | 51 => ⟨S1x768x512, .f32⟩
  | 52 => ⟨S_, .f32⟩
  | 53 => ⟨S1x768x512, .f32⟩
  | 54 => ⟨S1x768x512, .f32⟩
  | 55 => ⟨S_, .f32⟩
  | 56 => ⟨S1x768x512, .f32⟩
  | 57 => ⟨S1x768x512, .f32⟩
  | 58 => ⟨S1x768x512, .f32⟩
  | 59 => ⟨S1x768x512, .f32⟩
  | 60 => ⟨S1x768x512, .f32⟩
  | 61 => ⟨S1x768x512, .f32⟩
  | 62 => ⟨S1x768x512, .f32⟩
  | 63 => ⟨S1x768x512, .f32⟩
  | 64 => ⟨S1x1x768x512, .f32⟩
  | 65 => ⟨S1x1x768x512, .f32⟩
  | 66 => ⟨S1x1x768x512, .f32⟩
  | 67 => ⟨S1x1x768x512, .f32⟩
  | 68 => ⟨S1x4x768x512, .f32⟩
  | 69 => ⟨S1x4x512x768, .f32⟩
  | 70 => ⟨S_, .f32⟩
  | 71 => ⟨S1x4x512x768, .f32⟩
  | 72 => ⟨S1x4x512x768, .f32⟩
  | 73 => ⟨S1x4x512x192x4, .f32⟩
  | 74 => ⟨S_, .f32⟩
  | 75 => ⟨S1x4x512x192, .f32⟩
  | 76 => ⟨S_, .f32⟩
  | 77 => ⟨S1x192x512, .f32⟩
  | 78 => ⟨S_, .f32⟩
  | 79 => ⟨S1x192x512, .f32⟩
  | 80 => ⟨S1x1x512x192, .f32⟩
  | 81 => ⟨S1x512x192, .f32⟩
  | 82 => ⟨S1x192x512, .f32⟩
  | 83 => ⟨S1x192x1024, .f32⟩
  | 84 => ⟨S_, .i32⟩
  | 85 => ⟨S1728, .i32⟩
  | 86 => ⟨S1728, .i1⟩
  | 87 => ⟨S_, .i32⟩
  | 88 => ⟨S1728, .i32⟩
  | 89 => ⟨S1728, .i32⟩
  | 90 => ⟨S1728, .i32⟩
  | 91 => ⟨S1728x1, .i32⟩
  | 92 => ⟨S1x1728x1024, .f32⟩
  | 93 => ⟨S1x1728x1, .f32⟩
  | 94 => ⟨S1x1728x1024, .f32⟩
  | 95 => ⟨S1x1728x1024, .f32⟩
  | 96 => ⟨S1728x1x1024, .f32⟩
  | 97 => ⟨S_, .f32⟩
  | 98 => ⟨S192x1x1024, .f32⟩
  | 99 => ⟨S1728x1, .i32⟩
  | 100 => ⟨S192x1x1024, .f32⟩
  | 101 => ⟨S1x192x1024, .f32⟩
  | 102 => ⟨S_, .i32⟩
  | 103 => ⟨S1728, .i32⟩
  | 104 => ⟨S1728, .i1⟩
  | 105 => ⟨S_, .i32⟩
  | 106 => ⟨S1728, .i32⟩
  | 107 => ⟨S1728, .i32⟩
  | 108 => ⟨S1728, .i32⟩
  | 109 => ⟨S1728x1, .i32⟩
  | 110 => ⟨S1x1728x1024, .f32⟩
  | 111 => ⟨S1x1728x1, .f32⟩
  | 112 => ⟨S1x1728x1024, .f32⟩
  | 113 => ⟨S1x1728x1024, .f32⟩
  | 114 => ⟨S1728x1x1024, .f32⟩
  | 115 => ⟨S_, .f32⟩
  | 116 => ⟨S192x1x1024, .f32⟩
  | 117 => ⟨S1728x1, .i32⟩
  | 118 => ⟨S192x1x1024, .f32⟩
  | 119 => ⟨S1x192x1024, .f32⟩
  | 120 => ⟨S_, .f32⟩
  | 121 => ⟨S1x192x1024, .f32⟩
  | 122 => ⟨S1x192x1024, .f32⟩
  | 123 => ⟨S1x192x1024, .f32⟩
  | 124 => ⟨S1x192x3072, .f32⟩
  | 125 => ⟨S1x192x2048, .f32⟩
  | 126 => ⟨S1x1x2048, .f32⟩
  | 127 => ⟨S1x192x2048, .f32⟩
  | _ => ⟨S1x4x16x3072, .f32⟩

abbrev hbmTy0_6 (i : Nat) : BufTy := match i % 128 with
  | 0 => ⟨S1x192x2048, .f32⟩
  | 1 => ⟨S1x192x512, .f32⟩
  | 2 => ⟨S1x192x512, .f32⟩
  | 3 => ⟨S1x192x512, .f32⟩
  | 4 => ⟨S1x192x512, .f32⟩
  | 5 => ⟨S1x192x512, .f32⟩
  | 6 => ⟨S1x192x512, .f32⟩
  | 7 => ⟨S_, .f32⟩
  | 8 => ⟨S1x192x512, .f32⟩
  | 9 => ⟨S1x192x512, .f32⟩
  | 10 => ⟨S_, .f32⟩
  | 11 => ⟨S1x192x512, .f32⟩
  | 12 => ⟨S1x192x512, .f32⟩
  | 13 => ⟨S1x192x512, .f32⟩
  | 14 => ⟨S1x192x512, .f32⟩
  | 15 => ⟨S_, .f32⟩
  | 16 => ⟨S1x192x512, .f32⟩
  | 17 => ⟨S1x192x512, .f32⟩
  | 18 => ⟨S_, .f32⟩
  | 19 => ⟨S1x192x512, .f32⟩
  | 20 => ⟨S1x192x512, .f32⟩
  | 21 => ⟨S1x192x512, .f32⟩
  | 22 => ⟨S1x192x512, .f32⟩
  | 23 => ⟨S_, .f32⟩
  | 24 => ⟨S1x192x512, .f32⟩
  | 25 => ⟨S1x192x512, .f32⟩
  | 26 => ⟨S_, .f32⟩
  | 27 => ⟨S1x192x512, .f32⟩
  | 28 => ⟨S1x192x512, .f32⟩
  | 29 => ⟨S1x192x512, .f32⟩
  | 30 => ⟨S1x192x512, .f32⟩
  | 31 => ⟨S1x192x512, .f32⟩
  | 32 => ⟨S1x192x512, .f32⟩
  | 33 => ⟨S1x192x512, .f32⟩
  | 34 => ⟨S1x192x512, .f32⟩
  | 35 => ⟨S1x1x512x192, .f32⟩
  | 36 => ⟨S1x512x192, .f32⟩
  | 37 => ⟨S1x192x512, .f32⟩
  | 38 => ⟨S1x192x1024, .f32⟩
  | 39 => ⟨S_, .i32⟩
  | 40 => ⟨S1728, .i32⟩
  | 41 => ⟨S1728, .i1⟩
  | 42 => ⟨S_, .i32⟩
  | 43 => ⟨S1728, .i32⟩
  | 44 => ⟨S1728, .i32⟩
  | 45 => ⟨S1728, .i32⟩
  | 46 => ⟨S1728x1, .i32⟩
  | 47 => ⟨S1x1728x1024, .f32⟩
  | 48 => ⟨S1x1728x1, .f32⟩
  | 49 => ⟨S1x1728x1024, .f32⟩
  | 50 => ⟨S1x1728x1024, .f32⟩
  | 51 => ⟨S1728x1x1024, .f32⟩
  | 52 => ⟨S_, .f32⟩
  | 53 => ⟨S192x1x1024, .f32⟩
  | 54 => ⟨S1728x1, .i32⟩
  | 55 => ⟨S192x1x1024, .f32⟩
  | 56 => ⟨S1x192x1024, .f32⟩
  | 57 => ⟨S_, .i32⟩
  | 58 => ⟨S1728, .i32⟩
  | 59 => ⟨S1728, .i1⟩
  | 60 => ⟨S_, .i32⟩
  | 61 => ⟨S1728, .i32⟩
  | 62 => ⟨S1728, .i32⟩
  | 63 => ⟨S1728, .i32⟩
  | 64 => ⟨S1728x1, .i32⟩
  | 65 => ⟨S1x1728x1024, .f32⟩
  | 66 => ⟨S1x1728x1, .f32⟩
  | 67 => ⟨S1x1728x1024, .f32⟩
  | 68 => ⟨S1x1728x1024, .f32⟩
  | 69 => ⟨S1728x1x1024, .f32⟩
  | 70 => ⟨S_, .f32⟩
  | 71 => ⟨S192x1x1024, .f32⟩
  | 72 => ⟨S1728x1, .i32⟩
  | 73 => ⟨S192x1x1024, .f32⟩
  | 74 => ⟨S1x192x1024, .f32⟩
  | 75 => ⟨S_, .f32⟩
  | 76 => ⟨S1x192x1024, .f32⟩
  | 77 => ⟨S1x192x1024, .f32⟩
  | 78 => ⟨S1x192x1024, .f32⟩
  | 79 => ⟨S1x192x3072, .f32⟩
  | 80 => ⟨S1x192x2048, .f32⟩
  | 81 => ⟨S1x1x2048, .f32⟩
  | 82 => ⟨S1x192x2048, .f32⟩
  | 83 => ⟨S1x192x2048, .f32⟩
  | 84 => ⟨S1x192x512, .f32⟩
  | 85 => ⟨S1x192x512, .f32⟩
  | 86 => ⟨S1x192x512, .f32⟩
  | 87 => ⟨S1x192x512, .f32⟩
  | 88 => ⟨S1x192x512, .f32⟩
  | 89 => ⟨S1x192x512, .f32⟩
  | 90 => ⟨S_, .f32⟩
  | 91 => ⟨S1x192x512, .f32⟩
  | 92 => ⟨S1x192x512, .f32⟩
  | 93 => ⟨S_, .f32⟩
  | 94 => ⟨S1x192x512, .f32⟩
  | 95 => ⟨S1x192x512, .f32⟩
  | 96 => ⟨S1x192x512, .f32⟩
  | 97 => ⟨S1x192x512, .f32⟩
  | 98 => ⟨S_, .f32⟩
  | 99 => ⟨S1x192x512, .f32⟩
  | 100 => ⟨S1x192x512, .f32⟩
  | 101 => ⟨S_, .f32⟩
  | 102 => ⟨S1x192x512, .f32⟩
  | 103 => ⟨S1x192x512, .f32⟩
  | 104 => ⟨S1x192x512, .f32⟩
  | 105 => ⟨S1x192x512, .f32⟩
  | 106 => ⟨S_, .f32⟩
  | 107 => ⟨S1x192x512, .f32⟩
  | 108 => ⟨S1x192x512, .f32⟩
  | 109 => ⟨S_, .f32⟩
  | 110 => ⟨S1x192x512, .f32⟩
  | 111 => ⟨S1x192x512, .f32⟩
  | 112 => ⟨S1x192x512, .f32⟩
  | 113 => ⟨S1x192x512, .f32⟩
  | 114 => ⟨S1x192x512, .f32⟩
  | 115 => ⟨S1x192x512, .f32⟩
  | 116 => ⟨S1x192x512, .f32⟩
  | 117 => ⟨S1x192x512, .f32⟩
  | 118 => ⟨S1x1x512x192, .f32⟩
  | 119 => ⟨S1x512x192, .f32⟩
  | 120 => ⟨S1x192x512, .f32⟩
  | 121 => ⟨S1x192x1024, .f32⟩
  | 122 => ⟨S_, .i32⟩
  | 123 => ⟨S1728, .i32⟩
  | 124 => ⟨S1728, .i1⟩
  | 125 => ⟨S_, .i32⟩
  | 126 => ⟨S1728, .i32⟩
  | 127 => ⟨S1728, .i32⟩
  | _ => ⟨S1x4x16x3072, .f32⟩

abbrev hbmTy0_7 (i : Nat) : BufTy := match i % 128 with
  | 0 => ⟨S1728, .i32⟩
  | 1 => ⟨S1728x1, .i32⟩
  | 2 => ⟨S1x1728x1024, .f32⟩
  | 3 => ⟨S1x1728x1, .f32⟩
  | 4 => ⟨S1x1728x1024, .f32⟩
  | 5 => ⟨S1x1728x1024, .f32⟩
  | 6 => ⟨S1728x1x1024, .f32⟩
  | 7 => ⟨S_, .f32⟩
  | 8 => ⟨S192x1x1024, .f32⟩
  | 9 => ⟨S1728x1, .i32⟩
  | 10 => ⟨S192x1x1024, .f32⟩
  | 11 => ⟨S1x192x1024, .f32⟩
  | 12 => ⟨S_, .i32⟩
  | 13 => ⟨S1728, .i32⟩
  | 14 => ⟨S1728, .i1⟩
  | 15 => ⟨S_, .i32⟩
  | 16 => ⟨S1728, .i32⟩
  | 17 => ⟨S1728, .i32⟩
  | 18 => ⟨S1728, .i32⟩
  | 19 => ⟨S1728x1, .i32⟩
  | 20 => ⟨S1x1728x1024, .f32⟩
  | 21 => ⟨S1x1728x1, .f32⟩
  | 22 => ⟨S1x1728x1024, .f32⟩
  | 23 => ⟨S1x1728x1024, .f32⟩
  | 24 => ⟨S1728x1x1024, .f32⟩
  | 25 => ⟨S_, .f32⟩
  | 26 => ⟨S192x1x1024, .f32⟩
  | 27 => ⟨S1728x1, .i32⟩
  | 28 => ⟨S192x1x1024, .f32⟩
  | 29 => ⟨S1x192x1024, .f32⟩
  | 30 => ⟨S_, .f32⟩
  | 31 => ⟨S1x192x1024, .f32⟩
  | 32 => ⟨S1x192x1024, .f32⟩
  | 33 => ⟨S1x192x1024, .f32⟩
  | 34 => ⟨S1x192x3072, .f32⟩
  | 35 => ⟨S1x192x2048, .f32⟩
  | 36 => ⟨S1x1x2048, .f32⟩
  | 37 => ⟨S1x192x2048, .f32⟩
  | 38 => ⟨S1x192x2048, .f32⟩
  | 39 => ⟨S1x192x512, .f32⟩
  | 40 => ⟨S1x192x512, .f32⟩
  | 41 => ⟨S1x192x512, .f32⟩
  | 42 => ⟨S1x192x512, .f32⟩
  | 43 => ⟨S1x192x512, .f32⟩
  | 44 => ⟨S1x192x512, .f32⟩
  | 45 => ⟨S_, .f32⟩
  | 46 => ⟨S1x192x512, .f32⟩
  | 47 => ⟨S1x192x512, .f32⟩
  | 48 => ⟨S_, .f32⟩
  | 49 => ⟨S1x192x512, .f32⟩
  | 50 => ⟨S1x192x512, .f32⟩
  | 51 => ⟨S1x192x512, .f32⟩
  | 52 => ⟨S1x192x512, .f32⟩
  | 53 => ⟨S_, .f32⟩
  | 54 => ⟨S1x192x512, .f32⟩
  | 55 => ⟨S1x192x512, .f32⟩
  | 56 => ⟨S_, .f32⟩
  | 57 => ⟨S1x192x512, .f32⟩
  | 58 => ⟨S1x192x512, .f32⟩
  | 59 => ⟨S1x192x512, .f32⟩
  | 60 => ⟨S1x192x512, .f32⟩
  | 61 => ⟨S_, .f32⟩
  | 62 => ⟨S1x192x512, .f32⟩
  | 63 => ⟨S1x192x512, .f32⟩
  | 64 => ⟨S_, .f32⟩
  | 65 => ⟨S1x192x512, .f32⟩
  | 66 => ⟨S1x192x512, .f32⟩
  | 67 => ⟨S1x192x512, .f32⟩
  | 68 => ⟨S1x192x512, .f32⟩
  | 69 => ⟨S1x192x512, .f32⟩
  | 70 => ⟨S1x192x512, .f32⟩
  | 71 => ⟨S1x192x512, .f32⟩
  | 72 => ⟨S1x192x512, .f32⟩
  | 73 => ⟨S1x1x512x192, .f32⟩
  | 74 => ⟨S1x512x192, .f32⟩
  | 75 => ⟨S1x192x512, .f32⟩
  | 76 => ⟨S1x192x1024, .f32⟩
  | 77 => ⟨S_, .i32⟩
  | 78 => ⟨S1728, .i32⟩
  | 79 => ⟨S1728, .i1⟩
  | 80 => ⟨S_, .i32⟩
  | 81 => ⟨S1728, .i32⟩
  | 82 => ⟨S1728, .i32⟩
  | 83 => ⟨S1728, .i32⟩
  | 84 => ⟨S1728x1, .i32⟩
  | 85 => ⟨S1x1728x1024, .f32⟩
  | 86 => ⟨S1x1728x1, .f32⟩
  | 87 => ⟨S1x1728x1024, .f32⟩
  | 88 => ⟨S1x1728x1024, .f32⟩
  | 89 => ⟨S1728x1x1024, .f32⟩
  | 90 => ⟨S_, .f32⟩
  | 91 => ⟨S192x1x1024, .f32⟩
  | 92 => ⟨S1728x1, .i32⟩
  | 93 => ⟨S192x1x1024, .f32⟩
  | 94 => ⟨S1x192x1024, .f32⟩
  | 95 => ⟨S_, .i32⟩
  | 96 => ⟨S1728, .i32⟩
  | 97 => ⟨S1728, .i1⟩
  | 98 => ⟨S_, .i32⟩
  | 99 => ⟨S1728, .i32⟩
  | 100 => ⟨S1728, .i32⟩
  | 101 => ⟨S1728, .i32⟩
  | 102 => ⟨S1728x1, .i32⟩
  | 103 => ⟨S1x1728x1024, .f32⟩
  | 104 => ⟨S1x1728x1, .f32⟩
  | 105 => ⟨S1x1728x1024, .f32⟩
  | 106 => ⟨S1x1728x1024, .f32⟩
  | 107 => ⟨S1728x1x1024, .f32⟩
  | 108 => ⟨S_, .f32⟩
  | 109 => ⟨S192x1x1024, .f32⟩
  | 110 => ⟨S1728x1, .i32⟩
  | 111 => ⟨S192x1x1024, .f32⟩
  | 112 => ⟨S1x192x1024, .f32⟩
  | 113 => ⟨S_, .f32⟩
  | 114 => ⟨S1x192x1024, .f32⟩
  | 115 => ⟨S1x192x1024, .f32⟩
  | 116 => ⟨S1x192x1024, .f32⟩
  | 117 => ⟨S1x192x3072, .f32⟩
  | 118 => ⟨S1x192x2048, .f32⟩
  | 119 => ⟨S1x1x2048, .f32⟩
  | 120 => ⟨S1x192x2048, .f32⟩
  | 121 => ⟨S1x192x2048, .f32⟩
  | 122 => ⟨S1x192x512, .f32⟩
  | 123 => ⟨S1x192x512, .f32⟩
  | 124 => ⟨S1x192x512, .f32⟩
  | 125 => ⟨S1x192x512, .f32⟩
  | 126 => ⟨S1x192x512, .f32⟩
  | 127 => ⟨S1x192x512, .f32⟩
  | _ => ⟨S1x4x16x3072, .f32⟩

abbrev hbmTy0_8 (i : Nat) : BufTy := match i % 128 with
  | 0 => ⟨S_, .f32⟩
  | 1 => ⟨S1x192x512, .f32⟩
  | 2 => ⟨S1x192x512, .f32⟩
  | 3 => ⟨S_, .f32⟩
  | 4 => ⟨S1x192x512, .f32⟩
  | 5 => ⟨S1x192x512, .f32⟩
  | 6 => ⟨S1x192x512, .f32⟩
  | 7 => ⟨S1x192x512, .f32⟩
  | 8 => ⟨S_, .f32⟩
  | 9 => ⟨S1x192x512, .f32⟩
  | 10 => ⟨S1x192x512, .f32⟩
  | 11 => ⟨S_, .f32⟩
  | 12 => ⟨S1x192x512, .f32⟩
  | 13 => ⟨S1x192x512, .f32⟩
  | 14 => ⟨S1x192x512, .f32⟩
  | 15 => ⟨S1x192x512, .f32⟩
  | 16 => ⟨S_, .f32⟩
  | 17 => ⟨S1x192x512, .f32⟩
  | 18 => ⟨S1x192x512, .f32⟩
  | 19 => ⟨S_, .f32⟩
  | 20 => ⟨S1x192x512, .f32⟩
  | 21 => ⟨S1x192x512, .f32⟩
  | 22 => ⟨S1x192x512, .f32⟩
  | 23 => ⟨S1x192x512, .f32⟩
  | 24 => ⟨S1x192x512, .f32⟩
  | 25 => ⟨S1x192x512, .f32⟩
  | 26 => ⟨S1x192x512, .f32⟩
  | 27 => ⟨S1x192x512, .f32⟩
  | 28 => ⟨S1x1x192x512, .f32⟩
  | 29 => ⟨S1x1x192x512, .f32⟩
  | 30 => ⟨S1x1x192x512, .f32⟩
  | 31 => ⟨S1x1x192x512, .f32⟩
  | 32 => ⟨S1x4x192x512, .f32⟩
  | 33 => ⟨S1x4x512x192, .f32⟩
  | 34 => ⟨S_, .f32⟩
  | 35 => ⟨S1x4x512x192, .f32⟩
  | 36 => ⟨S1x4x512x192, .f32⟩
  | 37 => ⟨S1x4x512x192x4, .f32⟩
  | 38 => ⟨S1x4x512x768, .f32⟩
  | 39 => ⟨S_, .f32⟩
  | 40 => ⟨S1x768x128, .f32⟩
  | 41 => ⟨S_, .f32⟩
  | 42 => ⟨S1x768x128, .f32⟩
  | 43 => ⟨S1x1x512x768, .f32⟩
  | 44 => ⟨S1x512x768, .f32⟩
  | 45 => ⟨S1x768x512, .f32⟩
  | 46 => ⟨S1x768x640, .f32⟩
  | 47 => ⟨S_, .i32⟩
  | 48 => ⟨S6912, .i32⟩
  | 49 => ⟨S6912, .i1⟩
  | 50 => ⟨S_, .i32⟩
  | 51 => ⟨S6912, .i32⟩
  | 52 => ⟨S6912, .i32⟩
  | 53 => ⟨S6912, .i32⟩
  | 54 => ⟨S6912x1, .i32⟩
  | 55 => ⟨S1x6912x640, .f32⟩
  | 56 => ⟨S1x6912x1, .f32⟩
  | 57 => ⟨S1x6912x640, .f32⟩
  | 58 => ⟨S1x6912x640, .f32⟩
  | 59 => ⟨S6912x1x640, .f32⟩
  | 60 => ⟨S_, .f32⟩
  | 61 => ⟨S768x1x640, .f32⟩
  | 62 => ⟨S6912x1, .i32⟩
  | 63 => ⟨S768x1x640, .f32⟩
  | 64 => ⟨S1x768x640, .f32⟩
  | 65 => ⟨S_, .i32⟩
  | 66 => ⟨S6912, .i32⟩
  | 67 => ⟨S6912, .i1⟩
  | 68 => ⟨S_, .i32⟩
  | 69 => ⟨S6912, .i32⟩
  | 70 => ⟨S6912, .i32⟩
  | 71 => ⟨S6912, .i32⟩
  | 72 => ⟨S6912x1, .i32⟩
  | 73 => ⟨S1x6912x640, .f32⟩
  | 74 => ⟨S1x6912x1, .f32⟩
  | 75 => ⟨S1x6912x640, .f32⟩
  | 76 => ⟨S1x6912x640, .f32⟩
  | 77 => ⟨S6912x1x640, .f32⟩
  | 78 => ⟨S_, .f32⟩
  | 79 => ⟨S768x1x640, .f32⟩
  | 80 => ⟨S6912x1, .i32⟩
  | 81 => ⟨S768x1x640, .f32⟩
  | 82 => ⟨S1x768x640, .f32⟩
  | 83 => ⟨S_, .f32⟩
  | 84 => ⟨S1x768x640, .f32⟩
  | 85 => ⟨S1x768x640, .f32⟩
  | 86 => ⟨S1x768x640, .f32⟩
  | 87 => ⟨S1x768x1920, .f32⟩
  | 88 => ⟨S1x768x512, .f32⟩
  | 89 => ⟨S1x1x512, .f32⟩
  | 90 => ⟨S1x768x512, .f32⟩
  | 91 => ⟨S1x768x512, .f32⟩
  | 92 => ⟨S1x768x128, .f32⟩
  | 93 => ⟨S1x768x128, .f32⟩
  | 94 => ⟨S1x768x128, .f32⟩
  | 95 => ⟨S1x768x128, .f32⟩
  | 96 => ⟨S1x768x128, .f32⟩
  | 97 => ⟨S1x768x128, .f32⟩
  | 98 => ⟨S_, .f32⟩
  | 99 => ⟨S1x768x128, .f32⟩
  | 100 => ⟨S1x768x128, .f32⟩
  | 101 => ⟨S_, .f32⟩
  | 102 => ⟨S1x768x128, .f32⟩
  | 103 => ⟨S1x768x128, .f32⟩
  | 104 => ⟨S1x768x128, .f32⟩
  | 105 => ⟨S1x768x128, .f32⟩
  | 106 => ⟨S_, .f32⟩
  | 107 => ⟨S1x768x128, .f32⟩
  | 108 => ⟨S1x768x128, .f32⟩
  | 109 => ⟨S_, .f32⟩
  | 110 => ⟨S1x768x128, .f32⟩
  | 111 => ⟨S1x768x128, .f32⟩
  | 112 => ⟨S1x768x128, .f32⟩
  | 113 => ⟨S1x768x128, .f32⟩
  | 114 => ⟨S_, .f32⟩
  | 115 => ⟨S1x768x128, .f32⟩
  | 116 => ⟨S1x768x128, .f32⟩
  | 117 => ⟨S_, .f32⟩
  | 118 => ⟨S1x768x128, .f32⟩
  | 119 => ⟨S1x768x128, .f32⟩
  | 120 => ⟨S1x768x128, .f32⟩
  | 121 => ⟨S1x768x128, .f32⟩
  | 122 => ⟨S1x768x128, .f32⟩
  | 123 => ⟨S1x768x128, .f32⟩
  | 124 => ⟨S1x768x128, .f32⟩
  | 125 => ⟨S1x768x128, .f32⟩
  | 126 => ⟨S1x1x512x768, .f32⟩
  | 127 => ⟨S1x512x768, .f32⟩
  | _ => ⟨S1x4x16x3072, .f32⟩

abbrev hbmTy0_9 (i : Nat) : BufTy := match i % 128 with
  | 0 => ⟨S1x768x512, .f32⟩
  | 1 => ⟨S1x768x640, .f32⟩
  | 2 => ⟨S_, .i32⟩
  | 3 => ⟨S6912, .i32⟩
  | 4 => ⟨S6912, .i1⟩
  | 5 => ⟨S_, .i32⟩
  | 6 => ⟨S6912, .i32⟩
  | 7 => ⟨S6912, .i32⟩
  | 8 => ⟨S6912, .i32⟩
  | 9 => ⟨S6912x1, .i32⟩
  | 10 => ⟨S1x6912x640, .f32⟩
  | 11 => ⟨S1x6912x1, .f32⟩
  | 12 => ⟨S1x6912x640, .f32⟩
  | 13 => ⟨S1x6912x640, .f32⟩
  | 14 => ⟨S6912x1x640, .f32⟩
  | 15 => ⟨S_, .f32⟩
  | 16 => ⟨S768x1x640, .f32⟩
  | 17 => ⟨S6912x1, .i32⟩
  | 18 => ⟨S768x1x640, .f32⟩
  | 19 => ⟨S1x768x640, .f32⟩
  | 20 => ⟨S_, .i32⟩
  | 21 => ⟨S6912, .i32⟩
  | 22 => ⟨S6912, .i1⟩
  | 23 => ⟨S_, .i32⟩
  | 24 => ⟨S6912, .i32⟩
  | 25 => ⟨S6912, .i32⟩
  | 26 => ⟨S6912, .i32⟩
  | 27 => ⟨S6912x1, .i32⟩
  | 28 => ⟨S1x6912x640, .f32⟩
  | 29 => ⟨S1x6912x1, .f32⟩
  | 30 => ⟨S1x6912x640, .f32⟩
  | 31 => ⟨S1x6912x640, .f32⟩
  | 32 => ⟨S6912x1x640, .f32⟩
  | 33 => ⟨S_, .f32⟩
  | 34 => ⟨S768x1x640, .f32⟩
  | 35 => ⟨S6912x1, .i32⟩
  | 36 => ⟨S768x1x640, .f32⟩
  | 37 => ⟨S1x768x640, .f32⟩
  | 38 => ⟨S_, .f32⟩
  | 39 => ⟨S1x768x640, .f32⟩
  | 40 => ⟨S1x768x640, .f32⟩
  | 41 => ⟨S1x768x640, .f32⟩
  | 42 => ⟨S1x768x1920, .f32⟩
  | 43 => ⟨S1x768x512, .f32⟩
  | 44 => ⟨S1x1x512, .f32⟩
  | 45 => ⟨S1x768x512, .f32⟩
  | 46 => ⟨S1x768x512, .f32⟩
  | 47 => ⟨S1x768x128, .f32⟩
  | 48 => ⟨S1x768x128, .f32⟩
  | 49 => ⟨S1x768x128, .f32⟩
  | 50 => ⟨S1x768x128, .f32⟩
  | 51 => ⟨S1x768x128, .f32⟩
  | 52 => ⟨S1x768x128, .f32⟩
  | 53 => ⟨S_, .f32⟩
  | 54 => ⟨S1x768x128, .f32⟩
  | 55 => ⟨S1x768x128, .f32⟩
  | 56 => ⟨S_, .f32⟩
  | 57 => ⟨S1x768x128, .f32⟩
  | 58 => ⟨S1x768x128, .f32⟩
  | 59 => ⟨S1x768x128, .f32⟩
  | 60 => ⟨S1x768x128, .f32⟩
  | 61 => ⟨S_, .f32⟩
  | 62 => ⟨S1x768x128, .f32⟩
  | 63 => ⟨S1x768x128, .f32⟩
  | 64 => ⟨S_, .f32⟩
  | 65 => ⟨S1x768x128, .f32⟩
  | 66 => ⟨S1x768x128, .f32⟩
  | 67 => ⟨S1x768x128, .f32⟩
  | 68 => ⟨S1x768x128, .f32⟩
  | 69 => ⟨S_, .f32⟩
  | 70 => ⟨S1x768x128, .f32⟩
  | 71 => ⟨S1x768x128, .f32⟩
  | 72 => ⟨S_, .f32⟩
  | 73 => ⟨S1x768x128, .f32⟩
  | 74 => ⟨S1x768x128, .f32⟩
  | 75 => ⟨S1x768x128, .f32⟩
  | 76 => ⟨S1x768x128, .f32⟩
  | 77 => ⟨S1x768x128, .f32⟩
  | 78 => ⟨S1x768x128, .f32⟩
  | 79 => ⟨S1x768x128, .f32⟩
  | 80 => ⟨S1x768x128, .f32⟩
  | 81 => ⟨S1x1x512x768, .f32⟩
  | 82 => ⟨S1x512x768, .f32⟩
  | 83 => ⟨S1x768x512, .f32⟩
  | 84 => ⟨S1x768x640, .f32⟩
  | 85 => ⟨S_, .i32⟩
  | 86 => ⟨S6912, .i32⟩
  | 87 => ⟨S6912, .i1⟩
  | 88 => ⟨S_, .i32⟩
  | 89 => ⟨S6912, .i32⟩
  | 90 => ⟨S6912, .i32⟩
  | 91 => ⟨S6912, .i32⟩
  | 92 => ⟨S6912x1, .i32⟩
  | 93 => ⟨S1x6912x640, .f32⟩
  | 94 => ⟨S1x6912x1, .f32⟩
  | 95 => ⟨S1x6912x640, .f32⟩
  | 96 => ⟨S1x6912x640, .f32⟩
  | 97 => ⟨S6912x1x640, .f32⟩
  | 98 => ⟨S_, .f32⟩
  | 99 => ⟨S768x1x640, .f32⟩
  | 100 => ⟨S6912x1, .i32⟩
  | 101 => ⟨S768x1x640, .f32⟩
  | 102 => ⟨S1x768x640, .f32⟩
  | 103 => ⟨S_, .i32⟩
  | 104 => ⟨S6912, .i32⟩
  | 105 => ⟨S6912, .i1⟩
  | 106 => ⟨S_, .i32⟩
  | 107 => ⟨S6912, .i32⟩
  | 108 => ⟨S6912, .i32⟩
  | 109 => ⟨S6912, .i32⟩
  | 110 => ⟨S6912x1, .i32⟩
  | 111 => ⟨S1x6912x640, .f32⟩
  | 112 => ⟨S1x6912x1, .f32⟩
  | 113 => ⟨S1x6912x640, .f32⟩
  | 114 => ⟨S1x6912x640, .f32⟩
  | 115 => ⟨S6912x1x640, .f32⟩
  | 116 => ⟨S_, .f32⟩
  | 117 => ⟨S768x1x640, .f32⟩
  | 118 => ⟨S6912x1, .i32⟩
  | 119 => ⟨S768x1x640, .f32⟩
  | 120 => ⟨S1x768x640, .f32⟩
  | 121 => ⟨S_, .f32⟩
  | 122 => ⟨S1x768x640, .f32⟩
  | 123 => ⟨S1x768x640, .f32⟩
  | 124 => ⟨S1x768x640, .f32⟩
  | 125 => ⟨S1x768x1920, .f32⟩
  | 126 => ⟨S1x768x512, .f32⟩
  | 127 => ⟨S1x1x512, .f32⟩
  | _ => ⟨S1x4x16x3072, .f32⟩

abbrev hbmTy0_10 (i : Nat) : BufTy := match i % 128 with
  | 0 => ⟨S1x768x512, .f32⟩
  | 1 => ⟨S1x768x512, .f32⟩
  | 2 => ⟨S1x768x128, .f32⟩
  | 3 => ⟨S1x768x128, .f32⟩
  | 4 => ⟨S1x768x128, .f32⟩
  | 5 => ⟨S1x768x128, .f32⟩
  | 6 => ⟨S1x768x128, .f32⟩
  | 7 => ⟨S1x768x128, .f32⟩
  | 8 => ⟨S_, .f32⟩
  | 9 => ⟨S1x768x128, .f32⟩
  | 10 => ⟨S1x768x128, .f32⟩
  | 11 => ⟨S_, .f32⟩
  | 12 => ⟨S1x768x128, .f32⟩
  | 13 => ⟨S1x768x128, .f32⟩
  | 14 => ⟨S1x768x128, .f32⟩
  | 15 => ⟨S1x768x128, .f32⟩
  | 16 => ⟨S_, .f32⟩
  | 17 => ⟨S1x768x128, .f32⟩
  | 18 => ⟨S1x768x128, .f32⟩
  | 19 => ⟨S_, .f32⟩
  | 20 => ⟨S1x768x128, .f32⟩
  | 21 => ⟨S1x768x128, .f32⟩
  | 22 => ⟨S1x768x128, .f32⟩
  | 23 => ⟨S1x768x128, .f32⟩
  | 24 => ⟨S_, .f32⟩
  | 25 => ⟨S1x768x128, .f32⟩
  | 26 => ⟨S1x768x128, .f32⟩
  | 27 => ⟨S_, .f32⟩
  | 28 => ⟨S1x768x128, .f32⟩
  | 29 => ⟨S1x768x128, .f32⟩
  | 30 => ⟨S1x768x128, .f32⟩
  | 31 => ⟨S1x768x128, .f32⟩
  | 32 => ⟨S1x768x128, .f32⟩
  | 33 => ⟨S1x768x128, .f32⟩
  | 34 => ⟨S1x768x128, .f32⟩
  | 35 => ⟨S1x768x128, .f32⟩
  | 36 => ⟨S1x1x512x768, .f32⟩
  | 37 => ⟨S1x512x768, .f32⟩
  | 38 => ⟨S1x768x512, .f32⟩
  | 39 => ⟨S1x768x640, .f32⟩
  | 40 => ⟨S_, .i32⟩
  | 41 => ⟨S6912, .i32⟩
  | 42 => ⟨S6912, .i1⟩
  | 43 => ⟨S_, .i32⟩
  | 44 => ⟨S6912, .i32⟩
  | 45 => ⟨S6912, .i32⟩
  | 46 => ⟨S6912, .i32⟩
  | 47 => ⟨S6912x1, .i32⟩
  | 48 => ⟨S1x6912x640, .f32⟩
  | 49 => ⟨S1x6912x1, .f32⟩
  | 50 => ⟨S1x6912x640, .f32⟩
  | 51 => ⟨S1x6912x640, .f32⟩
  | 52 => ⟨S6912x1x640, .f32⟩
  | 53 => ⟨S_, .f32⟩
  | 54 => ⟨S768x1x640, .f32⟩
  | 55 => ⟨S6912x1, .i32⟩
  | 56 => ⟨S768x1x640, .f32⟩
  | 57 => ⟨S1x768x640, .f32⟩
  | 58 => ⟨S_, .i32⟩
  | 59 => ⟨S6912, .i32⟩
  | 60 => ⟨S6912, .i1⟩
  | 61 => ⟨S_, .i32⟩
  | 62 => ⟨S6912, .i32⟩
  | 63 => ⟨S6912, .i32⟩
  | 64 => ⟨S6912, .i32⟩
  | 65 => ⟨S6912x1, .i32⟩
  | 66 => ⟨S1x6912x640, .f32⟩
  | 67 => ⟨S1x6912x1, .f32⟩
  | 68 => ⟨S1x6912x640, .f32⟩
  | 69 => ⟨S1x6912x640, .f32⟩
  | 70 => ⟨S6912x1x640, .f32⟩
  | 71 => ⟨S_, .f32⟩
  | 72 => ⟨S768x1x640, .f32⟩
  | 73 => ⟨S6912x1, .i32⟩
  | 74 => ⟨S768x1x640, .f32⟩
  | 75 => ⟨S1x768x640, .f32⟩
  | 76 => ⟨S_, .f32⟩
  | 77 => ⟨S1x768x640, .f32⟩
  | 78 => ⟨S1x768x640, .f32⟩
  | 79 => ⟨S1x768x640, .f32⟩
  | 80 => ⟨S1x768x1920, .f32⟩
  | 81 => ⟨S1x768x512, .f32⟩
  | 82 => ⟨S1x1x512, .f32⟩
  | 83 => ⟨S1x768x512, .f32⟩
  | 84 => ⟨S1x768x512, .f32⟩
  | 85 => ⟨S1x768x128, .f32⟩
  | 86 => ⟨S1x768x128, .f32⟩
  | 87 => ⟨S1x768x128, .f32⟩
  | 88 => ⟨S1x768x128, .f32⟩
  | 89 => ⟨S1x768x128, .f32⟩
  | 90 => ⟨S1x768x128, .f32⟩
  | 91 => ⟨S_, .f32⟩
  | 92 => ⟨S1x768x128, .f32⟩
  | 93 => ⟨S1x768x128, .f32⟩
  | 94 => ⟨S_, .f32⟩
  | 95 => ⟨S1x768x128, .f32⟩
  | 96 => ⟨S1x768x128, .f32⟩
  | 97 => ⟨S1x768x128, .f32⟩
  | 98 => ⟨S1x768x128, .f32⟩
  | 99 => ⟨S_, .f32⟩
  | 100 => ⟨S1x768x128, .f32⟩
  | 101 => ⟨S1x768x128, .f32⟩
  | 102 => ⟨S_, .f32⟩
  | 103 => ⟨S1x768x128, .f32⟩
  | 104 => ⟨S1x768x128, .f32⟩
  | 105 => ⟨S1x768x128, .f32⟩
  | 106 => ⟨S1x768x128, .f32⟩
  | 107 => ⟨S_, .f32⟩
  | 108 => ⟨S1x768x128, .f32⟩
  | 109 => ⟨S1x768x128, .f32⟩
  | 110 => ⟨S_, .f32⟩
  | 111 => ⟨S1x768x128, .f32⟩
  | 112 => ⟨S1x768x128, .f32⟩
  | 113 => ⟨S1x768x128, .f32⟩
  | 114 => ⟨S1x768x128, .f32⟩
  | 115 => ⟨S1x768x128, .f32⟩
  | 116 => ⟨S1x768x128, .f32⟩
  | 117 => ⟨S1x768x128, .f32⟩
  | 118 => ⟨S1x768x128, .f32⟩
  | 119 => ⟨S1x1x768x128, .f32⟩
  | 120 => ⟨S1x1x768x128, .f32⟩
  | 121 => ⟨S1x1x768x128, .f32⟩
  | 122 => ⟨S1x1x768x128, .f32⟩
  | 123 => ⟨S1x4x768x128, .f32⟩
  | 124 => ⟨S1x4x128x768, .f32⟩
  | 125 => ⟨S_, .f32⟩
  | 126 => ⟨S1x4x128x768, .f32⟩
  | 127 => ⟨S1x4x128x768, .f32⟩
  | _ => ⟨S1x4x16x3072, .f32⟩

abbrev hbmTy0_11 (i : Nat) : BufTy := match i % 128 with
  | 0 => ⟨S1x4x128x768x4, .f32⟩
  | 1 => ⟨S1x4x128x3072, .f32⟩
  | 2 => ⟨S_, .f32⟩
  | 3 => ⟨S1x3072x16, .f32⟩
  | 4 => ⟨S_, .f32⟩
  | 5 => ⟨S1x3072x16, .f32⟩
  | 6 => ⟨S1x1x128x3072, .f32⟩
  | 7 => ⟨S1x128x3072, .f32⟩
  | 8 => ⟨S1x3072x128, .f32⟩
  | 9 => ⟨S1x3072x144, .f32⟩
  | 10 => ⟨S_, .i32⟩
  | 11 => ⟨S27648, .i32⟩
  | 12 => ⟨S27648, .i1⟩
  | 13 => ⟨S_, .i32⟩
  | 14 => ⟨S27648, .i32⟩
  | 15 => ⟨S27648, .i32⟩
  | 16 => ⟨S27648, .i32⟩
  | 17 => ⟨S27648x1, .i32⟩
  | 18 => ⟨S1x27648x144, .f32⟩
  | 19 => ⟨S1x27648x1, .f32⟩
  | 20 => ⟨S1x27648x144, .f32⟩
  | 21 => ⟨S1x27648x144, .f32⟩
  | 22 => ⟨S27648x1x144, .f32⟩
  | 23 => ⟨S_, .f32⟩
  | 24 => ⟨S3072x1x144, .f32⟩
  | 25 => ⟨S27648x1, .i32⟩
  | 26 => ⟨S3072x1x144, .f32⟩
  | 27 => ⟨S1x3072x144, .f32⟩
  | 28 => ⟨S_, .i32⟩
  | 29 => ⟨S27648, .i32⟩
  | 30 => ⟨S27648, .i1⟩
  | 31 => ⟨S_, .i32⟩
  | 32 => ⟨S27648, .i32⟩
  | 33 => ⟨S27648, .i32⟩
  | 34 => ⟨S27648, .i32⟩
  | 35 => ⟨S27648x1, .i32⟩
  | 36 => ⟨S1x27648x144, .f32⟩
  | 37 => ⟨S1x27648x1, .f32⟩
  | 38 => ⟨S1x27648x144, .f32⟩
  | 39 => ⟨S1x27648x144, .f32⟩
  | 40 => ⟨S27648x1x144, .f32⟩
  | 41 => ⟨S_, .f32⟩
  | 42 => ⟨S3072x1x144, .f32⟩
  | 43 => ⟨S27648x1, .i32⟩
  | 44 => ⟨S3072x1x144, .f32⟩
  | 45 => ⟨S1x3072x144, .f32⟩
  | 46 => ⟨S_, .f32⟩
  | 47 => ⟨S1x3072x144, .f32⟩
  | 48 => ⟨S1x3072x144, .f32⟩
  | 49 => ⟨S1x3072x144, .f32⟩
  | 50 => ⟨S1x3072x432, .f32⟩
  | 51 => ⟨S1x3072x64, .f32⟩
  | 52 => ⟨S1x1x64, .f32⟩
  | 53 => ⟨S1x3072x64, .f32⟩
  | 54 => ⟨S1x3072x64, .f32⟩
  | 55 => ⟨S1x3072x16, .f32⟩
  | 56 => ⟨S1x3072x16, .f32⟩
  | 57 => ⟨S1x3072x16, .f32⟩
  | 58 => ⟨S1x3072x16, .f32⟩
  | 59 => ⟨S1x3072x16, .f32⟩
  | 60 => ⟨S1x3072x16, .f32⟩
  | 61 => ⟨S_, .f32⟩
  | 62 => ⟨S1x3072x16, .f32⟩
  | 63 => ⟨S1x3072x16, .f32⟩
  | 64 => ⟨S_, .f32⟩
  | 65 => ⟨S1x3072x16, .f32⟩
  | 66 => ⟨S1x3072x16, .f32⟩
  | 67 => ⟨S1x3072x16, .f32⟩
  | 68 => ⟨S1x3072x16, .f32⟩
  | 69 => ⟨S_, .f32⟩
  | 70 => ⟨S1x3072x16, .f32⟩
  | 71 => ⟨S1x3072x16, .f32⟩
  | 72 => ⟨S_, .f32⟩
  | 73 => ⟨S1x3072x16, .f32⟩
  | 74 => ⟨S1x3072x16, .f32⟩
  | 75 => ⟨S1x3072x16, .f32⟩
  | 76 => ⟨S1x3072x16, .f32⟩
  | 77 => ⟨S_, .f32⟩
  | 78 => ⟨S1x3072x16, .f32⟩
  | 79 => ⟨S1x3072x16, .f32⟩
  | 80 => ⟨S_, .f32⟩
  | 81 => ⟨S1x3072x16, .f32⟩
  | 82 => ⟨S1x3072x16, .f32⟩
  | 83 => ⟨S1x3072x16, .f32⟩
  | 84 => ⟨S1x3072x16, .f32⟩
  | 85 => ⟨S1x3072x16, .f32⟩
  | 86 => ⟨S1x3072x16, .f32⟩
  | 87 => ⟨S1x3072x16, .f32⟩
  | 88 => ⟨S1x3072x16, .f32⟩
  | 89 => ⟨S1x1x128x3072, .f32⟩
  | 90 => ⟨S1x128x3072, .f32⟩
  | 91 => ⟨S1x3072x128, .f32⟩
  | 92 => ⟨S1x3072x144, .f32⟩
  | 93 => ⟨S_, .i32⟩
  | 94 => ⟨S27648, .i32⟩
  | 95 => ⟨S27648, .i1⟩
  | 96 => ⟨S_, .i32⟩
  | 97 => ⟨S27648, .i32⟩
  | 98 => ⟨S27648, .i32⟩
  | 99 => ⟨S27648, .i32⟩
  | 100 => ⟨S27648x1, .i32⟩
  | 101 => ⟨S1x27648x144, .f32⟩
  | 102 => ⟨S1x27648x1, .f32⟩
  | 103 => ⟨S1x27648x144, .f32⟩
  | 104 => ⟨S1x27648x144, .f32⟩
  | 105 => ⟨S27648x1x144, .f32⟩
  | 106 => ⟨S_, .f32⟩
  | 107 => ⟨S3072x1x144, .f32⟩
  | 108 => ⟨S27648x1, .i32⟩
  | 109 => ⟨S3072x1x144, .f32⟩
  | 110 => ⟨S1x3072x144, .f32⟩
  | 111 => ⟨S_, .i32⟩
  | 112 => ⟨S27648, .i32⟩
  | 113 => ⟨S27648, .i1⟩
  | 114 => ⟨S_, .i32⟩
  | 115 => ⟨S27648, .i32⟩
  | 116 => ⟨S27648, .i32⟩
  | 117 => ⟨S27648, .i32⟩
  | 118 => ⟨S27648x1, .i32⟩
  | 119 => ⟨S1x27648x144, .f32⟩
  | 120 => ⟨S1x27648x1, .f32⟩
  | 121 => ⟨S1x27648x144, .f32⟩
  | 122 => ⟨S1x27648x144, .f32⟩
  | 123 => ⟨S27648x1x144, .f32⟩
  | 124 => ⟨S_, .f32⟩
  | 125 => ⟨S3072x1x144, .f32⟩
  | 126 => ⟨S27648x1, .i32⟩
  | 127 => ⟨S3072x1x144, .f32⟩
  | _ => ⟨S1x4x16x3072, .f32⟩

abbrev hbmTy0_12 (i : Nat) : BufTy := match i % 128 with
  | 0 => ⟨S1x3072x144, .f32⟩
  | 1 => ⟨S_, .f32⟩
  | 2 => ⟨S1x3072x144, .f32⟩
  | 3 => ⟨S1x3072x144, .f32⟩
  | 4 => ⟨S1x3072x144, .f32⟩
  | 5 => ⟨S1x3072x432, .f32⟩
  | 6 => ⟨S1x3072x64, .f32⟩
  | 7 => ⟨S1x1x64, .f32⟩
  | 8 => ⟨S1x3072x64, .f32⟩
  | 9 => ⟨S1x3072x64, .f32⟩
  | 10 => ⟨S1x3072x16, .f32⟩
  | 11 => ⟨S1x3072x16, .f32⟩
  | 12 => ⟨S1x3072x16, .f32⟩
  | 13 => ⟨S1x3072x16, .f32⟩
  | 14 => ⟨S1x3072x16, .f32⟩
  | 15 => ⟨S1x3072x16, .f32⟩
  | 16 => ⟨S_, .f32⟩
  | 17 => ⟨S1x3072x16, .f32⟩
  | 18 => ⟨S1x3072x16, .f32⟩
  | 19 => ⟨S_, .f32⟩
  | 20 => ⟨S1x3072x16, .f32⟩
  | 21 => ⟨S1x3072x16, .f32⟩
  | 22 => ⟨S1x3072x16, .f32⟩
  | 23 => ⟨S1x3072x16, .f32⟩
  | 24 => ⟨S_, .f32⟩
  | 25 => ⟨S1x3072x16, .f32⟩
  | 26 => ⟨S1x3072x16, .f32⟩
  | 27 => ⟨S_, .f32⟩
  | 28 => ⟨S1x3072x16, .f32⟩
  | 29 => ⟨S1x3072x16, .f32⟩
  | 30 => ⟨S1x3072x16, .f32⟩
  | 31 => ⟨S1x3072x16, .f32⟩
  | 32 => ⟨S_, .f32⟩
  | 33 => ⟨S1x3072x16, .f32⟩
  | 34 => ⟨S1x3072x16, .f32⟩
  | 35 => ⟨S_, .f32⟩
  | 36 => ⟨S1x3072x16, .f32⟩
  | 37 => ⟨S1x3072x16, .f32⟩
  | 38 => ⟨S1x3072x16, .f32⟩
  | 39 => ⟨S1x3072x16, .f32⟩
  | 40 => ⟨S1x3072x16, .f32⟩
  | 41 => ⟨S1x3072x16, .f32⟩
  | 42 => ⟨S1x3072x16, .f32⟩
  | 43 => ⟨S1x3072x16, .f32⟩
  | 44 => ⟨S1x1x128x3072, .f32⟩
  | 45 => ⟨S1x128x3072, .f32⟩
  | 46 => ⟨S1x3072x128, .f32⟩
  | 47 => ⟨S1x3072x144, .f32⟩
  | 48 => ⟨S_, .i32⟩
  | 49 => ⟨S27648, .i32⟩
  | 50 => ⟨S27648, .i1⟩
  | 51 => ⟨S_, .i32⟩
  | 52 => ⟨S27648, .i32⟩
  | 53 => ⟨S27648, .i32⟩
  | 54 => ⟨S27648, .i32⟩
  | 55 => ⟨S27648x1, .i32⟩
  | 56 => ⟨S1x27648x144, .f32⟩
  | 57 => ⟨S1x27648x1, .f32⟩
  | 58 => ⟨S1x27648x144, .f32⟩
  | 59 => ⟨S1x27648x144, .f32⟩
  | 60 => ⟨S27648x1x144, .f32⟩
  | 61 => ⟨S_, .f32⟩
  | 62 => ⟨S3072x1x144, .f32⟩
  | 63 => ⟨S27648x1, .i32⟩
  | 64 => ⟨S3072x1x144, .f32⟩
  | 65 => ⟨S1x3072x144, .f32⟩
  | 66 => ⟨S_, .i32⟩
  | 67 => ⟨S27648, .i32⟩
  | 68 => ⟨S27648, .i1⟩
  | 69 => ⟨S_, .i32⟩
  | 70 => ⟨S27648, .i32⟩
  | 71 => ⟨S27648, .i32⟩
  | 72 => ⟨S27648, .i32⟩
  | 73 => ⟨S27648x1, .i32⟩
  | 74 => ⟨S1x27648x144, .f32⟩
  | 75 => ⟨S1x27648x1, .f32⟩
  | 76 => ⟨S1x27648x144, .f32⟩
  | 77 => ⟨S1x27648x144, .f32⟩
  | 78 => ⟨S27648x1x144, .f32⟩
  | 79 => ⟨S_, .f32⟩
  | 80 => ⟨S3072x1x144, .f32⟩
  | 81 => ⟨S27648x1, .i32⟩
  | 82 => ⟨S3072x1x144, .f32⟩
  | 83 => ⟨S1x3072x144, .f32⟩
  | 84 => ⟨S_, .f32⟩
  | 85 => ⟨S1x3072x144, .f32⟩
  | 86 => ⟨S1x3072x144, .f32⟩
  | 87 => ⟨S1x3072x144, .f32⟩
  | 88 => ⟨S1x3072x432, .f32⟩
  | 89 => ⟨S1x3072x64, .f32⟩
  | 90 => ⟨S1x1x64, .f32⟩
  | 91 => ⟨S1x3072x64, .f32⟩
  | 92 => ⟨S1x3072x64, .f32⟩
  | 93 => ⟨S1x3072x16, .f32⟩
  | 94 => ⟨S1x3072x16, .f32⟩
  | 95 => ⟨S1x3072x16, .f32⟩
  | 96 => ⟨S1x3072x16, .f32⟩
  | 97 => ⟨S1x3072x16, .f32⟩
  | 98 => ⟨S1x3072x16, .f32⟩
  | 99 => ⟨S_, .f32⟩
  | 100 => ⟨S1x3072x16, .f32⟩
  | 101 => ⟨S1x3072x16, .f32⟩
  | 102 => ⟨S_, .f32⟩
  | 103 => ⟨S1x3072x16, .f32⟩
  | 104 => ⟨S1x3072x16, .f32⟩
  | 105 => ⟨S1x3072x16, .f32⟩
  | 106 => ⟨S1x3072x16, .f32⟩
  | 107 => ⟨S_, .f32⟩
  | 108 => ⟨S1x3072x16, .f32⟩
  | 109 => ⟨S1x3072x16, .f32⟩
  | 110 => ⟨S_, .f32⟩
  | 111 => ⟨S1x3072x16, .f32⟩
  | 112 => ⟨S1x3072x16, .f32⟩
  | 113 => ⟨S1x3072x16, .f32⟩
  | 114 => ⟨S1x3072x16, .f32⟩
  | 115 => ⟨S_, .f32⟩
  | 116 => ⟨S1x3072x16, .f32⟩
  | 117 => ⟨S1x3072x16, .f32⟩
  | 118 => ⟨S_, .f32⟩
  | 119 => ⟨S1x3072x16, .f32⟩
  | 120 => ⟨S1x3072x16, .f32⟩
  | 121 => ⟨S1x3072x16, .f32⟩
  | 122 => ⟨S1x3072x16, .f32⟩
  | 123 => ⟨S1x3072x16, .f32⟩
  | 124 => ⟨S1x3072x16, .f32⟩
  | 125 => ⟨S1x3072x16, .f32⟩
  | 126 => ⟨S1x3072x16, .f32⟩
  | 127 => ⟨S1x1x128x3072, .f32⟩
  | _ => ⟨S1x4x16x3072, .f32⟩

abbrev hbmTy0_13 (i : Nat) : BufTy := match i % 128 with
  | 0 => ⟨S1x128x3072, .f32⟩
  | 1 => ⟨S1x3072x128, .f32⟩
  | 2 => ⟨S1x3072x144, .f32⟩
  | 3 => ⟨S_, .i32⟩
  | 4 => ⟨S27648, .i32⟩
  | 5 => ⟨S27648, .i1⟩
  | 6 => ⟨S_, .i32⟩
  | 7 => ⟨S27648, .i32⟩
  | 8 => ⟨S27648, .i32⟩
  | 9 => ⟨S27648, .i32⟩
  | 10 => ⟨S27648x1, .i32⟩
  | 11 => ⟨S1x27648x144, .f32⟩
  | 12 => ⟨S1x27648x1, .f32⟩
  | 13 => ⟨S1x27648x144, .f32⟩
  | 14 => ⟨S1x27648x144, .f32⟩
  | 15 => ⟨S27648x1x144, .f32⟩
  | 16 => ⟨S_, .f32⟩
  | 17 => ⟨S3072x1x144, .f32⟩
  | 18 => ⟨S27648x1, .i32⟩
  | 19 => ⟨S3072x1x144, .f32⟩
  | 20 => ⟨S1x3072x144, .f32⟩
  | 21 => ⟨S_, .i32⟩
  | 22 => ⟨S27648, .i32⟩
  | 23 => ⟨S27648, .i1⟩
  | 24 => ⟨S_, .i32⟩
  | 25 => ⟨S27648, .i32⟩
  | 26 => ⟨S27648, .i32⟩
  | 27 => ⟨S27648, .i32⟩
  | 28 => ⟨S27648x1, .i32⟩
  | 29 => ⟨S1x27648x144, .f32⟩
  | 30 => ⟨S1x27648x1, .f32⟩
  | 31 => ⟨S1x27648x144, .f32⟩
  | 32 => ⟨S1x27648x144, .f32⟩
  | 33 => ⟨S27648x1x144, .f32⟩
  | 34 => ⟨S_, .f32⟩
  | 35 => ⟨S3072x1x144, .f32⟩
  | 36 => ⟨S27648x1, .i32⟩
  | 37 => ⟨S3072x1x144, .f32⟩
  | 38 => ⟨S1x3072x144, .f32⟩
  | 39 => ⟨S_, .f32⟩
  | 40 => ⟨S1x3072x144, .f32⟩
  | 41 => ⟨S1x3072x144, .f32⟩
  | 42 => ⟨S1x3072x144, .f32⟩
  | 43 => ⟨S1x3072x432, .f32⟩
  | 44 => ⟨S1x3072x64, .f32⟩
  | 45 => ⟨S1x1x64, .f32⟩
  | 46 => ⟨S1x3072x64, .f32⟩
  | 47 => ⟨S1x3072x64, .f32⟩
  | 48 => ⟨S1x3072x16, .f32⟩
  | 49 => ⟨S1x3072x16, .f32⟩
  | 50 => ⟨S1x3072x16, .f32⟩
  | 51 => ⟨S1x3072x16, .f32⟩
  | 52 => ⟨S1x3072x16, .f32⟩
  | 53 => ⟨S1x3072x16, .f32⟩
  | 54 => ⟨S_, .f32⟩
  | 55 => ⟨S1x3072x16, .f32⟩
  | 56 => ⟨S1x3072x16, .f32⟩
  | 57 => ⟨S_, .f32⟩
  | 58 => ⟨S1x3072x16, .f32⟩
  | 59 => ⟨S1x3072x16, .f32⟩
  | 60 => ⟨S1x3072x16, .f32⟩
  | 61 => ⟨S1x3072x16, .f32⟩
  | 62 => ⟨S_, .f32⟩
  | 63 => ⟨S1x3072x16, .f32⟩
  | 64 => ⟨S1x3072x16, .f32⟩
  | 65 => ⟨S_, .f32⟩
  | 66 => ⟨S1x3072x16, .f32⟩
  | 67 => ⟨S1x3072x16, .f32⟩
  | 68 => ⟨S1x3072x16, .f32⟩
  | 69 => ⟨S1x3072x16, .f32⟩
  | 70 => ⟨S_, .f32⟩
  | 71 => ⟨S1x3072x16, .f32⟩
  | 72 => ⟨S1x3072x16, .f32⟩
  | 73 => ⟨S_, .f32⟩
  | 74 => ⟨S1x3072x16, .f32⟩
  | 75 => ⟨S1x3072x16, .f32⟩
  | 76 => ⟨S1x3072x16, .f32⟩
  | 77 => ⟨S1x3072x16, .f32⟩
  | 78 => ⟨S1x3072x16, .f32⟩
  | 79 => ⟨S1x3072x16, .f32⟩
  | 80 => ⟨S1x3072x16, .f32⟩
  | 81 => ⟨S1x3072x16, .f32⟩
  | 82 => ⟨S1x1x3072x16, .f32⟩
  | 83 => ⟨S1x1x3072x16, .f32⟩
  | 84 => ⟨S1x1x3072x16, .f32⟩
  | 85 => ⟨S1x1x3072x16, .f32⟩
  | 86 => ⟨S1x4x3072x16, .f32⟩
  | 87 => ⟨S1x4x16x3072, .f32⟩
  | 88 => ⟨S_, .f32⟩
  | 89 => ⟨S1x4x16x3072, .f32⟩
  | 90 => ⟨S1x4x16x3072, .f32⟩
  | 91 => ⟨S1x1x16x3072, .f32⟩
  | _ => ⟨S1x4x16x3072, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S1x4x16x3072, .f32⟩

abbrev bufTy : (tb : Table) → Fin (tcTables nBuf tb) → BufTy
  | .hbm, ⟨i, _⟩ => hbmTy i
  | _, _ => ⟨S1x4x16x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_3 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_13 : Ref sig .tc := ⟨.hbm, 111, rfl⟩
abbrev main_v76 : Ref sig .tc := ⟨.hbm, 112, rfl⟩
abbrev main_v77 : Ref sig .tc := ⟨.hbm, 113, rfl⟩
abbrev main_c_14 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_15 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_16 : Ref sig .tc := ⟨.hbm, 129, rfl⟩
abbrev main_v91 : Ref sig .tc := ⟨.hbm, 130, rfl⟩
abbrev main_v92 : Ref sig .tc := ⟨.hbm, 131, rfl⟩
abbrev main_c_17 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_18 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_19 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_20 : Ref sig .tc := ⟨.hbm, 162, rfl⟩
abbrev main_v120 : Ref sig .tc := ⟨.hbm, 163, rfl⟩
abbrev main_v121 : Ref sig .tc := ⟨.hbm, 164, rfl⟩
abbrev main_cst_21 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_22 : Ref sig .tc := ⟨.hbm, 170, rfl⟩
abbrev main_v126 : Ref sig .tc := ⟨.hbm, 171, rfl⟩
abbrev main_v127 : Ref sig .tc := ⟨.hbm, 172, rfl⟩
abbrev main_cst_23 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_24 : Ref sig .tc := ⟨.hbm, 178, rfl⟩
abbrev main_v132 : Ref sig .tc := ⟨.hbm, 179, rfl⟩
abbrev main_v133 : Ref sig .tc := ⟨.hbm, 180, rfl⟩
abbrev main_cst_25 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_c_26 : Ref sig .tc := ⟨.hbm, 194, rfl⟩
abbrev main_v146 : Ref sig .tc := ⟨.hbm, 195, rfl⟩
abbrev main_v147 : Ref sig .tc := ⟨.hbm, 196, rfl⟩
abbrev main_c_27 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_28 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_c_29 : Ref sig .tc := ⟨.hbm, 212, rfl⟩
abbrev main_v161 : Ref sig .tc := ⟨.hbm, 213, rfl⟩
abbrev main_v162 : Ref sig .tc := ⟨.hbm, 214, rfl⟩
abbrev main_c_30 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_cst_31 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_cst_32 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_cst_33 : Ref sig .tc := ⟨.hbm, 245, rfl⟩
abbrev main_v190 : Ref sig .tc := ⟨.hbm, 246, rfl⟩
abbrev main_v191 : Ref sig .tc := ⟨.hbm, 247, rfl⟩
abbrev main_cst_34 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_cst_35 : Ref sig .tc := ⟨.hbm, 253, rfl⟩
abbrev main_v196 : Ref sig .tc := ⟨.hbm, 254, rfl⟩
abbrev main_v197 : Ref sig .tc := ⟨.hbm, 255, rfl⟩
abbrev main_cst_36 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_cst_37 : Ref sig .tc := ⟨.hbm, 261, rfl⟩
abbrev main_v202 : Ref sig .tc := ⟨.hbm, 262, rfl⟩
abbrev main_v203 : Ref sig .tc := ⟨.hbm, 263, rfl⟩
abbrev main_cst_38 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_c_39 : Ref sig .tc := ⟨.hbm, 277, rfl⟩
abbrev main_v216 : Ref sig .tc := ⟨.hbm, 278, rfl⟩
abbrev main_v217 : Ref sig .tc := ⟨.hbm, 279, rfl⟩
abbrev main_c_40 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_cst_41 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_c_42 : Ref sig .tc := ⟨.hbm, 295, rfl⟩
abbrev main_v231 : Ref sig .tc := ⟨.hbm, 296, rfl⟩
abbrev main_v232 : Ref sig .tc := ⟨.hbm, 297, rfl⟩
abbrev main_c_43 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_cst_44 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_cst_45 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_cst_46 : Ref sig .tc := ⟨.hbm, 328, rfl⟩
abbrev main_v260 : Ref sig .tc := ⟨.hbm, 329, rfl⟩
abbrev main_v261 : Ref sig .tc := ⟨.hbm, 330, rfl⟩
abbrev main_cst_47 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_cst_48 : Ref sig .tc := ⟨.hbm, 336, rfl⟩
abbrev main_v266 : Ref sig .tc := ⟨.hbm, 337, rfl⟩
abbrev main_v267 : Ref sig .tc := ⟨.hbm, 338, rfl⟩
abbrev main_cst_49 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_cst_50 : Ref sig .tc := ⟨.hbm, 344, rfl⟩
abbrev main_v272 : Ref sig .tc := ⟨.hbm, 345, rfl⟩
abbrev main_v273 : Ref sig .tc := ⟨.hbm, 346, rfl⟩
abbrev main_cst_51 : Ref sig .tc := ⟨.hbm, 347, rfl⟩
abbrev main_v274 : Ref sig .tc := ⟨.hbm, 348, rfl⟩
abbrev main_v275 : Ref sig .tc := ⟨.hbm, 349, rfl⟩
abbrev main_v276 : Ref sig .tc := ⟨.hbm, 350, rfl⟩
abbrev main_v277 : Ref sig .tc := ⟨.hbm, 351, rfl⟩
abbrev main_v278 : Ref sig .tc := ⟨.hbm, 352, rfl⟩
abbrev main_v279 : Ref sig .tc := ⟨.hbm, 353, rfl⟩
abbrev main_v280 : Ref sig .tc := ⟨.hbm, 354, rfl⟩
abbrev main_v281 : Ref sig .tc := ⟨.hbm, 355, rfl⟩
abbrev main_v282 : Ref sig .tc := ⟨.hbm, 356, rfl⟩
abbrev main_v283 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_call0_cst : Ref sig .tc := ⟨.hbm, 362, rfl⟩
abbrev main_call0_v0 : Ref sig .tc := ⟨.hbm, 363, rfl⟩
abbrev main_v288 : Ref sig .tc := ⟨.hbm, 364, rfl⟩
abbrev main_v289 : Ref sig .tc := ⟨.hbm, 365, rfl⟩
abbrev main_cst_52 : Ref sig .tc := ⟨.hbm, 366, rfl⟩
abbrev main_v290 : Ref sig .tc := ⟨.hbm, 367, rfl⟩
abbrev main_cst_53 : Ref sig .tc := ⟨.hbm, 368, rfl⟩
abbrev main_v291 : Ref sig .tc := ⟨.hbm, 369, rfl⟩
abbrev main_cst_54 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_v296 : Ref sig .tc := ⟨.hbm, 375, rfl⟩
abbrev main_c_55 : Ref sig .tc := ⟨.hbm, 376, rfl⟩
abbrev main_v297 : Ref sig .tc := ⟨.hbm, 377, rfl⟩
abbrev main_v298 : Ref sig .tc := ⟨.hbm, 378, rfl⟩
abbrev main_c_56 : Ref sig .tc := ⟨.hbm, 379, rfl⟩
abbrev main_v299 : Ref sig .tc := ⟨.hbm, 380, rfl⟩
abbrev main_v300 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_cst_57 : Ref sig .tc := ⟨.hbm, 389, rfl⟩
abbrev main_v308 : Ref sig .tc := ⟨.hbm, 390, rfl⟩
abbrev main_v309 : Ref sig .tc := ⟨.hbm, 391, rfl⟩
abbrev main_v310 : Ref sig .tc := ⟨.hbm, 392, rfl⟩
abbrev main_v311 : Ref sig .tc := ⟨.hbm, 393, rfl⟩
abbrev main_c_58 : Ref sig .tc := ⟨.hbm, 394, rfl⟩
abbrev main_v312 : Ref sig .tc := ⟨.hbm, 395, rfl⟩
abbrev main_v313 : Ref sig .tc := ⟨.hbm, 396, rfl⟩
abbrev main_c_59 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_v317 : Ref sig .tc := ⟨.hbm, 401, rfl⟩
abbrev main_v318 : Ref sig .tc := ⟨.hbm, 402, rfl⟩
abbrev main_v319 : Ref sig .tc := ⟨.hbm, 403, rfl⟩
abbrev main_v320 : Ref sig .tc := ⟨.hbm, 404, rfl⟩
abbrev main_v321 : Ref sig .tc := ⟨.hbm, 405, rfl⟩
abbrev main_v322 : Ref sig .tc := ⟨.hbm, 406, rfl⟩
abbrev main_cst_60 : Ref sig .tc := ⟨.hbm, 407, rfl⟩
abbrev main_v323 : Ref sig .tc := ⟨.hbm, 408, rfl⟩
abbrev main_v324 : Ref sig .tc := ⟨.hbm, 409, rfl⟩
abbrev main_v325 : Ref sig .tc := ⟨.hbm, 410, rfl⟩
abbrev main_v326 : Ref sig .tc := ⟨.hbm, 411, rfl⟩
abbrev main_cst_61 : Ref sig .tc := ⟨.hbm, 412, rfl⟩
abbrev main_v327 : Ref sig .tc := ⟨.hbm, 413, rfl⟩
abbrev main_v328 : Ref sig .tc := ⟨.hbm, 414, rfl⟩
abbrev main_v329 : Ref sig .tc := ⟨.hbm, 415, rfl⟩
abbrev main_v330 : Ref sig .tc := ⟨.hbm, 416, rfl⟩
abbrev main_v331 : Ref sig .tc := ⟨.hbm, 417, rfl⟩
abbrev main_v332 : Ref sig .tc := ⟨.hbm, 418, rfl⟩
abbrev main_v333 : Ref sig .tc := ⟨.hbm, 419, rfl⟩
abbrev main_v334 : Ref sig .tc := ⟨.hbm, 420, rfl⟩
abbrev main_v335 : Ref sig .tc := ⟨.hbm, 421, rfl⟩
abbrev main_v336 : Ref sig .tc := ⟨.hbm, 422, rfl⟩
abbrev main_v337 : Ref sig .tc := ⟨.hbm, 423, rfl⟩
abbrev main_v338 : Ref sig .tc := ⟨.hbm, 424, rfl⟩
abbrev main_v339 : Ref sig .tc := ⟨.hbm, 425, rfl⟩
abbrev main_v340 : Ref sig .tc := ⟨.hbm, 426, rfl⟩
abbrev main_cst_62 : Ref sig .tc := ⟨.hbm, 427, rfl⟩
abbrev main_v341 : Ref sig .tc := ⟨.hbm, 428, rfl⟩
abbrev main_v342 : Ref sig .tc := ⟨.hbm, 429, rfl⟩
abbrev main_cst_63 : Ref sig .tc := ⟨.hbm, 430, rfl⟩
abbrev main_v343 : Ref sig .tc := ⟨.hbm, 431, rfl⟩
abbrev main_v344 : Ref sig .tc := ⟨.hbm, 432, rfl⟩
abbrev main_v345 : Ref sig .tc := ⟨.hbm, 433, rfl⟩
abbrev main_v346 : Ref sig .tc := ⟨.hbm, 434, rfl⟩
abbrev main_cst_64 : Ref sig .tc := ⟨.hbm, 435, rfl⟩
abbrev main_v347 : Ref sig .tc := ⟨.hbm, 436, rfl⟩
abbrev main_v348 : Ref sig .tc := ⟨.hbm, 437, rfl⟩
abbrev main_cst_65 : Ref sig .tc := ⟨.hbm, 438, rfl⟩
abbrev main_v349 : Ref sig .tc := ⟨.hbm, 439, rfl⟩
abbrev main_v350 : Ref sig .tc := ⟨.hbm, 440, rfl⟩
abbrev main_v351 : Ref sig .tc := ⟨.hbm, 441, rfl⟩
abbrev main_v352 : Ref sig .tc := ⟨.hbm, 442, rfl⟩
abbrev main_cst_66 : Ref sig .tc := ⟨.hbm, 443, rfl⟩
abbrev main_v353 : Ref sig .tc := ⟨.hbm, 444, rfl⟩
abbrev main_v354 : Ref sig .tc := ⟨.hbm, 445, rfl⟩
abbrev main_cst_67 : Ref sig .tc := ⟨.hbm, 446, rfl⟩
abbrev main_v355 : Ref sig .tc := ⟨.hbm, 447, rfl⟩
abbrev main_v356 : Ref sig .tc := ⟨.hbm, 448, rfl⟩
abbrev main_v357 : Ref sig .tc := ⟨.hbm, 449, rfl⟩
abbrev main_v358 : Ref sig .tc := ⟨.hbm, 450, rfl⟩
abbrev main_v359 : Ref sig .tc := ⟨.hbm, 451, rfl⟩
abbrev main_v360 : Ref sig .tc := ⟨.hbm, 452, rfl⟩
abbrev main_v361 : Ref sig .tc := ⟨.hbm, 453, rfl⟩
abbrev main_v362 : Ref sig .tc := ⟨.hbm, 454, rfl⟩
abbrev main_v363 : Ref sig .tc := ⟨.hbm, 455, rfl⟩
abbrev main_v364 : Ref sig .tc := ⟨.hbm, 456, rfl⟩
abbrev main_v365 : Ref sig .tc := ⟨.hbm, 457, rfl⟩
abbrev main_v366 : Ref sig .tc := ⟨.hbm, 458, rfl⟩
abbrev main_c_68 : Ref sig .tc := ⟨.hbm, 459, rfl⟩
abbrev main_v367 : Ref sig .tc := ⟨.hbm, 460, rfl⟩
abbrev main_v368 : Ref sig .tc := ⟨.hbm, 461, rfl⟩
abbrev main_c_69 : Ref sig .tc := ⟨.hbm, 462, rfl⟩
abbrev main_v369 : Ref sig .tc := ⟨.hbm, 463, rfl⟩
abbrev main_v370 : Ref sig .tc := ⟨.hbm, 464, rfl⟩
abbrev main_v371 : Ref sig .tc := ⟨.hbm, 465, rfl⟩
abbrev main_v372 : Ref sig .tc := ⟨.hbm, 466, rfl⟩
abbrev main_v373 : Ref sig .tc := ⟨.hbm, 467, rfl⟩
abbrev main_v374 : Ref sig .tc := ⟨.hbm, 468, rfl⟩
abbrev main_v375 : Ref sig .tc := ⟨.hbm, 469, rfl⟩
abbrev main_v376 : Ref sig .tc := ⟨.hbm, 470, rfl⟩
abbrev main_v377 : Ref sig .tc := ⟨.hbm, 471, rfl⟩
abbrev main_cst_70 : Ref sig .tc := ⟨.hbm, 472, rfl⟩
abbrev main_v378 : Ref sig .tc := ⟨.hbm, 473, rfl⟩
abbrev main_v379 : Ref sig .tc := ⟨.hbm, 474, rfl⟩
abbrev main_v380 : Ref sig .tc := ⟨.hbm, 475, rfl⟩
abbrev main_v381 : Ref sig .tc := ⟨.hbm, 476, rfl⟩
abbrev main_c_71 : Ref sig .tc := ⟨.hbm, 477, rfl⟩
abbrev main_v382 : Ref sig .tc := ⟨.hbm, 478, rfl⟩
abbrev main_v383 : Ref sig .tc := ⟨.hbm, 479, rfl⟩
abbrev main_c_72 : Ref sig .tc := ⟨.hbm, 480, rfl⟩
abbrev main_v384 : Ref sig .tc := ⟨.hbm, 481, rfl⟩
abbrev main_v385 : Ref sig .tc := ⟨.hbm, 482, rfl⟩
abbrev main_v386 : Ref sig .tc := ⟨.hbm, 483, rfl⟩
abbrev main_v387 : Ref sig .tc := ⟨.hbm, 484, rfl⟩
abbrev main_v388 : Ref sig .tc := ⟨.hbm, 485, rfl⟩
abbrev main_v389 : Ref sig .tc := ⟨.hbm, 486, rfl⟩
abbrev main_v390 : Ref sig .tc := ⟨.hbm, 487, rfl⟩
abbrev main_v391 : Ref sig .tc := ⟨.hbm, 488, rfl⟩
abbrev main_v392 : Ref sig .tc := ⟨.hbm, 489, rfl⟩
abbrev main_cst_73 : Ref sig .tc := ⟨.hbm, 490, rfl⟩
abbrev main_v393 : Ref sig .tc := ⟨.hbm, 491, rfl⟩
abbrev main_v394 : Ref sig .tc := ⟨.hbm, 492, rfl⟩
abbrev main_v395 : Ref sig .tc := ⟨.hbm, 493, rfl⟩
abbrev main_v396 : Ref sig .tc := ⟨.hbm, 494, rfl⟩
abbrev main_cst_74 : Ref sig .tc := ⟨.hbm, 495, rfl⟩
abbrev main_v397 : Ref sig .tc := ⟨.hbm, 496, rfl⟩
abbrev main_v398 : Ref sig .tc := ⟨.hbm, 497, rfl⟩
abbrev main_v399 : Ref sig .tc := ⟨.hbm, 498, rfl⟩
abbrev main_v400 : Ref sig .tc := ⟨.hbm, 499, rfl⟩
abbrev main_v401 : Ref sig .tc := ⟨.hbm, 500, rfl⟩
abbrev main_v402 : Ref sig .tc := ⟨.hbm, 501, rfl⟩
abbrev main_v403 : Ref sig .tc := ⟨.hbm, 502, rfl⟩
abbrev main_v404 : Ref sig .tc := ⟨.hbm, 503, rfl⟩
abbrev main_v405 : Ref sig .tc := ⟨.hbm, 504, rfl⟩
abbrev main_v406 : Ref sig .tc := ⟨.hbm, 505, rfl⟩
abbrev main_v407 : Ref sig .tc := ⟨.hbm, 506, rfl⟩
abbrev main_v408 : Ref sig .tc := ⟨.hbm, 507, rfl⟩
abbrev main_v409 : Ref sig .tc := ⟨.hbm, 508, rfl⟩
abbrev main_v410 : Ref sig .tc := ⟨.hbm, 509, rfl⟩
abbrev main_cst_75 : Ref sig .tc := ⟨.hbm, 510, rfl⟩
abbrev main_v411 : Ref sig .tc := ⟨.hbm, 511, rfl⟩
abbrev main_v412 : Ref sig .tc := ⟨.hbm, 512, rfl⟩
abbrev main_cst_76 : Ref sig .tc := ⟨.hbm, 513, rfl⟩
abbrev main_v413 : Ref sig .tc := ⟨.hbm, 514, rfl⟩
abbrev main_v414 : Ref sig .tc := ⟨.hbm, 515, rfl⟩
abbrev main_v415 : Ref sig .tc := ⟨.hbm, 516, rfl⟩
abbrev main_v416 : Ref sig .tc := ⟨.hbm, 517, rfl⟩
abbrev main_cst_77 : Ref sig .tc := ⟨.hbm, 518, rfl⟩
abbrev main_v417 : Ref sig .tc := ⟨.hbm, 519, rfl⟩
abbrev main_v418 : Ref sig .tc := ⟨.hbm, 520, rfl⟩
abbrev main_cst_78 : Ref sig .tc := ⟨.hbm, 521, rfl⟩
abbrev main_v419 : Ref sig .tc := ⟨.hbm, 522, rfl⟩
abbrev main_v420 : Ref sig .tc := ⟨.hbm, 523, rfl⟩
abbrev main_v421 : Ref sig .tc := ⟨.hbm, 524, rfl⟩
abbrev main_v422 : Ref sig .tc := ⟨.hbm, 525, rfl⟩
abbrev main_cst_79 : Ref sig .tc := ⟨.hbm, 526, rfl⟩
abbrev main_v423 : Ref sig .tc := ⟨.hbm, 527, rfl⟩
abbrev main_v424 : Ref sig .tc := ⟨.hbm, 528, rfl⟩
abbrev main_cst_80 : Ref sig .tc := ⟨.hbm, 529, rfl⟩
abbrev main_v425 : Ref sig .tc := ⟨.hbm, 530, rfl⟩
abbrev main_v426 : Ref sig .tc := ⟨.hbm, 531, rfl⟩
abbrev main_v427 : Ref sig .tc := ⟨.hbm, 532, rfl⟩
abbrev main_v428 : Ref sig .tc := ⟨.hbm, 533, rfl⟩
abbrev main_v429 : Ref sig .tc := ⟨.hbm, 534, rfl⟩
abbrev main_v430 : Ref sig .tc := ⟨.hbm, 535, rfl⟩
abbrev main_v431 : Ref sig .tc := ⟨.hbm, 536, rfl⟩
abbrev main_v432 : Ref sig .tc := ⟨.hbm, 537, rfl⟩
abbrev main_v433 : Ref sig .tc := ⟨.hbm, 538, rfl⟩
abbrev main_v434 : Ref sig .tc := ⟨.hbm, 539, rfl⟩
abbrev main_v435 : Ref sig .tc := ⟨.hbm, 540, rfl⟩
abbrev main_v436 : Ref sig .tc := ⟨.hbm, 541, rfl⟩
abbrev main_c_81 : Ref sig .tc := ⟨.hbm, 542, rfl⟩
abbrev main_v437 : Ref sig .tc := ⟨.hbm, 543, rfl⟩
abbrev main_v438 : Ref sig .tc := ⟨.hbm, 544, rfl⟩
abbrev main_c_82 : Ref sig .tc := ⟨.hbm, 545, rfl⟩
abbrev main_v439 : Ref sig .tc := ⟨.hbm, 546, rfl⟩
abbrev main_v440 : Ref sig .tc := ⟨.hbm, 547, rfl⟩
abbrev main_v441 : Ref sig .tc := ⟨.hbm, 548, rfl⟩
abbrev main_v442 : Ref sig .tc := ⟨.hbm, 549, rfl⟩
abbrev main_v443 : Ref sig .tc := ⟨.hbm, 550, rfl⟩
abbrev main_v444 : Ref sig .tc := ⟨.hbm, 551, rfl⟩
abbrev main_v445 : Ref sig .tc := ⟨.hbm, 552, rfl⟩
abbrev main_v446 : Ref sig .tc := ⟨.hbm, 553, rfl⟩
abbrev main_v447 : Ref sig .tc := ⟨.hbm, 554, rfl⟩
abbrev main_cst_83 : Ref sig .tc := ⟨.hbm, 555, rfl⟩
abbrev main_v448 : Ref sig .tc := ⟨.hbm, 556, rfl⟩
abbrev main_v449 : Ref sig .tc := ⟨.hbm, 557, rfl⟩
abbrev main_v450 : Ref sig .tc := ⟨.hbm, 558, rfl⟩
abbrev main_v451 : Ref sig .tc := ⟨.hbm, 559, rfl⟩
abbrev main_c_84 : Ref sig .tc := ⟨.hbm, 560, rfl⟩
abbrev main_v452 : Ref sig .tc := ⟨.hbm, 561, rfl⟩
abbrev main_v453 : Ref sig .tc := ⟨.hbm, 562, rfl⟩
abbrev main_c_85 : Ref sig .tc := ⟨.hbm, 563, rfl⟩
abbrev main_v454 : Ref sig .tc := ⟨.hbm, 564, rfl⟩
abbrev main_v455 : Ref sig .tc := ⟨.hbm, 565, rfl⟩
abbrev main_v456 : Ref sig .tc := ⟨.hbm, 566, rfl⟩
abbrev main_v457 : Ref sig .tc := ⟨.hbm, 567, rfl⟩
abbrev main_v458 : Ref sig .tc := ⟨.hbm, 568, rfl⟩
abbrev main_v459 : Ref sig .tc := ⟨.hbm, 569, rfl⟩
abbrev main_v460 : Ref sig .tc := ⟨.hbm, 570, rfl⟩
abbrev main_v461 : Ref sig .tc := ⟨.hbm, 571, rfl⟩
abbrev main_v462 : Ref sig .tc := ⟨.hbm, 572, rfl⟩
abbrev main_cst_86 : Ref sig .tc := ⟨.hbm, 573, rfl⟩
abbrev main_v463 : Ref sig .tc := ⟨.hbm, 574, rfl⟩
abbrev main_v464 : Ref sig .tc := ⟨.hbm, 575, rfl⟩
abbrev main_v465 : Ref sig .tc := ⟨.hbm, 576, rfl⟩
abbrev main_v466 : Ref sig .tc := ⟨.hbm, 577, rfl⟩
abbrev main_cst_87 : Ref sig .tc := ⟨.hbm, 578, rfl⟩
abbrev main_v467 : Ref sig .tc := ⟨.hbm, 579, rfl⟩
abbrev main_v468 : Ref sig .tc := ⟨.hbm, 580, rfl⟩
abbrev main_v469 : Ref sig .tc := ⟨.hbm, 581, rfl⟩
abbrev main_v470 : Ref sig .tc := ⟨.hbm, 582, rfl⟩
abbrev main_v471 : Ref sig .tc := ⟨.hbm, 583, rfl⟩
abbrev main_v472 : Ref sig .tc := ⟨.hbm, 584, rfl⟩
abbrev main_v473 : Ref sig .tc := ⟨.hbm, 585, rfl⟩
abbrev main_v474 : Ref sig .tc := ⟨.hbm, 586, rfl⟩
abbrev main_v475 : Ref sig .tc := ⟨.hbm, 587, rfl⟩
abbrev main_v476 : Ref sig .tc := ⟨.hbm, 588, rfl⟩
abbrev main_v477 : Ref sig .tc := ⟨.hbm, 589, rfl⟩
abbrev main_v478 : Ref sig .tc := ⟨.hbm, 590, rfl⟩
abbrev main_v479 : Ref sig .tc := ⟨.hbm, 591, rfl⟩
abbrev main_v480 : Ref sig .tc := ⟨.hbm, 592, rfl⟩
abbrev main_cst_88 : Ref sig .tc := ⟨.hbm, 593, rfl⟩
abbrev main_v481 : Ref sig .tc := ⟨.hbm, 594, rfl⟩
abbrev main_v482 : Ref sig .tc := ⟨.hbm, 595, rfl⟩
abbrev main_cst_89 : Ref sig .tc := ⟨.hbm, 596, rfl⟩
abbrev main_v483 : Ref sig .tc := ⟨.hbm, 597, rfl⟩
abbrev main_v484 : Ref sig .tc := ⟨.hbm, 598, rfl⟩
abbrev main_v485 : Ref sig .tc := ⟨.hbm, 599, rfl⟩
abbrev main_v486 : Ref sig .tc := ⟨.hbm, 600, rfl⟩
abbrev main_cst_90 : Ref sig .tc := ⟨.hbm, 601, rfl⟩
abbrev main_v487 : Ref sig .tc := ⟨.hbm, 602, rfl⟩
abbrev main_v488 : Ref sig .tc := ⟨.hbm, 603, rfl⟩
abbrev main_cst_91 : Ref sig .tc := ⟨.hbm, 604, rfl⟩
abbrev main_v489 : Ref sig .tc := ⟨.hbm, 605, rfl⟩
abbrev main_v490 : Ref sig .tc := ⟨.hbm, 606, rfl⟩
abbrev main_v491 : Ref sig .tc := ⟨.hbm, 607, rfl⟩
abbrev main_v492 : Ref sig .tc := ⟨.hbm, 608, rfl⟩
abbrev main_cst_92 : Ref sig .tc := ⟨.hbm, 609, rfl⟩
abbrev main_v493 : Ref sig .tc := ⟨.hbm, 610, rfl⟩
abbrev main_v494 : Ref sig .tc := ⟨.hbm, 611, rfl⟩
abbrev main_cst_93 : Ref sig .tc := ⟨.hbm, 612, rfl⟩
abbrev main_v495 : Ref sig .tc := ⟨.hbm, 613, rfl⟩
abbrev main_v496 : Ref sig .tc := ⟨.hbm, 614, rfl⟩
abbrev main_v497 : Ref sig .tc := ⟨.hbm, 615, rfl⟩
abbrev main_v498 : Ref sig .tc := ⟨.hbm, 616, rfl⟩
abbrev main_v499 : Ref sig .tc := ⟨.hbm, 617, rfl⟩
abbrev main_v500 : Ref sig .tc := ⟨.hbm, 618, rfl⟩
abbrev main_v501 : Ref sig .tc := ⟨.hbm, 619, rfl⟩
abbrev main_v502 : Ref sig .tc := ⟨.hbm, 620, rfl⟩
abbrev main_v503 : Ref sig .tc := ⟨.hbm, 621, rfl⟩
abbrev main_v504 : Ref sig .tc := ⟨.hbm, 622, rfl⟩
abbrev main_v505 : Ref sig .tc := ⟨.hbm, 623, rfl⟩
abbrev main_v506 : Ref sig .tc := ⟨.hbm, 624, rfl⟩
abbrev main_c_94 : Ref sig .tc := ⟨.hbm, 625, rfl⟩
abbrev main_v507 : Ref sig .tc := ⟨.hbm, 626, rfl⟩
abbrev main_v508 : Ref sig .tc := ⟨.hbm, 627, rfl⟩
abbrev main_c_95 : Ref sig .tc := ⟨.hbm, 628, rfl⟩
abbrev main_v509 : Ref sig .tc := ⟨.hbm, 629, rfl⟩
abbrev main_v510 : Ref sig .tc := ⟨.hbm, 630, rfl⟩
abbrev main_v511 : Ref sig .tc := ⟨.hbm, 631, rfl⟩
abbrev main_v512 : Ref sig .tc := ⟨.hbm, 632, rfl⟩
abbrev main_v513 : Ref sig .tc := ⟨.hbm, 633, rfl⟩
abbrev main_v514 : Ref sig .tc := ⟨.hbm, 634, rfl⟩
abbrev main_v515 : Ref sig .tc := ⟨.hbm, 635, rfl⟩
abbrev main_v516 : Ref sig .tc := ⟨.hbm, 636, rfl⟩
abbrev main_v517 : Ref sig .tc := ⟨.hbm, 637, rfl⟩
abbrev main_cst_96 : Ref sig .tc := ⟨.hbm, 638, rfl⟩
abbrev main_v518 : Ref sig .tc := ⟨.hbm, 639, rfl⟩
abbrev main_v519 : Ref sig .tc := ⟨.hbm, 640, rfl⟩
abbrev main_v520 : Ref sig .tc := ⟨.hbm, 641, rfl⟩
abbrev main_v521 : Ref sig .tc := ⟨.hbm, 642, rfl⟩
abbrev main_c_97 : Ref sig .tc := ⟨.hbm, 643, rfl⟩
abbrev main_v522 : Ref sig .tc := ⟨.hbm, 644, rfl⟩
abbrev main_v523 : Ref sig .tc := ⟨.hbm, 645, rfl⟩
abbrev main_c_98 : Ref sig .tc := ⟨.hbm, 646, rfl⟩
abbrev main_v524 : Ref sig .tc := ⟨.hbm, 647, rfl⟩
abbrev main_v525 : Ref sig .tc := ⟨.hbm, 648, rfl⟩
abbrev main_v526 : Ref sig .tc := ⟨.hbm, 649, rfl⟩
abbrev main_v527 : Ref sig .tc := ⟨.hbm, 650, rfl⟩
abbrev main_v528 : Ref sig .tc := ⟨.hbm, 651, rfl⟩
abbrev main_v529 : Ref sig .tc := ⟨.hbm, 652, rfl⟩
abbrev main_v530 : Ref sig .tc := ⟨.hbm, 653, rfl⟩
abbrev main_v531 : Ref sig .tc := ⟨.hbm, 654, rfl⟩
abbrev main_v532 : Ref sig .tc := ⟨.hbm, 655, rfl⟩
abbrev main_cst_99 : Ref sig .tc := ⟨.hbm, 656, rfl⟩
abbrev main_v533 : Ref sig .tc := ⟨.hbm, 657, rfl⟩
abbrev main_v534 : Ref sig .tc := ⟨.hbm, 658, rfl⟩
abbrev main_v535 : Ref sig .tc := ⟨.hbm, 659, rfl⟩
abbrev main_v536 : Ref sig .tc := ⟨.hbm, 660, rfl⟩
abbrev main_cst_100 : Ref sig .tc := ⟨.hbm, 661, rfl⟩
abbrev main_v537 : Ref sig .tc := ⟨.hbm, 662, rfl⟩
abbrev main_v538 : Ref sig .tc := ⟨.hbm, 663, rfl⟩
abbrev main_v539 : Ref sig .tc := ⟨.hbm, 664, rfl⟩
abbrev main_v540 : Ref sig .tc := ⟨.hbm, 665, rfl⟩
abbrev main_v541 : Ref sig .tc := ⟨.hbm, 666, rfl⟩
abbrev main_v542 : Ref sig .tc := ⟨.hbm, 667, rfl⟩
abbrev main_v543 : Ref sig .tc := ⟨.hbm, 668, rfl⟩
abbrev main_v544 : Ref sig .tc := ⟨.hbm, 669, rfl⟩
abbrev main_v545 : Ref sig .tc := ⟨.hbm, 670, rfl⟩
abbrev main_v546 : Ref sig .tc := ⟨.hbm, 671, rfl⟩
abbrev main_v547 : Ref sig .tc := ⟨.hbm, 672, rfl⟩
abbrev main_v548 : Ref sig .tc := ⟨.hbm, 673, rfl⟩
abbrev main_v549 : Ref sig .tc := ⟨.hbm, 674, rfl⟩
abbrev main_v550 : Ref sig .tc := ⟨.hbm, 675, rfl⟩
abbrev main_cst_101 : Ref sig .tc := ⟨.hbm, 676, rfl⟩
abbrev main_v551 : Ref sig .tc := ⟨.hbm, 677, rfl⟩
abbrev main_v552 : Ref sig .tc := ⟨.hbm, 678, rfl⟩
abbrev main_cst_102 : Ref sig .tc := ⟨.hbm, 679, rfl⟩
abbrev main_v553 : Ref sig .tc := ⟨.hbm, 680, rfl⟩
abbrev main_v554 : Ref sig .tc := ⟨.hbm, 681, rfl⟩
abbrev main_v555 : Ref sig .tc := ⟨.hbm, 682, rfl⟩
abbrev main_v556 : Ref sig .tc := ⟨.hbm, 683, rfl⟩
abbrev main_cst_103 : Ref sig .tc := ⟨.hbm, 684, rfl⟩
abbrev main_v557 : Ref sig .tc := ⟨.hbm, 685, rfl⟩
abbrev main_v558 : Ref sig .tc := ⟨.hbm, 686, rfl⟩
abbrev main_cst_104 : Ref sig .tc := ⟨.hbm, 687, rfl⟩
abbrev main_v559 : Ref sig .tc := ⟨.hbm, 688, rfl⟩
abbrev main_v560 : Ref sig .tc := ⟨.hbm, 689, rfl⟩
abbrev main_v561 : Ref sig .tc := ⟨.hbm, 690, rfl⟩
abbrev main_v562 : Ref sig .tc := ⟨.hbm, 691, rfl⟩
abbrev main_cst_105 : Ref sig .tc := ⟨.hbm, 692, rfl⟩
abbrev main_v563 : Ref sig .tc := ⟨.hbm, 693, rfl⟩
abbrev main_v564 : Ref sig .tc := ⟨.hbm, 694, rfl⟩
abbrev main_cst_106 : Ref sig .tc := ⟨.hbm, 695, rfl⟩
abbrev main_v565 : Ref sig .tc := ⟨.hbm, 696, rfl⟩
abbrev main_v566 : Ref sig .tc := ⟨.hbm, 697, rfl⟩
abbrev main_v567 : Ref sig .tc := ⟨.hbm, 698, rfl⟩
abbrev main_v568 : Ref sig .tc := ⟨.hbm, 699, rfl⟩
abbrev main_v569 : Ref sig .tc := ⟨.hbm, 700, rfl⟩
abbrev main_v570 : Ref sig .tc := ⟨.hbm, 701, rfl⟩
abbrev main_v571 : Ref sig .tc := ⟨.hbm, 702, rfl⟩
abbrev main_v572 : Ref sig .tc := ⟨.hbm, 703, rfl⟩
abbrev main_v573 : Ref sig .tc := ⟨.hbm, 704, rfl⟩
abbrev main_v574 : Ref sig .tc := ⟨.hbm, 705, rfl⟩
abbrev main_v575 : Ref sig .tc := ⟨.hbm, 706, rfl⟩
abbrev main_v576 : Ref sig .tc := ⟨.hbm, 707, rfl⟩
abbrev main_v577 : Ref sig .tc := ⟨.hbm, 708, rfl⟩
abbrev main_v578 : Ref sig .tc := ⟨.hbm, 709, rfl⟩
abbrev main_call1_cst : Ref sig .tc := ⟨.hbm, 710, rfl⟩
abbrev main_call1_v0 : Ref sig .tc := ⟨.hbm, 711, rfl⟩
abbrev main_v579 : Ref sig .tc := ⟨.hbm, 712, rfl⟩
abbrev main_v580 : Ref sig .tc := ⟨.hbm, 713, rfl⟩
abbrev main_cst_107 : Ref sig .tc := ⟨.hbm, 714, rfl⟩
abbrev main_v581 : Ref sig .tc := ⟨.hbm, 715, rfl⟩
abbrev main_cst_108 : Ref sig .tc := ⟨.hbm, 716, rfl⟩
abbrev main_v582 : Ref sig .tc := ⟨.hbm, 717, rfl⟩
abbrev main_cst_109 : Ref sig .tc := ⟨.hbm, 718, rfl⟩
abbrev main_v583 : Ref sig .tc := ⟨.hbm, 719, rfl⟩
abbrev main_v584 : Ref sig .tc := ⟨.hbm, 720, rfl⟩
abbrev main_v585 : Ref sig .tc := ⟨.hbm, 721, rfl⟩
abbrev main_v586 : Ref sig .tc := ⟨.hbm, 722, rfl⟩
abbrev main_v587 : Ref sig .tc := ⟨.hbm, 723, rfl⟩
abbrev main_c_110 : Ref sig .tc := ⟨.hbm, 724, rfl⟩
abbrev main_v588 : Ref sig .tc := ⟨.hbm, 725, rfl⟩
abbrev main_v589 : Ref sig .tc := ⟨.hbm, 726, rfl⟩
abbrev main_c_111 : Ref sig .tc := ⟨.hbm, 727, rfl⟩
abbrev main_v590 : Ref sig .tc := ⟨.hbm, 728, rfl⟩
abbrev main_v591 : Ref sig .tc := ⟨.hbm, 729, rfl⟩
abbrev main_v592 : Ref sig .tc := ⟨.hbm, 730, rfl⟩
abbrev main_v593 : Ref sig .tc := ⟨.hbm, 731, rfl⟩
abbrev main_v594 : Ref sig .tc := ⟨.hbm, 732, rfl⟩
abbrev main_v595 : Ref sig .tc := ⟨.hbm, 733, rfl⟩
abbrev main_v596 : Ref sig .tc := ⟨.hbm, 734, rfl⟩
abbrev main_v597 : Ref sig .tc := ⟨.hbm, 735, rfl⟩
abbrev main_v598 : Ref sig .tc := ⟨.hbm, 736, rfl⟩
abbrev main_cst_112 : Ref sig .tc := ⟨.hbm, 737, rfl⟩
abbrev main_v599 : Ref sig .tc := ⟨.hbm, 738, rfl⟩
abbrev main_v600 : Ref sig .tc := ⟨.hbm, 739, rfl⟩
abbrev main_v601 : Ref sig .tc := ⟨.hbm, 740, rfl⟩
abbrev main_v602 : Ref sig .tc := ⟨.hbm, 741, rfl⟩
abbrev main_c_113 : Ref sig .tc := ⟨.hbm, 742, rfl⟩
abbrev main_v603 : Ref sig .tc := ⟨.hbm, 743, rfl⟩
abbrev main_v604 : Ref sig .tc := ⟨.hbm, 744, rfl⟩
abbrev main_c_114 : Ref sig .tc := ⟨.hbm, 745, rfl⟩
abbrev main_v605 : Ref sig .tc := ⟨.hbm, 746, rfl⟩
abbrev main_v606 : Ref sig .tc := ⟨.hbm, 747, rfl⟩
abbrev main_v607 : Ref sig .tc := ⟨.hbm, 748, rfl⟩
abbrev main_v608 : Ref sig .tc := ⟨.hbm, 749, rfl⟩
abbrev main_v609 : Ref sig .tc := ⟨.hbm, 750, rfl⟩
abbrev main_v610 : Ref sig .tc := ⟨.hbm, 751, rfl⟩
abbrev main_v611 : Ref sig .tc := ⟨.hbm, 752, rfl⟩
abbrev main_v612 : Ref sig .tc := ⟨.hbm, 753, rfl⟩
abbrev main_v613 : Ref sig .tc := ⟨.hbm, 754, rfl⟩
abbrev main_cst_115 : Ref sig .tc := ⟨.hbm, 755, rfl⟩
abbrev main_v614 : Ref sig .tc := ⟨.hbm, 756, rfl⟩
abbrev main_v615 : Ref sig .tc := ⟨.hbm, 757, rfl⟩
abbrev main_v616 : Ref sig .tc := ⟨.hbm, 758, rfl⟩
abbrev main_v617 : Ref sig .tc := ⟨.hbm, 759, rfl⟩
abbrev main_cst_116 : Ref sig .tc := ⟨.hbm, 760, rfl⟩
abbrev main_v618 : Ref sig .tc := ⟨.hbm, 761, rfl⟩
abbrev main_v619 : Ref sig .tc := ⟨.hbm, 762, rfl⟩
abbrev main_v620 : Ref sig .tc := ⟨.hbm, 763, rfl⟩
abbrev main_v621 : Ref sig .tc := ⟨.hbm, 764, rfl⟩
abbrev main_v622 : Ref sig .tc := ⟨.hbm, 765, rfl⟩
abbrev main_v623 : Ref sig .tc := ⟨.hbm, 766, rfl⟩
abbrev main_v624 : Ref sig .tc := ⟨.hbm, 767, rfl⟩
abbrev main_v625 : Ref sig .tc := ⟨.hbm, 768, rfl⟩
abbrev main_v626 : Ref sig .tc := ⟨.hbm, 769, rfl⟩
abbrev main_v627 : Ref sig .tc := ⟨.hbm, 770, rfl⟩
abbrev main_v628 : Ref sig .tc := ⟨.hbm, 771, rfl⟩
abbrev main_v629 : Ref sig .tc := ⟨.hbm, 772, rfl⟩
abbrev main_v630 : Ref sig .tc := ⟨.hbm, 773, rfl⟩
abbrev main_v631 : Ref sig .tc := ⟨.hbm, 774, rfl⟩
abbrev main_cst_117 : Ref sig .tc := ⟨.hbm, 775, rfl⟩
abbrev main_v632 : Ref sig .tc := ⟨.hbm, 776, rfl⟩
abbrev main_v633 : Ref sig .tc := ⟨.hbm, 777, rfl⟩
abbrev main_cst_118 : Ref sig .tc := ⟨.hbm, 778, rfl⟩
abbrev main_v634 : Ref sig .tc := ⟨.hbm, 779, rfl⟩
abbrev main_v635 : Ref sig .tc := ⟨.hbm, 780, rfl⟩
abbrev main_v636 : Ref sig .tc := ⟨.hbm, 781, rfl⟩
abbrev main_v637 : Ref sig .tc := ⟨.hbm, 782, rfl⟩
abbrev main_cst_119 : Ref sig .tc := ⟨.hbm, 783, rfl⟩
abbrev main_v638 : Ref sig .tc := ⟨.hbm, 784, rfl⟩
abbrev main_v639 : Ref sig .tc := ⟨.hbm, 785, rfl⟩
abbrev main_cst_120 : Ref sig .tc := ⟨.hbm, 786, rfl⟩
abbrev main_v640 : Ref sig .tc := ⟨.hbm, 787, rfl⟩
abbrev main_v641 : Ref sig .tc := ⟨.hbm, 788, rfl⟩
abbrev main_v642 : Ref sig .tc := ⟨.hbm, 789, rfl⟩
abbrev main_v643 : Ref sig .tc := ⟨.hbm, 790, rfl⟩
abbrev main_cst_121 : Ref sig .tc := ⟨.hbm, 791, rfl⟩
abbrev main_v644 : Ref sig .tc := ⟨.hbm, 792, rfl⟩
abbrev main_v645 : Ref sig .tc := ⟨.hbm, 793, rfl⟩
abbrev main_cst_122 : Ref sig .tc := ⟨.hbm, 794, rfl⟩
abbrev main_v646 : Ref sig .tc := ⟨.hbm, 795, rfl⟩
abbrev main_v647 : Ref sig .tc := ⟨.hbm, 796, rfl⟩
abbrev main_v648 : Ref sig .tc := ⟨.hbm, 797, rfl⟩
abbrev main_v649 : Ref sig .tc := ⟨.hbm, 798, rfl⟩
abbrev main_v650 : Ref sig .tc := ⟨.hbm, 799, rfl⟩
abbrev main_v651 : Ref sig .tc := ⟨.hbm, 800, rfl⟩
abbrev main_v652 : Ref sig .tc := ⟨.hbm, 801, rfl⟩
abbrev main_v653 : Ref sig .tc := ⟨.hbm, 802, rfl⟩
abbrev main_v654 : Ref sig .tc := ⟨.hbm, 803, rfl⟩
abbrev main_v655 : Ref sig .tc := ⟨.hbm, 804, rfl⟩
abbrev main_v656 : Ref sig .tc := ⟨.hbm, 805, rfl⟩
abbrev main_v657 : Ref sig .tc := ⟨.hbm, 806, rfl⟩
abbrev main_c_123 : Ref sig .tc := ⟨.hbm, 807, rfl⟩
abbrev main_v658 : Ref sig .tc := ⟨.hbm, 808, rfl⟩
abbrev main_v659 : Ref sig .tc := ⟨.hbm, 809, rfl⟩
abbrev main_c_124 : Ref sig .tc := ⟨.hbm, 810, rfl⟩
abbrev main_v660 : Ref sig .tc := ⟨.hbm, 811, rfl⟩
abbrev main_v661 : Ref sig .tc := ⟨.hbm, 812, rfl⟩
abbrev main_v662 : Ref sig .tc := ⟨.hbm, 813, rfl⟩
abbrev main_v663 : Ref sig .tc := ⟨.hbm, 814, rfl⟩
abbrev main_v664 : Ref sig .tc := ⟨.hbm, 815, rfl⟩
abbrev main_v665 : Ref sig .tc := ⟨.hbm, 816, rfl⟩
abbrev main_v666 : Ref sig .tc := ⟨.hbm, 817, rfl⟩
abbrev main_v667 : Ref sig .tc := ⟨.hbm, 818, rfl⟩
abbrev main_v668 : Ref sig .tc := ⟨.hbm, 819, rfl⟩
abbrev main_cst_125 : Ref sig .tc := ⟨.hbm, 820, rfl⟩
abbrev main_v669 : Ref sig .tc := ⟨.hbm, 821, rfl⟩
abbrev main_v670 : Ref sig .tc := ⟨.hbm, 822, rfl⟩
abbrev main_v671 : Ref sig .tc := ⟨.hbm, 823, rfl⟩
abbrev main_v672 : Ref sig .tc := ⟨.hbm, 824, rfl⟩
abbrev main_c_126 : Ref sig .tc := ⟨.hbm, 825, rfl⟩
abbrev main_v673 : Ref sig .tc := ⟨.hbm, 826, rfl⟩
abbrev main_v674 : Ref sig .tc := ⟨.hbm, 827, rfl⟩
abbrev main_c_127 : Ref sig .tc := ⟨.hbm, 828, rfl⟩
abbrev main_v675 : Ref sig .tc := ⟨.hbm, 829, rfl⟩
abbrev main_v676 : Ref sig .tc := ⟨.hbm, 830, rfl⟩
abbrev main_v677 : Ref sig .tc := ⟨.hbm, 831, rfl⟩
abbrev main_v678 : Ref sig .tc := ⟨.hbm, 832, rfl⟩
abbrev main_v679 : Ref sig .tc := ⟨.hbm, 833, rfl⟩
abbrev main_v680 : Ref sig .tc := ⟨.hbm, 834, rfl⟩
abbrev main_v681 : Ref sig .tc := ⟨.hbm, 835, rfl⟩
abbrev main_v682 : Ref sig .tc := ⟨.hbm, 836, rfl⟩
abbrev main_v683 : Ref sig .tc := ⟨.hbm, 837, rfl⟩
abbrev main_cst_128 : Ref sig .tc := ⟨.hbm, 838, rfl⟩
abbrev main_v684 : Ref sig .tc := ⟨.hbm, 839, rfl⟩
abbrev main_v685 : Ref sig .tc := ⟨.hbm, 840, rfl⟩
abbrev main_v686 : Ref sig .tc := ⟨.hbm, 841, rfl⟩
abbrev main_v687 : Ref sig .tc := ⟨.hbm, 842, rfl⟩
abbrev main_cst_129 : Ref sig .tc := ⟨.hbm, 843, rfl⟩
abbrev main_v688 : Ref sig .tc := ⟨.hbm, 844, rfl⟩
abbrev main_v689 : Ref sig .tc := ⟨.hbm, 845, rfl⟩
abbrev main_v690 : Ref sig .tc := ⟨.hbm, 846, rfl⟩
abbrev main_v691 : Ref sig .tc := ⟨.hbm, 847, rfl⟩
abbrev main_v692 : Ref sig .tc := ⟨.hbm, 848, rfl⟩
abbrev main_v693 : Ref sig .tc := ⟨.hbm, 849, rfl⟩
abbrev main_v694 : Ref sig .tc := ⟨.hbm, 850, rfl⟩
abbrev main_v695 : Ref sig .tc := ⟨.hbm, 851, rfl⟩
abbrev main_v696 : Ref sig .tc := ⟨.hbm, 852, rfl⟩
abbrev main_v697 : Ref sig .tc := ⟨.hbm, 853, rfl⟩
abbrev main_v698 : Ref sig .tc := ⟨.hbm, 854, rfl⟩
abbrev main_v699 : Ref sig .tc := ⟨.hbm, 855, rfl⟩
abbrev main_v700 : Ref sig .tc := ⟨.hbm, 856, rfl⟩
abbrev main_v701 : Ref sig .tc := ⟨.hbm, 857, rfl⟩
abbrev main_cst_130 : Ref sig .tc := ⟨.hbm, 858, rfl⟩
abbrev main_v702 : Ref sig .tc := ⟨.hbm, 859, rfl⟩
abbrev main_v703 : Ref sig .tc := ⟨.hbm, 860, rfl⟩
abbrev main_cst_131 : Ref sig .tc := ⟨.hbm, 861, rfl⟩
abbrev main_v704 : Ref sig .tc := ⟨.hbm, 862, rfl⟩
abbrev main_v705 : Ref sig .tc := ⟨.hbm, 863, rfl⟩
abbrev main_v706 : Ref sig .tc := ⟨.hbm, 864, rfl⟩
abbrev main_v707 : Ref sig .tc := ⟨.hbm, 865, rfl⟩
abbrev main_cst_132 : Ref sig .tc := ⟨.hbm, 866, rfl⟩
abbrev main_v708 : Ref sig .tc := ⟨.hbm, 867, rfl⟩
abbrev main_v709 : Ref sig .tc := ⟨.hbm, 868, rfl⟩
abbrev main_cst_133 : Ref sig .tc := ⟨.hbm, 869, rfl⟩
abbrev main_v710 : Ref sig .tc := ⟨.hbm, 870, rfl⟩
abbrev main_v711 : Ref sig .tc := ⟨.hbm, 871, rfl⟩
abbrev main_v712 : Ref sig .tc := ⟨.hbm, 872, rfl⟩
abbrev main_v713 : Ref sig .tc := ⟨.hbm, 873, rfl⟩
abbrev main_cst_134 : Ref sig .tc := ⟨.hbm, 874, rfl⟩
abbrev main_v714 : Ref sig .tc := ⟨.hbm, 875, rfl⟩
abbrev main_v715 : Ref sig .tc := ⟨.hbm, 876, rfl⟩
abbrev main_cst_135 : Ref sig .tc := ⟨.hbm, 877, rfl⟩
abbrev main_v716 : Ref sig .tc := ⟨.hbm, 878, rfl⟩
abbrev main_v717 : Ref sig .tc := ⟨.hbm, 879, rfl⟩
abbrev main_v718 : Ref sig .tc := ⟨.hbm, 880, rfl⟩
abbrev main_v719 : Ref sig .tc := ⟨.hbm, 881, rfl⟩
abbrev main_v720 : Ref sig .tc := ⟨.hbm, 882, rfl⟩
abbrev main_v721 : Ref sig .tc := ⟨.hbm, 883, rfl⟩
abbrev main_v722 : Ref sig .tc := ⟨.hbm, 884, rfl⟩
abbrev main_v723 : Ref sig .tc := ⟨.hbm, 885, rfl⟩
abbrev main_v724 : Ref sig .tc := ⟨.hbm, 886, rfl⟩
abbrev main_v725 : Ref sig .tc := ⟨.hbm, 887, rfl⟩
abbrev main_v726 : Ref sig .tc := ⟨.hbm, 888, rfl⟩
abbrev main_v727 : Ref sig .tc := ⟨.hbm, 889, rfl⟩
abbrev main_c_136 : Ref sig .tc := ⟨.hbm, 890, rfl⟩
abbrev main_v728 : Ref sig .tc := ⟨.hbm, 891, rfl⟩
abbrev main_v729 : Ref sig .tc := ⟨.hbm, 892, rfl⟩
abbrev main_c_137 : Ref sig .tc := ⟨.hbm, 893, rfl⟩
abbrev main_v730 : Ref sig .tc := ⟨.hbm, 894, rfl⟩
abbrev main_v731 : Ref sig .tc := ⟨.hbm, 895, rfl⟩
abbrev main_v732 : Ref sig .tc := ⟨.hbm, 896, rfl⟩
abbrev main_v733 : Ref sig .tc := ⟨.hbm, 897, rfl⟩
abbrev main_v734 : Ref sig .tc := ⟨.hbm, 898, rfl⟩
abbrev main_v735 : Ref sig .tc := ⟨.hbm, 899, rfl⟩
abbrev main_v736 : Ref sig .tc := ⟨.hbm, 900, rfl⟩
abbrev main_v737 : Ref sig .tc := ⟨.hbm, 901, rfl⟩
abbrev main_v738 : Ref sig .tc := ⟨.hbm, 902, rfl⟩
abbrev main_cst_138 : Ref sig .tc := ⟨.hbm, 903, rfl⟩
abbrev main_v739 : Ref sig .tc := ⟨.hbm, 904, rfl⟩
abbrev main_v740 : Ref sig .tc := ⟨.hbm, 905, rfl⟩
abbrev main_v741 : Ref sig .tc := ⟨.hbm, 906, rfl⟩
abbrev main_v742 : Ref sig .tc := ⟨.hbm, 907, rfl⟩
abbrev main_c_139 : Ref sig .tc := ⟨.hbm, 908, rfl⟩
abbrev main_v743 : Ref sig .tc := ⟨.hbm, 909, rfl⟩
abbrev main_v744 : Ref sig .tc := ⟨.hbm, 910, rfl⟩
abbrev main_c_140 : Ref sig .tc := ⟨.hbm, 911, rfl⟩
abbrev main_v745 : Ref sig .tc := ⟨.hbm, 912, rfl⟩
abbrev main_v746 : Ref sig .tc := ⟨.hbm, 913, rfl⟩
abbrev main_v747 : Ref sig .tc := ⟨.hbm, 914, rfl⟩
abbrev main_v748 : Ref sig .tc := ⟨.hbm, 915, rfl⟩
abbrev main_v749 : Ref sig .tc := ⟨.hbm, 916, rfl⟩
abbrev main_v750 : Ref sig .tc := ⟨.hbm, 917, rfl⟩
abbrev main_v751 : Ref sig .tc := ⟨.hbm, 918, rfl⟩
abbrev main_v752 : Ref sig .tc := ⟨.hbm, 919, rfl⟩
abbrev main_v753 : Ref sig .tc := ⟨.hbm, 920, rfl⟩
abbrev main_cst_141 : Ref sig .tc := ⟨.hbm, 921, rfl⟩
abbrev main_v754 : Ref sig .tc := ⟨.hbm, 922, rfl⟩
abbrev main_v755 : Ref sig .tc := ⟨.hbm, 923, rfl⟩
abbrev main_v756 : Ref sig .tc := ⟨.hbm, 924, rfl⟩
abbrev main_v757 : Ref sig .tc := ⟨.hbm, 925, rfl⟩
abbrev main_cst_142 : Ref sig .tc := ⟨.hbm, 926, rfl⟩
abbrev main_v758 : Ref sig .tc := ⟨.hbm, 927, rfl⟩
abbrev main_v759 : Ref sig .tc := ⟨.hbm, 928, rfl⟩
abbrev main_v760 : Ref sig .tc := ⟨.hbm, 929, rfl⟩
abbrev main_v761 : Ref sig .tc := ⟨.hbm, 930, rfl⟩
abbrev main_v762 : Ref sig .tc := ⟨.hbm, 931, rfl⟩
abbrev main_v763 : Ref sig .tc := ⟨.hbm, 932, rfl⟩
abbrev main_v764 : Ref sig .tc := ⟨.hbm, 933, rfl⟩
abbrev main_v765 : Ref sig .tc := ⟨.hbm, 934, rfl⟩
abbrev main_v766 : Ref sig .tc := ⟨.hbm, 935, rfl⟩
abbrev main_v767 : Ref sig .tc := ⟨.hbm, 936, rfl⟩
abbrev main_v768 : Ref sig .tc := ⟨.hbm, 937, rfl⟩
abbrev main_v769 : Ref sig .tc := ⟨.hbm, 938, rfl⟩
abbrev main_v770 : Ref sig .tc := ⟨.hbm, 939, rfl⟩
abbrev main_v771 : Ref sig .tc := ⟨.hbm, 940, rfl⟩
abbrev main_cst_143 : Ref sig .tc := ⟨.hbm, 941, rfl⟩
abbrev main_v772 : Ref sig .tc := ⟨.hbm, 942, rfl⟩
abbrev main_v773 : Ref sig .tc := ⟨.hbm, 943, rfl⟩
abbrev main_cst_144 : Ref sig .tc := ⟨.hbm, 944, rfl⟩
abbrev main_v774 : Ref sig .tc := ⟨.hbm, 945, rfl⟩
abbrev main_v775 : Ref sig .tc := ⟨.hbm, 946, rfl⟩
abbrev main_v776 : Ref sig .tc := ⟨.hbm, 947, rfl⟩
abbrev main_v777 : Ref sig .tc := ⟨.hbm, 948, rfl⟩
abbrev main_cst_145 : Ref sig .tc := ⟨.hbm, 949, rfl⟩
abbrev main_v778 : Ref sig .tc := ⟨.hbm, 950, rfl⟩
abbrev main_v779 : Ref sig .tc := ⟨.hbm, 951, rfl⟩
abbrev main_cst_146 : Ref sig .tc := ⟨.hbm, 952, rfl⟩
abbrev main_v780 : Ref sig .tc := ⟨.hbm, 953, rfl⟩
abbrev main_v781 : Ref sig .tc := ⟨.hbm, 954, rfl⟩
abbrev main_v782 : Ref sig .tc := ⟨.hbm, 955, rfl⟩
abbrev main_v783 : Ref sig .tc := ⟨.hbm, 956, rfl⟩
abbrev main_cst_147 : Ref sig .tc := ⟨.hbm, 957, rfl⟩
abbrev main_v784 : Ref sig .tc := ⟨.hbm, 958, rfl⟩
abbrev main_v785 : Ref sig .tc := ⟨.hbm, 959, rfl⟩
abbrev main_cst_148 : Ref sig .tc := ⟨.hbm, 960, rfl⟩
abbrev main_v786 : Ref sig .tc := ⟨.hbm, 961, rfl⟩
abbrev main_v787 : Ref sig .tc := ⟨.hbm, 962, rfl⟩
abbrev main_v788 : Ref sig .tc := ⟨.hbm, 963, rfl⟩
abbrev main_v789 : Ref sig .tc := ⟨.hbm, 964, rfl⟩
abbrev main_v790 : Ref sig .tc := ⟨.hbm, 965, rfl⟩
abbrev main_v791 : Ref sig .tc := ⟨.hbm, 966, rfl⟩
abbrev main_v792 : Ref sig .tc := ⟨.hbm, 967, rfl⟩
abbrev main_v793 : Ref sig .tc := ⟨.hbm, 968, rfl⟩
abbrev main_v794 : Ref sig .tc := ⟨.hbm, 969, rfl⟩
abbrev main_v795 : Ref sig .tc := ⟨.hbm, 970, rfl⟩
abbrev main_v796 : Ref sig .tc := ⟨.hbm, 971, rfl⟩
abbrev main_v797 : Ref sig .tc := ⟨.hbm, 972, rfl⟩
abbrev main_c_149 : Ref sig .tc := ⟨.hbm, 973, rfl⟩
abbrev main_v798 : Ref sig .tc := ⟨.hbm, 974, rfl⟩
abbrev main_v799 : Ref sig .tc := ⟨.hbm, 975, rfl⟩
abbrev main_c_150 : Ref sig .tc := ⟨.hbm, 976, rfl⟩
abbrev main_v800 : Ref sig .tc := ⟨.hbm, 977, rfl⟩
abbrev main_v801 : Ref sig .tc := ⟨.hbm, 978, rfl⟩
abbrev main_v802 : Ref sig .tc := ⟨.hbm, 979, rfl⟩
abbrev main_v803 : Ref sig .tc := ⟨.hbm, 980, rfl⟩
abbrev main_v804 : Ref sig .tc := ⟨.hbm, 981, rfl⟩
abbrev main_v805 : Ref sig .tc := ⟨.hbm, 982, rfl⟩
abbrev main_v806 : Ref sig .tc := ⟨.hbm, 983, rfl⟩
abbrev main_v807 : Ref sig .tc := ⟨.hbm, 984, rfl⟩
abbrev main_v808 : Ref sig .tc := ⟨.hbm, 985, rfl⟩
abbrev main_cst_151 : Ref sig .tc := ⟨.hbm, 986, rfl⟩
abbrev main_v809 : Ref sig .tc := ⟨.hbm, 987, rfl⟩
abbrev main_v810 : Ref sig .tc := ⟨.hbm, 988, rfl⟩
abbrev main_v811 : Ref sig .tc := ⟨.hbm, 989, rfl⟩
abbrev main_v812 : Ref sig .tc := ⟨.hbm, 990, rfl⟩
abbrev main_c_152 : Ref sig .tc := ⟨.hbm, 991, rfl⟩
abbrev main_v813 : Ref sig .tc := ⟨.hbm, 992, rfl⟩
abbrev main_v814 : Ref sig .tc := ⟨.hbm, 993, rfl⟩
abbrev main_c_153 : Ref sig .tc := ⟨.hbm, 994, rfl⟩
abbrev main_v815 : Ref sig .tc := ⟨.hbm, 995, rfl⟩
abbrev main_v816 : Ref sig .tc := ⟨.hbm, 996, rfl⟩
abbrev main_v817 : Ref sig .tc := ⟨.hbm, 997, rfl⟩
abbrev main_v818 : Ref sig .tc := ⟨.hbm, 998, rfl⟩
abbrev main_v819 : Ref sig .tc := ⟨.hbm, 999, rfl⟩
abbrev main_v820 : Ref sig .tc := ⟨.hbm, 1000, rfl⟩
abbrev main_v821 : Ref sig .tc := ⟨.hbm, 1001, rfl⟩
abbrev main_v822 : Ref sig .tc := ⟨.hbm, 1002, rfl⟩
abbrev main_v823 : Ref sig .tc := ⟨.hbm, 1003, rfl⟩
abbrev main_cst_154 : Ref sig .tc := ⟨.hbm, 1004, rfl⟩
abbrev main_v824 : Ref sig .tc := ⟨.hbm, 1005, rfl⟩
abbrev main_v825 : Ref sig .tc := ⟨.hbm, 1006, rfl⟩
abbrev main_v826 : Ref sig .tc := ⟨.hbm, 1007, rfl⟩
abbrev main_v827 : Ref sig .tc := ⟨.hbm, 1008, rfl⟩
abbrev main_cst_155 : Ref sig .tc := ⟨.hbm, 1009, rfl⟩
abbrev main_v828 : Ref sig .tc := ⟨.hbm, 1010, rfl⟩
abbrev main_v829 : Ref sig .tc := ⟨.hbm, 1011, rfl⟩
abbrev main_v830 : Ref sig .tc := ⟨.hbm, 1012, rfl⟩
abbrev main_v831 : Ref sig .tc := ⟨.hbm, 1013, rfl⟩
abbrev main_v832 : Ref sig .tc := ⟨.hbm, 1014, rfl⟩
abbrev main_v833 : Ref sig .tc := ⟨.hbm, 1015, rfl⟩
abbrev main_v834 : Ref sig .tc := ⟨.hbm, 1016, rfl⟩
abbrev main_v835 : Ref sig .tc := ⟨.hbm, 1017, rfl⟩
abbrev main_v836 : Ref sig .tc := ⟨.hbm, 1018, rfl⟩
abbrev main_v837 : Ref sig .tc := ⟨.hbm, 1019, rfl⟩
abbrev main_v838 : Ref sig .tc := ⟨.hbm, 1020, rfl⟩
abbrev main_v839 : Ref sig .tc := ⟨.hbm, 1021, rfl⟩
abbrev main_v840 : Ref sig .tc := ⟨.hbm, 1022, rfl⟩
abbrev main_v841 : Ref sig .tc := ⟨.hbm, 1023, rfl⟩
abbrev main_cst_156 : Ref sig .tc := ⟨.hbm, 1024, rfl⟩
abbrev main_v842 : Ref sig .tc := ⟨.hbm, 1025, rfl⟩
abbrev main_v843 : Ref sig .tc := ⟨.hbm, 1026, rfl⟩
abbrev main_cst_157 : Ref sig .tc := ⟨.hbm, 1027, rfl⟩
abbrev main_v844 : Ref sig .tc := ⟨.hbm, 1028, rfl⟩
abbrev main_v845 : Ref sig .tc := ⟨.hbm, 1029, rfl⟩
abbrev main_v846 : Ref sig .tc := ⟨.hbm, 1030, rfl⟩
abbrev main_v847 : Ref sig .tc := ⟨.hbm, 1031, rfl⟩
abbrev main_cst_158 : Ref sig .tc := ⟨.hbm, 1032, rfl⟩
abbrev main_v848 : Ref sig .tc := ⟨.hbm, 1033, rfl⟩
abbrev main_v849 : Ref sig .tc := ⟨.hbm, 1034, rfl⟩
abbrev main_cst_159 : Ref sig .tc := ⟨.hbm, 1035, rfl⟩
abbrev main_v850 : Ref sig .tc := ⟨.hbm, 1036, rfl⟩
abbrev main_v851 : Ref sig .tc := ⟨.hbm, 1037, rfl⟩
abbrev main_v852 : Ref sig .tc := ⟨.hbm, 1038, rfl⟩
abbrev main_v853 : Ref sig .tc := ⟨.hbm, 1039, rfl⟩
abbrev main_cst_160 : Ref sig .tc := ⟨.hbm, 1040, rfl⟩
abbrev main_v854 : Ref sig .tc := ⟨.hbm, 1041, rfl⟩
abbrev main_v855 : Ref sig .tc := ⟨.hbm, 1042, rfl⟩
abbrev main_cst_161 : Ref sig .tc := ⟨.hbm, 1043, rfl⟩
abbrev main_v856 : Ref sig .tc := ⟨.hbm, 1044, rfl⟩
abbrev main_v857 : Ref sig .tc := ⟨.hbm, 1045, rfl⟩
abbrev main_v858 : Ref sig .tc := ⟨.hbm, 1046, rfl⟩
abbrev main_v859 : Ref sig .tc := ⟨.hbm, 1047, rfl⟩
abbrev main_v860 : Ref sig .tc := ⟨.hbm, 1048, rfl⟩
abbrev main_v861 : Ref sig .tc := ⟨.hbm, 1049, rfl⟩
abbrev main_v862 : Ref sig .tc := ⟨.hbm, 1050, rfl⟩
abbrev main_v863 : Ref sig .tc := ⟨.hbm, 1051, rfl⟩
abbrev main_v864 : Ref sig .tc := ⟨.hbm, 1052, rfl⟩
abbrev main_v865 : Ref sig .tc := ⟨.hbm, 1053, rfl⟩
abbrev main_v866 : Ref sig .tc := ⟨.hbm, 1054, rfl⟩
abbrev main_v867 : Ref sig .tc := ⟨.hbm, 1055, rfl⟩
abbrev main_v868 : Ref sig .tc := ⟨.hbm, 1056, rfl⟩
abbrev main_v869 : Ref sig .tc := ⟨.hbm, 1057, rfl⟩
abbrev main_call2_cst : Ref sig .tc := ⟨.hbm, 1058, rfl⟩
abbrev main_call2_v0 : Ref sig .tc := ⟨.hbm, 1059, rfl⟩
abbrev main_v870 : Ref sig .tc := ⟨.hbm, 1060, rfl⟩
abbrev main_v871 : Ref sig .tc := ⟨.hbm, 1061, rfl⟩
abbrev main_v872 : Ref sig .tc := ⟨.hbm, 1062, rfl⟩
abbrev main_cst_162 : Ref sig .tc := ⟨.hbm, 1063, rfl⟩
abbrev main_v873 : Ref sig .tc := ⟨.hbm, 1064, rfl⟩
abbrev main_cst_163 : Ref sig .tc := ⟨.hbm, 1065, rfl⟩
abbrev main_v874 : Ref sig .tc := ⟨.hbm, 1066, rfl⟩
abbrev main_v875 : Ref sig .tc := ⟨.hbm, 1067, rfl⟩
abbrev main_v876 : Ref sig .tc := ⟨.hbm, 1068, rfl⟩
abbrev main_v877 : Ref sig .tc := ⟨.hbm, 1069, rfl⟩
abbrev main_v878 : Ref sig .tc := ⟨.hbm, 1070, rfl⟩
abbrev main_c_164 : Ref sig .tc := ⟨.hbm, 1071, rfl⟩
abbrev main_v879 : Ref sig .tc := ⟨.hbm, 1072, rfl⟩
abbrev main_v880 : Ref sig .tc := ⟨.hbm, 1073, rfl⟩
abbrev main_c_165 : Ref sig .tc := ⟨.hbm, 1074, rfl⟩
abbrev main_v881 : Ref sig .tc := ⟨.hbm, 1075, rfl⟩
abbrev main_v882 : Ref sig .tc := ⟨.hbm, 1076, rfl⟩
abbrev main_v883 : Ref sig .tc := ⟨.hbm, 1077, rfl⟩
abbrev main_v884 : Ref sig .tc := ⟨.hbm, 1078, rfl⟩
abbrev main_v885 : Ref sig .tc := ⟨.hbm, 1079, rfl⟩
abbrev main_v886 : Ref sig .tc := ⟨.hbm, 1080, rfl⟩
abbrev main_v887 : Ref sig .tc := ⟨.hbm, 1081, rfl⟩
abbrev main_v888 : Ref sig .tc := ⟨.hbm, 1082, rfl⟩
abbrev main_v889 : Ref sig .tc := ⟨.hbm, 1083, rfl⟩
abbrev main_cst_166 : Ref sig .tc := ⟨.hbm, 1084, rfl⟩
abbrev main_v890 : Ref sig .tc := ⟨.hbm, 1085, rfl⟩
abbrev main_v891 : Ref sig .tc := ⟨.hbm, 1086, rfl⟩
abbrev main_v892 : Ref sig .tc := ⟨.hbm, 1087, rfl⟩
abbrev main_v893 : Ref sig .tc := ⟨.hbm, 1088, rfl⟩
abbrev main_c_167 : Ref sig .tc := ⟨.hbm, 1089, rfl⟩
abbrev main_v894 : Ref sig .tc := ⟨.hbm, 1090, rfl⟩
abbrev main_v895 : Ref sig .tc := ⟨.hbm, 1091, rfl⟩
abbrev main_c_168 : Ref sig .tc := ⟨.hbm, 1092, rfl⟩
abbrev main_v896 : Ref sig .tc := ⟨.hbm, 1093, rfl⟩
abbrev main_v897 : Ref sig .tc := ⟨.hbm, 1094, rfl⟩
abbrev main_v898 : Ref sig .tc := ⟨.hbm, 1095, rfl⟩
abbrev main_v899 : Ref sig .tc := ⟨.hbm, 1096, rfl⟩
abbrev main_v900 : Ref sig .tc := ⟨.hbm, 1097, rfl⟩
abbrev main_v901 : Ref sig .tc := ⟨.hbm, 1098, rfl⟩
abbrev main_v902 : Ref sig .tc := ⟨.hbm, 1099, rfl⟩
abbrev main_v903 : Ref sig .tc := ⟨.hbm, 1100, rfl⟩
abbrev main_v904 : Ref sig .tc := ⟨.hbm, 1101, rfl⟩
abbrev main_cst_169 : Ref sig .tc := ⟨.hbm, 1102, rfl⟩
abbrev main_v905 : Ref sig .tc := ⟨.hbm, 1103, rfl⟩
abbrev main_v906 : Ref sig .tc := ⟨.hbm, 1104, rfl⟩
abbrev main_v907 : Ref sig .tc := ⟨.hbm, 1105, rfl⟩
abbrev main_v908 : Ref sig .tc := ⟨.hbm, 1106, rfl⟩
abbrev main_cst_170 : Ref sig .tc := ⟨.hbm, 1107, rfl⟩
abbrev main_v909 : Ref sig .tc := ⟨.hbm, 1108, rfl⟩
abbrev main_v910 : Ref sig .tc := ⟨.hbm, 1109, rfl⟩
abbrev main_v911 : Ref sig .tc := ⟨.hbm, 1110, rfl⟩
abbrev main_v912 : Ref sig .tc := ⟨.hbm, 1111, rfl⟩
abbrev main_v913 : Ref sig .tc := ⟨.hbm, 1112, rfl⟩
abbrev main_v914 : Ref sig .tc := ⟨.hbm, 1113, rfl⟩
abbrev main_v915 : Ref sig .tc := ⟨.hbm, 1114, rfl⟩
abbrev main_v916 : Ref sig .tc := ⟨.hbm, 1115, rfl⟩
abbrev main_v917 : Ref sig .tc := ⟨.hbm, 1116, rfl⟩
abbrev main_v918 : Ref sig .tc := ⟨.hbm, 1117, rfl⟩
abbrev main_v919 : Ref sig .tc := ⟨.hbm, 1118, rfl⟩
abbrev main_v920 : Ref sig .tc := ⟨.hbm, 1119, rfl⟩
abbrev main_v921 : Ref sig .tc := ⟨.hbm, 1120, rfl⟩
abbrev main_v922 : Ref sig .tc := ⟨.hbm, 1121, rfl⟩
abbrev main_cst_171 : Ref sig .tc := ⟨.hbm, 1122, rfl⟩
abbrev main_v923 : Ref sig .tc := ⟨.hbm, 1123, rfl⟩
abbrev main_v924 : Ref sig .tc := ⟨.hbm, 1124, rfl⟩
abbrev main_cst_172 : Ref sig .tc := ⟨.hbm, 1125, rfl⟩
abbrev main_v925 : Ref sig .tc := ⟨.hbm, 1126, rfl⟩
abbrev main_v926 : Ref sig .tc := ⟨.hbm, 1127, rfl⟩
abbrev main_v927 : Ref sig .tc := ⟨.hbm, 1128, rfl⟩
abbrev main_v928 : Ref sig .tc := ⟨.hbm, 1129, rfl⟩
abbrev main_cst_173 : Ref sig .tc := ⟨.hbm, 1130, rfl⟩
abbrev main_v929 : Ref sig .tc := ⟨.hbm, 1131, rfl⟩
abbrev main_v930 : Ref sig .tc := ⟨.hbm, 1132, rfl⟩
abbrev main_cst_174 : Ref sig .tc := ⟨.hbm, 1133, rfl⟩
abbrev main_v931 : Ref sig .tc := ⟨.hbm, 1134, rfl⟩
abbrev main_v932 : Ref sig .tc := ⟨.hbm, 1135, rfl⟩
abbrev main_v933 : Ref sig .tc := ⟨.hbm, 1136, rfl⟩
abbrev main_v934 : Ref sig .tc := ⟨.hbm, 1137, rfl⟩
abbrev main_cst_175 : Ref sig .tc := ⟨.hbm, 1138, rfl⟩
abbrev main_v935 : Ref sig .tc := ⟨.hbm, 1139, rfl⟩
abbrev main_v936 : Ref sig .tc := ⟨.hbm, 1140, rfl⟩
abbrev main_cst_176 : Ref sig .tc := ⟨.hbm, 1141, rfl⟩
abbrev main_v937 : Ref sig .tc := ⟨.hbm, 1142, rfl⟩
abbrev main_v938 : Ref sig .tc := ⟨.hbm, 1143, rfl⟩
abbrev main_v939 : Ref sig .tc := ⟨.hbm, 1144, rfl⟩
abbrev main_v940 : Ref sig .tc := ⟨.hbm, 1145, rfl⟩
abbrev main_v941 : Ref sig .tc := ⟨.hbm, 1146, rfl⟩
abbrev main_v942 : Ref sig .tc := ⟨.hbm, 1147, rfl⟩
abbrev main_v943 : Ref sig .tc := ⟨.hbm, 1148, rfl⟩
abbrev main_v944 : Ref sig .tc := ⟨.hbm, 1149, rfl⟩
abbrev main_v945 : Ref sig .tc := ⟨.hbm, 1150, rfl⟩
abbrev main_v946 : Ref sig .tc := ⟨.hbm, 1151, rfl⟩
abbrev main_v947 : Ref sig .tc := ⟨.hbm, 1152, rfl⟩
abbrev main_v948 : Ref sig .tc := ⟨.hbm, 1153, rfl⟩
abbrev main_c_177 : Ref sig .tc := ⟨.hbm, 1154, rfl⟩
abbrev main_v949 : Ref sig .tc := ⟨.hbm, 1155, rfl⟩
abbrev main_v950 : Ref sig .tc := ⟨.hbm, 1156, rfl⟩
abbrev main_c_178 : Ref sig .tc := ⟨.hbm, 1157, rfl⟩
abbrev main_v951 : Ref sig .tc := ⟨.hbm, 1158, rfl⟩
abbrev main_v952 : Ref sig .tc := ⟨.hbm, 1159, rfl⟩
abbrev main_v953 : Ref sig .tc := ⟨.hbm, 1160, rfl⟩
abbrev main_v954 : Ref sig .tc := ⟨.hbm, 1161, rfl⟩
abbrev main_v955 : Ref sig .tc := ⟨.hbm, 1162, rfl⟩
abbrev main_v956 : Ref sig .tc := ⟨.hbm, 1163, rfl⟩
abbrev main_v957 : Ref sig .tc := ⟨.hbm, 1164, rfl⟩
abbrev main_v958 : Ref sig .tc := ⟨.hbm, 1165, rfl⟩
abbrev main_v959 : Ref sig .tc := ⟨.hbm, 1166, rfl⟩
abbrev main_cst_179 : Ref sig .tc := ⟨.hbm, 1167, rfl⟩
abbrev main_v960 : Ref sig .tc := ⟨.hbm, 1168, rfl⟩
abbrev main_v961 : Ref sig .tc := ⟨.hbm, 1169, rfl⟩
abbrev main_v962 : Ref sig .tc := ⟨.hbm, 1170, rfl⟩
abbrev main_v963 : Ref sig .tc := ⟨.hbm, 1171, rfl⟩
abbrev main_c_180 : Ref sig .tc := ⟨.hbm, 1172, rfl⟩
abbrev main_v964 : Ref sig .tc := ⟨.hbm, 1173, rfl⟩
abbrev main_v965 : Ref sig .tc := ⟨.hbm, 1174, rfl⟩
abbrev main_c_181 : Ref sig .tc := ⟨.hbm, 1175, rfl⟩
abbrev main_v966 : Ref sig .tc := ⟨.hbm, 1176, rfl⟩
abbrev main_v967 : Ref sig .tc := ⟨.hbm, 1177, rfl⟩
abbrev main_v968 : Ref sig .tc := ⟨.hbm, 1178, rfl⟩
abbrev main_v969 : Ref sig .tc := ⟨.hbm, 1179, rfl⟩
abbrev main_v970 : Ref sig .tc := ⟨.hbm, 1180, rfl⟩
abbrev main_v971 : Ref sig .tc := ⟨.hbm, 1181, rfl⟩
abbrev main_v972 : Ref sig .tc := ⟨.hbm, 1182, rfl⟩
abbrev main_v973 : Ref sig .tc := ⟨.hbm, 1183, rfl⟩
abbrev main_v974 : Ref sig .tc := ⟨.hbm, 1184, rfl⟩
abbrev main_cst_182 : Ref sig .tc := ⟨.hbm, 1185, rfl⟩
abbrev main_v975 : Ref sig .tc := ⟨.hbm, 1186, rfl⟩
abbrev main_v976 : Ref sig .tc := ⟨.hbm, 1187, rfl⟩
abbrev main_v977 : Ref sig .tc := ⟨.hbm, 1188, rfl⟩
abbrev main_v978 : Ref sig .tc := ⟨.hbm, 1189, rfl⟩
abbrev main_cst_183 : Ref sig .tc := ⟨.hbm, 1190, rfl⟩
abbrev main_v979 : Ref sig .tc := ⟨.hbm, 1191, rfl⟩
abbrev main_v980 : Ref sig .tc := ⟨.hbm, 1192, rfl⟩
abbrev main_v981 : Ref sig .tc := ⟨.hbm, 1193, rfl⟩
abbrev main_v982 : Ref sig .tc := ⟨.hbm, 1194, rfl⟩
abbrev main_v983 : Ref sig .tc := ⟨.hbm, 1195, rfl⟩
abbrev main_v984 : Ref sig .tc := ⟨.hbm, 1196, rfl⟩
abbrev main_v985 : Ref sig .tc := ⟨.hbm, 1197, rfl⟩
abbrev main_v986 : Ref sig .tc := ⟨.hbm, 1198, rfl⟩
abbrev main_v987 : Ref sig .tc := ⟨.hbm, 1199, rfl⟩
abbrev main_v988 : Ref sig .tc := ⟨.hbm, 1200, rfl⟩
abbrev main_v989 : Ref sig .tc := ⟨.hbm, 1201, rfl⟩
abbrev main_v990 : Ref sig .tc := ⟨.hbm, 1202, rfl⟩
abbrev main_v991 : Ref sig .tc := ⟨.hbm, 1203, rfl⟩
abbrev main_v992 : Ref sig .tc := ⟨.hbm, 1204, rfl⟩
abbrev main_cst_184 : Ref sig .tc := ⟨.hbm, 1205, rfl⟩
abbrev main_v993 : Ref sig .tc := ⟨.hbm, 1206, rfl⟩
abbrev main_v994 : Ref sig .tc := ⟨.hbm, 1207, rfl⟩
abbrev main_cst_185 : Ref sig .tc := ⟨.hbm, 1208, rfl⟩
abbrev main_v995 : Ref sig .tc := ⟨.hbm, 1209, rfl⟩
abbrev main_v996 : Ref sig .tc := ⟨.hbm, 1210, rfl⟩
abbrev main_v997 : Ref sig .tc := ⟨.hbm, 1211, rfl⟩
abbrev main_v998 : Ref sig .tc := ⟨.hbm, 1212, rfl⟩
abbrev main_cst_186 : Ref sig .tc := ⟨.hbm, 1213, rfl⟩
abbrev main_v999 : Ref sig .tc := ⟨.hbm, 1214, rfl⟩
abbrev main_v1000 : Ref sig .tc := ⟨.hbm, 1215, rfl⟩
abbrev main_cst_187 : Ref sig .tc := ⟨.hbm, 1216, rfl⟩
abbrev main_v1001 : Ref sig .tc := ⟨.hbm, 1217, rfl⟩
abbrev main_v1002 : Ref sig .tc := ⟨.hbm, 1218, rfl⟩
abbrev main_v1003 : Ref sig .tc := ⟨.hbm, 1219, rfl⟩
abbrev main_v1004 : Ref sig .tc := ⟨.hbm, 1220, rfl⟩
abbrev main_cst_188 : Ref sig .tc := ⟨.hbm, 1221, rfl⟩
abbrev main_v1005 : Ref sig .tc := ⟨.hbm, 1222, rfl⟩
abbrev main_v1006 : Ref sig .tc := ⟨.hbm, 1223, rfl⟩
abbrev main_cst_189 : Ref sig .tc := ⟨.hbm, 1224, rfl⟩
abbrev main_v1007 : Ref sig .tc := ⟨.hbm, 1225, rfl⟩
abbrev main_v1008 : Ref sig .tc := ⟨.hbm, 1226, rfl⟩
abbrev main_v1009 : Ref sig .tc := ⟨.hbm, 1227, rfl⟩
abbrev main_v1010 : Ref sig .tc := ⟨.hbm, 1228, rfl⟩
abbrev main_v1011 : Ref sig .tc := ⟨.hbm, 1229, rfl⟩
abbrev main_v1012 : Ref sig .tc := ⟨.hbm, 1230, rfl⟩
abbrev main_v1013 : Ref sig .tc := ⟨.hbm, 1231, rfl⟩
abbrev main_v1014 : Ref sig .tc := ⟨.hbm, 1232, rfl⟩
abbrev main_v1015 : Ref sig .tc := ⟨.hbm, 1233, rfl⟩
abbrev main_v1016 : Ref sig .tc := ⟨.hbm, 1234, rfl⟩
abbrev main_v1017 : Ref sig .tc := ⟨.hbm, 1235, rfl⟩
abbrev main_v1018 : Ref sig .tc := ⟨.hbm, 1236, rfl⟩
abbrev main_c_190 : Ref sig .tc := ⟨.hbm, 1237, rfl⟩
abbrev main_v1019 : Ref sig .tc := ⟨.hbm, 1238, rfl⟩
abbrev main_v1020 : Ref sig .tc := ⟨.hbm, 1239, rfl⟩
abbrev main_c_191 : Ref sig .tc := ⟨.hbm, 1240, rfl⟩
abbrev main_v1021 : Ref sig .tc := ⟨.hbm, 1241, rfl⟩
abbrev main_v1022 : Ref sig .tc := ⟨.hbm, 1242, rfl⟩
abbrev main_v1023 : Ref sig .tc := ⟨.hbm, 1243, rfl⟩
abbrev main_v1024 : Ref sig .tc := ⟨.hbm, 1244, rfl⟩
abbrev main_v1025 : Ref sig .tc := ⟨.hbm, 1245, rfl⟩
abbrev main_v1026 : Ref sig .tc := ⟨.hbm, 1246, rfl⟩
abbrev main_v1027 : Ref sig .tc := ⟨.hbm, 1247, rfl⟩
abbrev main_v1028 : Ref sig .tc := ⟨.hbm, 1248, rfl⟩
abbrev main_v1029 : Ref sig .tc := ⟨.hbm, 1249, rfl⟩
abbrev main_cst_192 : Ref sig .tc := ⟨.hbm, 1250, rfl⟩
abbrev main_v1030 : Ref sig .tc := ⟨.hbm, 1251, rfl⟩
abbrev main_v1031 : Ref sig .tc := ⟨.hbm, 1252, rfl⟩
abbrev main_v1032 : Ref sig .tc := ⟨.hbm, 1253, rfl⟩
abbrev main_v1033 : Ref sig .tc := ⟨.hbm, 1254, rfl⟩
abbrev main_c_193 : Ref sig .tc := ⟨.hbm, 1255, rfl⟩
abbrev main_v1034 : Ref sig .tc := ⟨.hbm, 1256, rfl⟩
abbrev main_v1035 : Ref sig .tc := ⟨.hbm, 1257, rfl⟩
abbrev main_c_194 : Ref sig .tc := ⟨.hbm, 1258, rfl⟩
abbrev main_v1036 : Ref sig .tc := ⟨.hbm, 1259, rfl⟩
abbrev main_v1037 : Ref sig .tc := ⟨.hbm, 1260, rfl⟩
abbrev main_v1038 : Ref sig .tc := ⟨.hbm, 1261, rfl⟩
abbrev main_v1039 : Ref sig .tc := ⟨.hbm, 1262, rfl⟩
abbrev main_v1040 : Ref sig .tc := ⟨.hbm, 1263, rfl⟩
abbrev main_v1041 : Ref sig .tc := ⟨.hbm, 1264, rfl⟩
abbrev main_v1042 : Ref sig .tc := ⟨.hbm, 1265, rfl⟩
abbrev main_v1043 : Ref sig .tc := ⟨.hbm, 1266, rfl⟩
abbrev main_v1044 : Ref sig .tc := ⟨.hbm, 1267, rfl⟩
abbrev main_cst_195 : Ref sig .tc := ⟨.hbm, 1268, rfl⟩
abbrev main_v1045 : Ref sig .tc := ⟨.hbm, 1269, rfl⟩
abbrev main_v1046 : Ref sig .tc := ⟨.hbm, 1270, rfl⟩
abbrev main_v1047 : Ref sig .tc := ⟨.hbm, 1271, rfl⟩
abbrev main_v1048 : Ref sig .tc := ⟨.hbm, 1272, rfl⟩
abbrev main_cst_196 : Ref sig .tc := ⟨.hbm, 1273, rfl⟩
abbrev main_v1049 : Ref sig .tc := ⟨.hbm, 1274, rfl⟩
abbrev main_v1050 : Ref sig .tc := ⟨.hbm, 1275, rfl⟩
abbrev main_v1051 : Ref sig .tc := ⟨.hbm, 1276, rfl⟩
abbrev main_v1052 : Ref sig .tc := ⟨.hbm, 1277, rfl⟩
abbrev main_v1053 : Ref sig .tc := ⟨.hbm, 1278, rfl⟩
abbrev main_v1054 : Ref sig .tc := ⟨.hbm, 1279, rfl⟩
abbrev main_v1055 : Ref sig .tc := ⟨.hbm, 1280, rfl⟩
abbrev main_v1056 : Ref sig .tc := ⟨.hbm, 1281, rfl⟩
abbrev main_v1057 : Ref sig .tc := ⟨.hbm, 1282, rfl⟩
abbrev main_v1058 : Ref sig .tc := ⟨.hbm, 1283, rfl⟩
abbrev main_v1059 : Ref sig .tc := ⟨.hbm, 1284, rfl⟩
abbrev main_v1060 : Ref sig .tc := ⟨.hbm, 1285, rfl⟩
abbrev main_v1061 : Ref sig .tc := ⟨.hbm, 1286, rfl⟩
abbrev main_v1062 : Ref sig .tc := ⟨.hbm, 1287, rfl⟩
abbrev main_cst_197 : Ref sig .tc := ⟨.hbm, 1288, rfl⟩
abbrev main_v1063 : Ref sig .tc := ⟨.hbm, 1289, rfl⟩
abbrev main_v1064 : Ref sig .tc := ⟨.hbm, 1290, rfl⟩
abbrev main_cst_198 : Ref sig .tc := ⟨.hbm, 1291, rfl⟩
abbrev main_v1065 : Ref sig .tc := ⟨.hbm, 1292, rfl⟩
abbrev main_v1066 : Ref sig .tc := ⟨.hbm, 1293, rfl⟩
abbrev main_v1067 : Ref sig .tc := ⟨.hbm, 1294, rfl⟩
abbrev main_v1068 : Ref sig .tc := ⟨.hbm, 1295, rfl⟩
abbrev main_cst_199 : Ref sig .tc := ⟨.hbm, 1296, rfl⟩
abbrev main_v1069 : Ref sig .tc := ⟨.hbm, 1297, rfl⟩
abbrev main_v1070 : Ref sig .tc := ⟨.hbm, 1298, rfl⟩
abbrev main_cst_200 : Ref sig .tc := ⟨.hbm, 1299, rfl⟩
abbrev main_v1071 : Ref sig .tc := ⟨.hbm, 1300, rfl⟩
abbrev main_v1072 : Ref sig .tc := ⟨.hbm, 1301, rfl⟩
abbrev main_v1073 : Ref sig .tc := ⟨.hbm, 1302, rfl⟩
abbrev main_v1074 : Ref sig .tc := ⟨.hbm, 1303, rfl⟩
abbrev main_cst_201 : Ref sig .tc := ⟨.hbm, 1304, rfl⟩
abbrev main_v1075 : Ref sig .tc := ⟨.hbm, 1305, rfl⟩
abbrev main_v1076 : Ref sig .tc := ⟨.hbm, 1306, rfl⟩
abbrev main_cst_202 : Ref sig .tc := ⟨.hbm, 1307, rfl⟩
abbrev main_v1077 : Ref sig .tc := ⟨.hbm, 1308, rfl⟩
abbrev main_v1078 : Ref sig .tc := ⟨.hbm, 1309, rfl⟩
abbrev main_v1079 : Ref sig .tc := ⟨.hbm, 1310, rfl⟩
abbrev main_v1080 : Ref sig .tc := ⟨.hbm, 1311, rfl⟩
abbrev main_v1081 : Ref sig .tc := ⟨.hbm, 1312, rfl⟩
abbrev main_v1082 : Ref sig .tc := ⟨.hbm, 1313, rfl⟩
abbrev main_v1083 : Ref sig .tc := ⟨.hbm, 1314, rfl⟩
abbrev main_v1084 : Ref sig .tc := ⟨.hbm, 1315, rfl⟩
abbrev main_v1085 : Ref sig .tc := ⟨.hbm, 1316, rfl⟩
abbrev main_v1086 : Ref sig .tc := ⟨.hbm, 1317, rfl⟩
abbrev main_v1087 : Ref sig .tc := ⟨.hbm, 1318, rfl⟩
abbrev main_v1088 : Ref sig .tc := ⟨.hbm, 1319, rfl⟩
abbrev main_c_203 : Ref sig .tc := ⟨.hbm, 1320, rfl⟩
abbrev main_v1089 : Ref sig .tc := ⟨.hbm, 1321, rfl⟩
abbrev main_v1090 : Ref sig .tc := ⟨.hbm, 1322, rfl⟩
abbrev main_c_204 : Ref sig .tc := ⟨.hbm, 1323, rfl⟩
abbrev main_v1091 : Ref sig .tc := ⟨.hbm, 1324, rfl⟩
abbrev main_v1092 : Ref sig .tc := ⟨.hbm, 1325, rfl⟩
abbrev main_v1093 : Ref sig .tc := ⟨.hbm, 1326, rfl⟩
abbrev main_v1094 : Ref sig .tc := ⟨.hbm, 1327, rfl⟩
abbrev main_v1095 : Ref sig .tc := ⟨.hbm, 1328, rfl⟩
abbrev main_v1096 : Ref sig .tc := ⟨.hbm, 1329, rfl⟩
abbrev main_v1097 : Ref sig .tc := ⟨.hbm, 1330, rfl⟩
abbrev main_v1098 : Ref sig .tc := ⟨.hbm, 1331, rfl⟩
abbrev main_v1099 : Ref sig .tc := ⟨.hbm, 1332, rfl⟩
abbrev main_cst_205 : Ref sig .tc := ⟨.hbm, 1333, rfl⟩
abbrev main_v1100 : Ref sig .tc := ⟨.hbm, 1334, rfl⟩
abbrev main_v1101 : Ref sig .tc := ⟨.hbm, 1335, rfl⟩
abbrev main_v1102 : Ref sig .tc := ⟨.hbm, 1336, rfl⟩
abbrev main_v1103 : Ref sig .tc := ⟨.hbm, 1337, rfl⟩
abbrev main_c_206 : Ref sig .tc := ⟨.hbm, 1338, rfl⟩
abbrev main_v1104 : Ref sig .tc := ⟨.hbm, 1339, rfl⟩
abbrev main_v1105 : Ref sig .tc := ⟨.hbm, 1340, rfl⟩
abbrev main_c_207 : Ref sig .tc := ⟨.hbm, 1341, rfl⟩
abbrev main_v1106 : Ref sig .tc := ⟨.hbm, 1342, rfl⟩
abbrev main_v1107 : Ref sig .tc := ⟨.hbm, 1343, rfl⟩
abbrev main_v1108 : Ref sig .tc := ⟨.hbm, 1344, rfl⟩
abbrev main_v1109 : Ref sig .tc := ⟨.hbm, 1345, rfl⟩
abbrev main_v1110 : Ref sig .tc := ⟨.hbm, 1346, rfl⟩
abbrev main_v1111 : Ref sig .tc := ⟨.hbm, 1347, rfl⟩
abbrev main_v1112 : Ref sig .tc := ⟨.hbm, 1348, rfl⟩
abbrev main_v1113 : Ref sig .tc := ⟨.hbm, 1349, rfl⟩
abbrev main_v1114 : Ref sig .tc := ⟨.hbm, 1350, rfl⟩
abbrev main_cst_208 : Ref sig .tc := ⟨.hbm, 1351, rfl⟩
abbrev main_v1115 : Ref sig .tc := ⟨.hbm, 1352, rfl⟩
abbrev main_v1116 : Ref sig .tc := ⟨.hbm, 1353, rfl⟩
abbrev main_v1117 : Ref sig .tc := ⟨.hbm, 1354, rfl⟩
abbrev main_v1118 : Ref sig .tc := ⟨.hbm, 1355, rfl⟩
abbrev main_cst_209 : Ref sig .tc := ⟨.hbm, 1356, rfl⟩
abbrev main_v1119 : Ref sig .tc := ⟨.hbm, 1357, rfl⟩
abbrev main_v1120 : Ref sig .tc := ⟨.hbm, 1358, rfl⟩
abbrev main_v1121 : Ref sig .tc := ⟨.hbm, 1359, rfl⟩
abbrev main_v1122 : Ref sig .tc := ⟨.hbm, 1360, rfl⟩
abbrev main_v1123 : Ref sig .tc := ⟨.hbm, 1361, rfl⟩
abbrev main_v1124 : Ref sig .tc := ⟨.hbm, 1362, rfl⟩
abbrev main_v1125 : Ref sig .tc := ⟨.hbm, 1363, rfl⟩
abbrev main_v1126 : Ref sig .tc := ⟨.hbm, 1364, rfl⟩
abbrev main_v1127 : Ref sig .tc := ⟨.hbm, 1365, rfl⟩
abbrev main_v1128 : Ref sig .tc := ⟨.hbm, 1366, rfl⟩
abbrev main_v1129 : Ref sig .tc := ⟨.hbm, 1367, rfl⟩
abbrev main_v1130 : Ref sig .tc := ⟨.hbm, 1368, rfl⟩
abbrev main_v1131 : Ref sig .tc := ⟨.hbm, 1369, rfl⟩
abbrev main_v1132 : Ref sig .tc := ⟨.hbm, 1370, rfl⟩
abbrev main_cst_210 : Ref sig .tc := ⟨.hbm, 1371, rfl⟩
abbrev main_v1133 : Ref sig .tc := ⟨.hbm, 1372, rfl⟩
abbrev main_v1134 : Ref sig .tc := ⟨.hbm, 1373, rfl⟩
abbrev main_cst_211 : Ref sig .tc := ⟨.hbm, 1374, rfl⟩
abbrev main_v1135 : Ref sig .tc := ⟨.hbm, 1375, rfl⟩
abbrev main_v1136 : Ref sig .tc := ⟨.hbm, 1376, rfl⟩
abbrev main_v1137 : Ref sig .tc := ⟨.hbm, 1377, rfl⟩
abbrev main_v1138 : Ref sig .tc := ⟨.hbm, 1378, rfl⟩
abbrev main_cst_212 : Ref sig .tc := ⟨.hbm, 1379, rfl⟩
abbrev main_v1139 : Ref sig .tc := ⟨.hbm, 1380, rfl⟩
abbrev main_v1140 : Ref sig .tc := ⟨.hbm, 1381, rfl⟩
abbrev main_cst_213 : Ref sig .tc := ⟨.hbm, 1382, rfl⟩
abbrev main_v1141 : Ref sig .tc := ⟨.hbm, 1383, rfl⟩
abbrev main_v1142 : Ref sig .tc := ⟨.hbm, 1384, rfl⟩
abbrev main_v1143 : Ref sig .tc := ⟨.hbm, 1385, rfl⟩
abbrev main_v1144 : Ref sig .tc := ⟨.hbm, 1386, rfl⟩
abbrev main_cst_214 : Ref sig .tc := ⟨.hbm, 1387, rfl⟩
abbrev main_v1145 : Ref sig .tc := ⟨.hbm, 1388, rfl⟩
abbrev main_v1146 : Ref sig .tc := ⟨.hbm, 1389, rfl⟩
abbrev main_cst_215 : Ref sig .tc := ⟨.hbm, 1390, rfl⟩
abbrev main_v1147 : Ref sig .tc := ⟨.hbm, 1391, rfl⟩
abbrev main_v1148 : Ref sig .tc := ⟨.hbm, 1392, rfl⟩
abbrev main_v1149 : Ref sig .tc := ⟨.hbm, 1393, rfl⟩
abbrev main_v1150 : Ref sig .tc := ⟨.hbm, 1394, rfl⟩
abbrev main_v1151 : Ref sig .tc := ⟨.hbm, 1395, rfl⟩
abbrev main_v1152 : Ref sig .tc := ⟨.hbm, 1396, rfl⟩
abbrev main_v1153 : Ref sig .tc := ⟨.hbm, 1397, rfl⟩
abbrev main_v1154 : Ref sig .tc := ⟨.hbm, 1398, rfl⟩
abbrev main_v1155 : Ref sig .tc := ⟨.hbm, 1399, rfl⟩
abbrev main_v1156 : Ref sig .tc := ⟨.hbm, 1400, rfl⟩
abbrev main_v1157 : Ref sig .tc := ⟨.hbm, 1401, rfl⟩
abbrev main_v1158 : Ref sig .tc := ⟨.hbm, 1402, rfl⟩
abbrev main_v1159 : Ref sig .tc := ⟨.hbm, 1403, rfl⟩
abbrev main_v1160 : Ref sig .tc := ⟨.hbm, 1404, rfl⟩
abbrev main_call3_cst : Ref sig .tc := ⟨.hbm, 1405, rfl⟩
abbrev main_call3_v0 : Ref sig .tc := ⟨.hbm, 1406, rfl⟩
abbrev main_v1161 : Ref sig .tc := ⟨.hbm, 1407, rfl⟩
abbrev main_v1162 : Ref sig .tc := ⟨.hbm, 1408, rfl⟩
abbrev main_v1163 : Ref sig .tc := ⟨.hbm, 1409, rfl⟩
abbrev main_cst_216 : Ref sig .tc := ⟨.hbm, 1410, rfl⟩
abbrev main_v1164 : Ref sig .tc := ⟨.hbm, 1411, rfl⟩
abbrev main_cst_217 : Ref sig .tc := ⟨.hbm, 1412, rfl⟩
abbrev main_v1165 : Ref sig .tc := ⟨.hbm, 1413, rfl⟩
abbrev main_v1166 : Ref sig .tc := ⟨.hbm, 1414, rfl⟩
abbrev main_v1167 : Ref sig .tc := ⟨.hbm, 1415, rfl⟩
abbrev main_v1168 : Ref sig .tc := ⟨.hbm, 1416, rfl⟩
abbrev main_v1169 : Ref sig .tc := ⟨.hbm, 1417, rfl⟩
abbrev main_c_218 : Ref sig .tc := ⟨.hbm, 1418, rfl⟩
abbrev main_v1170 : Ref sig .tc := ⟨.hbm, 1419, rfl⟩
abbrev main_v1171 : Ref sig .tc := ⟨.hbm, 1420, rfl⟩
abbrev main_c_219 : Ref sig .tc := ⟨.hbm, 1421, rfl⟩
abbrev main_v1172 : Ref sig .tc := ⟨.hbm, 1422, rfl⟩
abbrev main_v1173 : Ref sig .tc := ⟨.hbm, 1423, rfl⟩
abbrev main_v1174 : Ref sig .tc := ⟨.hbm, 1424, rfl⟩
abbrev main_v1175 : Ref sig .tc := ⟨.hbm, 1425, rfl⟩
abbrev main_v1176 : Ref sig .tc := ⟨.hbm, 1426, rfl⟩
abbrev main_v1177 : Ref sig .tc := ⟨.hbm, 1427, rfl⟩
abbrev main_v1178 : Ref sig .tc := ⟨.hbm, 1428, rfl⟩
abbrev main_v1179 : Ref sig .tc := ⟨.hbm, 1429, rfl⟩
abbrev main_v1180 : Ref sig .tc := ⟨.hbm, 1430, rfl⟩
abbrev main_cst_220 : Ref sig .tc := ⟨.hbm, 1431, rfl⟩
abbrev main_v1181 : Ref sig .tc := ⟨.hbm, 1432, rfl⟩
abbrev main_v1182 : Ref sig .tc := ⟨.hbm, 1433, rfl⟩
abbrev main_v1183 : Ref sig .tc := ⟨.hbm, 1434, rfl⟩
abbrev main_v1184 : Ref sig .tc := ⟨.hbm, 1435, rfl⟩
abbrev main_c_221 : Ref sig .tc := ⟨.hbm, 1436, rfl⟩
abbrev main_v1185 : Ref sig .tc := ⟨.hbm, 1437, rfl⟩
abbrev main_v1186 : Ref sig .tc := ⟨.hbm, 1438, rfl⟩
abbrev main_c_222 : Ref sig .tc := ⟨.hbm, 1439, rfl⟩
abbrev main_v1187 : Ref sig .tc := ⟨.hbm, 1440, rfl⟩
abbrev main_v1188 : Ref sig .tc := ⟨.hbm, 1441, rfl⟩
abbrev main_v1189 : Ref sig .tc := ⟨.hbm, 1442, rfl⟩
abbrev main_v1190 : Ref sig .tc := ⟨.hbm, 1443, rfl⟩
abbrev main_v1191 : Ref sig .tc := ⟨.hbm, 1444, rfl⟩
abbrev main_v1192 : Ref sig .tc := ⟨.hbm, 1445, rfl⟩
abbrev main_v1193 : Ref sig .tc := ⟨.hbm, 1446, rfl⟩
abbrev main_v1194 : Ref sig .tc := ⟨.hbm, 1447, rfl⟩
abbrev main_v1195 : Ref sig .tc := ⟨.hbm, 1448, rfl⟩
abbrev main_cst_223 : Ref sig .tc := ⟨.hbm, 1449, rfl⟩
abbrev main_v1196 : Ref sig .tc := ⟨.hbm, 1450, rfl⟩
abbrev main_v1197 : Ref sig .tc := ⟨.hbm, 1451, rfl⟩
abbrev main_v1198 : Ref sig .tc := ⟨.hbm, 1452, rfl⟩
abbrev main_v1199 : Ref sig .tc := ⟨.hbm, 1453, rfl⟩
abbrev main_cst_224 : Ref sig .tc := ⟨.hbm, 1454, rfl⟩
abbrev main_v1200 : Ref sig .tc := ⟨.hbm, 1455, rfl⟩
abbrev main_v1201 : Ref sig .tc := ⟨.hbm, 1456, rfl⟩
abbrev main_v1202 : Ref sig .tc := ⟨.hbm, 1457, rfl⟩
abbrev main_v1203 : Ref sig .tc := ⟨.hbm, 1458, rfl⟩
abbrev main_v1204 : Ref sig .tc := ⟨.hbm, 1459, rfl⟩
abbrev main_v1205 : Ref sig .tc := ⟨.hbm, 1460, rfl⟩
abbrev main_v1206 : Ref sig .tc := ⟨.hbm, 1461, rfl⟩
abbrev main_v1207 : Ref sig .tc := ⟨.hbm, 1462, rfl⟩
abbrev main_v1208 : Ref sig .tc := ⟨.hbm, 1463, rfl⟩
abbrev main_v1209 : Ref sig .tc := ⟨.hbm, 1464, rfl⟩
abbrev main_v1210 : Ref sig .tc := ⟨.hbm, 1465, rfl⟩
abbrev main_v1211 : Ref sig .tc := ⟨.hbm, 1466, rfl⟩
abbrev main_v1212 : Ref sig .tc := ⟨.hbm, 1467, rfl⟩
abbrev main_v1213 : Ref sig .tc := ⟨.hbm, 1468, rfl⟩
abbrev main_cst_225 : Ref sig .tc := ⟨.hbm, 1469, rfl⟩
abbrev main_v1214 : Ref sig .tc := ⟨.hbm, 1470, rfl⟩
abbrev main_v1215 : Ref sig .tc := ⟨.hbm, 1471, rfl⟩
abbrev main_cst_226 : Ref sig .tc := ⟨.hbm, 1472, rfl⟩
abbrev main_v1216 : Ref sig .tc := ⟨.hbm, 1473, rfl⟩
abbrev main_v1217 : Ref sig .tc := ⟨.hbm, 1474, rfl⟩
abbrev main_v1218 : Ref sig .tc := ⟨.hbm, 1475, rfl⟩
abbrev main_v1219 : Ref sig .tc := ⟨.hbm, 1476, rfl⟩
abbrev main_cst_227 : Ref sig .tc := ⟨.hbm, 1477, rfl⟩
abbrev main_v1220 : Ref sig .tc := ⟨.hbm, 1478, rfl⟩
abbrev main_v1221 : Ref sig .tc := ⟨.hbm, 1479, rfl⟩
abbrev main_cst_228 : Ref sig .tc := ⟨.hbm, 1480, rfl⟩
abbrev main_v1222 : Ref sig .tc := ⟨.hbm, 1481, rfl⟩
abbrev main_v1223 : Ref sig .tc := ⟨.hbm, 1482, rfl⟩
abbrev main_v1224 : Ref sig .tc := ⟨.hbm, 1483, rfl⟩
abbrev main_v1225 : Ref sig .tc := ⟨.hbm, 1484, rfl⟩
abbrev main_cst_229 : Ref sig .tc := ⟨.hbm, 1485, rfl⟩
abbrev main_v1226 : Ref sig .tc := ⟨.hbm, 1486, rfl⟩
abbrev main_v1227 : Ref sig .tc := ⟨.hbm, 1487, rfl⟩
abbrev main_cst_230 : Ref sig .tc := ⟨.hbm, 1488, rfl⟩
abbrev main_v1228 : Ref sig .tc := ⟨.hbm, 1489, rfl⟩
abbrev main_v1229 : Ref sig .tc := ⟨.hbm, 1490, rfl⟩
abbrev main_v1230 : Ref sig .tc := ⟨.hbm, 1491, rfl⟩
abbrev main_v1231 : Ref sig .tc := ⟨.hbm, 1492, rfl⟩
abbrev main_v1232 : Ref sig .tc := ⟨.hbm, 1493, rfl⟩
abbrev main_v1233 : Ref sig .tc := ⟨.hbm, 1494, rfl⟩
abbrev main_v1234 : Ref sig .tc := ⟨.hbm, 1495, rfl⟩
abbrev main_v1235 : Ref sig .tc := ⟨.hbm, 1496, rfl⟩
abbrev main_v1236 : Ref sig .tc := ⟨.hbm, 1497, rfl⟩
abbrev main_v1237 : Ref sig .tc := ⟨.hbm, 1498, rfl⟩
abbrev main_v1238 : Ref sig .tc := ⟨.hbm, 1499, rfl⟩
abbrev main_v1239 : Ref sig .tc := ⟨.hbm, 1500, rfl⟩
abbrev main_c_231 : Ref sig .tc := ⟨.hbm, 1501, rfl⟩
abbrev main_v1240 : Ref sig .tc := ⟨.hbm, 1502, rfl⟩
abbrev main_v1241 : Ref sig .tc := ⟨.hbm, 1503, rfl⟩
abbrev main_c_232 : Ref sig .tc := ⟨.hbm, 1504, rfl⟩
abbrev main_v1242 : Ref sig .tc := ⟨.hbm, 1505, rfl⟩
abbrev main_v1243 : Ref sig .tc := ⟨.hbm, 1506, rfl⟩
abbrev main_v1244 : Ref sig .tc := ⟨.hbm, 1507, rfl⟩
abbrev main_v1245 : Ref sig .tc := ⟨.hbm, 1508, rfl⟩
abbrev main_v1246 : Ref sig .tc := ⟨.hbm, 1509, rfl⟩
abbrev main_v1247 : Ref sig .tc := ⟨.hbm, 1510, rfl⟩
abbrev main_v1248 : Ref sig .tc := ⟨.hbm, 1511, rfl⟩
abbrev main_v1249 : Ref sig .tc := ⟨.hbm, 1512, rfl⟩
abbrev main_v1250 : Ref sig .tc := ⟨.hbm, 1513, rfl⟩
abbrev main_cst_233 : Ref sig .tc := ⟨.hbm, 1514, rfl⟩
abbrev main_v1251 : Ref sig .tc := ⟨.hbm, 1515, rfl⟩
abbrev main_v1252 : Ref sig .tc := ⟨.hbm, 1516, rfl⟩
abbrev main_v1253 : Ref sig .tc := ⟨.hbm, 1517, rfl⟩
abbrev main_v1254 : Ref sig .tc := ⟨.hbm, 1518, rfl⟩
abbrev main_c_234 : Ref sig .tc := ⟨.hbm, 1519, rfl⟩
abbrev main_v1255 : Ref sig .tc := ⟨.hbm, 1520, rfl⟩
abbrev main_v1256 : Ref sig .tc := ⟨.hbm, 1521, rfl⟩
abbrev main_c_235 : Ref sig .tc := ⟨.hbm, 1522, rfl⟩
abbrev main_v1257 : Ref sig .tc := ⟨.hbm, 1523, rfl⟩
abbrev main_v1258 : Ref sig .tc := ⟨.hbm, 1524, rfl⟩
abbrev main_v1259 : Ref sig .tc := ⟨.hbm, 1525, rfl⟩
abbrev main_v1260 : Ref sig .tc := ⟨.hbm, 1526, rfl⟩
abbrev main_v1261 : Ref sig .tc := ⟨.hbm, 1527, rfl⟩
abbrev main_v1262 : Ref sig .tc := ⟨.hbm, 1528, rfl⟩
abbrev main_v1263 : Ref sig .tc := ⟨.hbm, 1529, rfl⟩
abbrev main_v1264 : Ref sig .tc := ⟨.hbm, 1530, rfl⟩
abbrev main_v1265 : Ref sig .tc := ⟨.hbm, 1531, rfl⟩
abbrev main_cst_236 : Ref sig .tc := ⟨.hbm, 1532, rfl⟩
abbrev main_v1266 : Ref sig .tc := ⟨.hbm, 1533, rfl⟩
abbrev main_v1267 : Ref sig .tc := ⟨.hbm, 1534, rfl⟩
abbrev main_v1268 : Ref sig .tc := ⟨.hbm, 1535, rfl⟩
abbrev main_v1269 : Ref sig .tc := ⟨.hbm, 1536, rfl⟩
abbrev main_cst_237 : Ref sig .tc := ⟨.hbm, 1537, rfl⟩
abbrev main_v1270 : Ref sig .tc := ⟨.hbm, 1538, rfl⟩
abbrev main_v1271 : Ref sig .tc := ⟨.hbm, 1539, rfl⟩
abbrev main_v1272 : Ref sig .tc := ⟨.hbm, 1540, rfl⟩
abbrev main_v1273 : Ref sig .tc := ⟨.hbm, 1541, rfl⟩
abbrev main_v1274 : Ref sig .tc := ⟨.hbm, 1542, rfl⟩
abbrev main_v1275 : Ref sig .tc := ⟨.hbm, 1543, rfl⟩
abbrev main_v1276 : Ref sig .tc := ⟨.hbm, 1544, rfl⟩
abbrev main_v1277 : Ref sig .tc := ⟨.hbm, 1545, rfl⟩
abbrev main_v1278 : Ref sig .tc := ⟨.hbm, 1546, rfl⟩
abbrev main_v1279 : Ref sig .tc := ⟨.hbm, 1547, rfl⟩
abbrev main_v1280 : Ref sig .tc := ⟨.hbm, 1548, rfl⟩
abbrev main_v1281 : Ref sig .tc := ⟨.hbm, 1549, rfl⟩
abbrev main_v1282 : Ref sig .tc := ⟨.hbm, 1550, rfl⟩
abbrev main_v1283 : Ref sig .tc := ⟨.hbm, 1551, rfl⟩
abbrev main_cst_238 : Ref sig .tc := ⟨.hbm, 1552, rfl⟩
abbrev main_v1284 : Ref sig .tc := ⟨.hbm, 1553, rfl⟩
abbrev main_v1285 : Ref sig .tc := ⟨.hbm, 1554, rfl⟩
abbrev main_cst_239 : Ref sig .tc := ⟨.hbm, 1555, rfl⟩
abbrev main_v1286 : Ref sig .tc := ⟨.hbm, 1556, rfl⟩
abbrev main_v1287 : Ref sig .tc := ⟨.hbm, 1557, rfl⟩
abbrev main_v1288 : Ref sig .tc := ⟨.hbm, 1558, rfl⟩
abbrev main_v1289 : Ref sig .tc := ⟨.hbm, 1559, rfl⟩
abbrev main_cst_240 : Ref sig .tc := ⟨.hbm, 1560, rfl⟩
abbrev main_v1290 : Ref sig .tc := ⟨.hbm, 1561, rfl⟩
abbrev main_v1291 : Ref sig .tc := ⟨.hbm, 1562, rfl⟩
abbrev main_cst_241 : Ref sig .tc := ⟨.hbm, 1563, rfl⟩
abbrev main_v1292 : Ref sig .tc := ⟨.hbm, 1564, rfl⟩
abbrev main_v1293 : Ref sig .tc := ⟨.hbm, 1565, rfl⟩
abbrev main_v1294 : Ref sig .tc := ⟨.hbm, 1566, rfl⟩
abbrev main_v1295 : Ref sig .tc := ⟨.hbm, 1567, rfl⟩
abbrev main_cst_242 : Ref sig .tc := ⟨.hbm, 1568, rfl⟩
abbrev main_v1296 : Ref sig .tc := ⟨.hbm, 1569, rfl⟩
abbrev main_v1297 : Ref sig .tc := ⟨.hbm, 1570, rfl⟩
abbrev main_cst_243 : Ref sig .tc := ⟨.hbm, 1571, rfl⟩
abbrev main_v1298 : Ref sig .tc := ⟨.hbm, 1572, rfl⟩
abbrev main_v1299 : Ref sig .tc := ⟨.hbm, 1573, rfl⟩
abbrev main_v1300 : Ref sig .tc := ⟨.hbm, 1574, rfl⟩
abbrev main_v1301 : Ref sig .tc := ⟨.hbm, 1575, rfl⟩
abbrev main_v1302 : Ref sig .tc := ⟨.hbm, 1576, rfl⟩
abbrev main_v1303 : Ref sig .tc := ⟨.hbm, 1577, rfl⟩
abbrev main_v1304 : Ref sig .tc := ⟨.hbm, 1578, rfl⟩
abbrev main_v1305 : Ref sig .tc := ⟨.hbm, 1579, rfl⟩
abbrev main_v1306 : Ref sig .tc := ⟨.hbm, 1580, rfl⟩
abbrev main_v1307 : Ref sig .tc := ⟨.hbm, 1581, rfl⟩
abbrev main_v1308 : Ref sig .tc := ⟨.hbm, 1582, rfl⟩
abbrev main_v1309 : Ref sig .tc := ⟨.hbm, 1583, rfl⟩
abbrev main_c_244 : Ref sig .tc := ⟨.hbm, 1584, rfl⟩
abbrev main_v1310 : Ref sig .tc := ⟨.hbm, 1585, rfl⟩
abbrev main_v1311 : Ref sig .tc := ⟨.hbm, 1586, rfl⟩
abbrev main_c_245 : Ref sig .tc := ⟨.hbm, 1587, rfl⟩
abbrev main_v1312 : Ref sig .tc := ⟨.hbm, 1588, rfl⟩
abbrev main_v1313 : Ref sig .tc := ⟨.hbm, 1589, rfl⟩
abbrev main_v1314 : Ref sig .tc := ⟨.hbm, 1590, rfl⟩
abbrev main_v1315 : Ref sig .tc := ⟨.hbm, 1591, rfl⟩
abbrev main_v1316 : Ref sig .tc := ⟨.hbm, 1592, rfl⟩
abbrev main_v1317 : Ref sig .tc := ⟨.hbm, 1593, rfl⟩
abbrev main_v1318 : Ref sig .tc := ⟨.hbm, 1594, rfl⟩
abbrev main_v1319 : Ref sig .tc := ⟨.hbm, 1595, rfl⟩
abbrev main_v1320 : Ref sig .tc := ⟨.hbm, 1596, rfl⟩
abbrev main_cst_246 : Ref sig .tc := ⟨.hbm, 1597, rfl⟩
abbrev main_v1321 : Ref sig .tc := ⟨.hbm, 1598, rfl⟩
abbrev main_v1322 : Ref sig .tc := ⟨.hbm, 1599, rfl⟩
abbrev main_v1323 : Ref sig .tc := ⟨.hbm, 1600, rfl⟩
abbrev main_v1324 : Ref sig .tc := ⟨.hbm, 1601, rfl⟩
abbrev main_c_247 : Ref sig .tc := ⟨.hbm, 1602, rfl⟩
abbrev main_v1325 : Ref sig .tc := ⟨.hbm, 1603, rfl⟩
abbrev main_v1326 : Ref sig .tc := ⟨.hbm, 1604, rfl⟩
abbrev main_c_248 : Ref sig .tc := ⟨.hbm, 1605, rfl⟩
abbrev main_v1327 : Ref sig .tc := ⟨.hbm, 1606, rfl⟩
abbrev main_v1328 : Ref sig .tc := ⟨.hbm, 1607, rfl⟩
abbrev main_v1329 : Ref sig .tc := ⟨.hbm, 1608, rfl⟩
abbrev main_v1330 : Ref sig .tc := ⟨.hbm, 1609, rfl⟩
abbrev main_v1331 : Ref sig .tc := ⟨.hbm, 1610, rfl⟩
abbrev main_v1332 : Ref sig .tc := ⟨.hbm, 1611, rfl⟩
abbrev main_v1333 : Ref sig .tc := ⟨.hbm, 1612, rfl⟩
abbrev main_v1334 : Ref sig .tc := ⟨.hbm, 1613, rfl⟩
abbrev main_v1335 : Ref sig .tc := ⟨.hbm, 1614, rfl⟩
abbrev main_cst_249 : Ref sig .tc := ⟨.hbm, 1615, rfl⟩
abbrev main_v1336 : Ref sig .tc := ⟨.hbm, 1616, rfl⟩
abbrev main_v1337 : Ref sig .tc := ⟨.hbm, 1617, rfl⟩
abbrev main_v1338 : Ref sig .tc := ⟨.hbm, 1618, rfl⟩
abbrev main_v1339 : Ref sig .tc := ⟨.hbm, 1619, rfl⟩
abbrev main_cst_250 : Ref sig .tc := ⟨.hbm, 1620, rfl⟩
abbrev main_v1340 : Ref sig .tc := ⟨.hbm, 1621, rfl⟩
abbrev main_v1341 : Ref sig .tc := ⟨.hbm, 1622, rfl⟩
abbrev main_v1342 : Ref sig .tc := ⟨.hbm, 1623, rfl⟩
abbrev main_v1343 : Ref sig .tc := ⟨.hbm, 1624, rfl⟩
abbrev main_v1344 : Ref sig .tc := ⟨.hbm, 1625, rfl⟩
abbrev main_v1345 : Ref sig .tc := ⟨.hbm, 1626, rfl⟩
abbrev main_v1346 : Ref sig .tc := ⟨.hbm, 1627, rfl⟩
abbrev main_v1347 : Ref sig .tc := ⟨.hbm, 1628, rfl⟩
abbrev main_v1348 : Ref sig .tc := ⟨.hbm, 1629, rfl⟩
abbrev main_v1349 : Ref sig .tc := ⟨.hbm, 1630, rfl⟩
abbrev main_v1350 : Ref sig .tc := ⟨.hbm, 1631, rfl⟩
abbrev main_v1351 : Ref sig .tc := ⟨.hbm, 1632, rfl⟩
abbrev main_v1352 : Ref sig .tc := ⟨.hbm, 1633, rfl⟩
abbrev main_v1353 : Ref sig .tc := ⟨.hbm, 1634, rfl⟩
abbrev main_cst_251 : Ref sig .tc := ⟨.hbm, 1635, rfl⟩
abbrev main_v1354 : Ref sig .tc := ⟨.hbm, 1636, rfl⟩
abbrev main_v1355 : Ref sig .tc := ⟨.hbm, 1637, rfl⟩
abbrev main_cst_252 : Ref sig .tc := ⟨.hbm, 1638, rfl⟩
abbrev main_v1356 : Ref sig .tc := ⟨.hbm, 1639, rfl⟩
abbrev main_v1357 : Ref sig .tc := ⟨.hbm, 1640, rfl⟩
abbrev main_v1358 : Ref sig .tc := ⟨.hbm, 1641, rfl⟩
abbrev main_v1359 : Ref sig .tc := ⟨.hbm, 1642, rfl⟩
abbrev main_cst_253 : Ref sig .tc := ⟨.hbm, 1643, rfl⟩
abbrev main_v1360 : Ref sig .tc := ⟨.hbm, 1644, rfl⟩
abbrev main_v1361 : Ref sig .tc := ⟨.hbm, 1645, rfl⟩
abbrev main_cst_254 : Ref sig .tc := ⟨.hbm, 1646, rfl⟩
abbrev main_v1362 : Ref sig .tc := ⟨.hbm, 1647, rfl⟩
abbrev main_v1363 : Ref sig .tc := ⟨.hbm, 1648, rfl⟩
abbrev main_v1364 : Ref sig .tc := ⟨.hbm, 1649, rfl⟩
abbrev main_v1365 : Ref sig .tc := ⟨.hbm, 1650, rfl⟩
abbrev main_cst_255 : Ref sig .tc := ⟨.hbm, 1651, rfl⟩
abbrev main_v1366 : Ref sig .tc := ⟨.hbm, 1652, rfl⟩
abbrev main_v1367 : Ref sig .tc := ⟨.hbm, 1653, rfl⟩
abbrev main_cst_256 : Ref sig .tc := ⟨.hbm, 1654, rfl⟩
abbrev main_v1368 : Ref sig .tc := ⟨.hbm, 1655, rfl⟩
abbrev main_v1369 : Ref sig .tc := ⟨.hbm, 1656, rfl⟩
abbrev main_v1370 : Ref sig .tc := ⟨.hbm, 1657, rfl⟩
abbrev main_v1371 : Ref sig .tc := ⟨.hbm, 1658, rfl⟩
abbrev main_v1372 : Ref sig .tc := ⟨.hbm, 1659, rfl⟩
abbrev main_v1373 : Ref sig .tc := ⟨.hbm, 1660, rfl⟩
abbrev main_v1374 : Ref sig .tc := ⟨.hbm, 1661, rfl⟩
abbrev main_v1375 : Ref sig .tc := ⟨.hbm, 1662, rfl⟩
abbrev main_v1376 : Ref sig .tc := ⟨.hbm, 1663, rfl⟩
abbrev main_v1377 : Ref sig .tc := ⟨.hbm, 1664, rfl⟩
abbrev main_v1378 : Ref sig .tc := ⟨.hbm, 1665, rfl⟩
abbrev main_v1379 : Ref sig .tc := ⟨.hbm, 1666, rfl⟩
abbrev main_c_257 : Ref sig .tc := ⟨.hbm, 1667, rfl⟩
abbrev main_v1380 : Ref sig .tc := ⟨.hbm, 1668, rfl⟩
abbrev main_v1381 : Ref sig .tc := ⟨.hbm, 1669, rfl⟩
abbrev main_c_258 : Ref sig .tc := ⟨.hbm, 1670, rfl⟩
abbrev main_v1382 : Ref sig .tc := ⟨.hbm, 1671, rfl⟩
abbrev main_v1383 : Ref sig .tc := ⟨.hbm, 1672, rfl⟩
abbrev main_v1384 : Ref sig .tc := ⟨.hbm, 1673, rfl⟩
abbrev main_v1385 : Ref sig .tc := ⟨.hbm, 1674, rfl⟩
abbrev main_v1386 : Ref sig .tc := ⟨.hbm, 1675, rfl⟩
abbrev main_v1387 : Ref sig .tc := ⟨.hbm, 1676, rfl⟩
abbrev main_v1388 : Ref sig .tc := ⟨.hbm, 1677, rfl⟩
abbrev main_v1389 : Ref sig .tc := ⟨.hbm, 1678, rfl⟩
abbrev main_v1390 : Ref sig .tc := ⟨.hbm, 1679, rfl⟩
abbrev main_cst_259 : Ref sig .tc := ⟨.hbm, 1680, rfl⟩
abbrev main_v1391 : Ref sig .tc := ⟨.hbm, 1681, rfl⟩
abbrev main_v1392 : Ref sig .tc := ⟨.hbm, 1682, rfl⟩
abbrev main_v1393 : Ref sig .tc := ⟨.hbm, 1683, rfl⟩
abbrev main_v1394 : Ref sig .tc := ⟨.hbm, 1684, rfl⟩
abbrev main_c_260 : Ref sig .tc := ⟨.hbm, 1685, rfl⟩
abbrev main_v1395 : Ref sig .tc := ⟨.hbm, 1686, rfl⟩
abbrev main_v1396 : Ref sig .tc := ⟨.hbm, 1687, rfl⟩
abbrev main_c_261 : Ref sig .tc := ⟨.hbm, 1688, rfl⟩
abbrev main_v1397 : Ref sig .tc := ⟨.hbm, 1689, rfl⟩
abbrev main_v1398 : Ref sig .tc := ⟨.hbm, 1690, rfl⟩
abbrev main_v1399 : Ref sig .tc := ⟨.hbm, 1691, rfl⟩
abbrev main_v1400 : Ref sig .tc := ⟨.hbm, 1692, rfl⟩
abbrev main_v1401 : Ref sig .tc := ⟨.hbm, 1693, rfl⟩
abbrev main_v1402 : Ref sig .tc := ⟨.hbm, 1694, rfl⟩
abbrev main_v1403 : Ref sig .tc := ⟨.hbm, 1695, rfl⟩
abbrev main_v1404 : Ref sig .tc := ⟨.hbm, 1696, rfl⟩
abbrev main_v1405 : Ref sig .tc := ⟨.hbm, 1697, rfl⟩
abbrev main_cst_262 : Ref sig .tc := ⟨.hbm, 1698, rfl⟩
abbrev main_v1406 : Ref sig .tc := ⟨.hbm, 1699, rfl⟩
abbrev main_v1407 : Ref sig .tc := ⟨.hbm, 1700, rfl⟩
abbrev main_v1408 : Ref sig .tc := ⟨.hbm, 1701, rfl⟩
abbrev main_v1409 : Ref sig .tc := ⟨.hbm, 1702, rfl⟩
abbrev main_cst_263 : Ref sig .tc := ⟨.hbm, 1703, rfl⟩
abbrev main_v1410 : Ref sig .tc := ⟨.hbm, 1704, rfl⟩
abbrev main_v1411 : Ref sig .tc := ⟨.hbm, 1705, rfl⟩
abbrev main_v1412 : Ref sig .tc := ⟨.hbm, 1706, rfl⟩
abbrev main_v1413 : Ref sig .tc := ⟨.hbm, 1707, rfl⟩
abbrev main_v1414 : Ref sig .tc := ⟨.hbm, 1708, rfl⟩
abbrev main_v1415 : Ref sig .tc := ⟨.hbm, 1709, rfl⟩
abbrev main_v1416 : Ref sig .tc := ⟨.hbm, 1710, rfl⟩
abbrev main_v1417 : Ref sig .tc := ⟨.hbm, 1711, rfl⟩
abbrev main_v1418 : Ref sig .tc := ⟨.hbm, 1712, rfl⟩
abbrev main_v1419 : Ref sig .tc := ⟨.hbm, 1713, rfl⟩
abbrev main_v1420 : Ref sig .tc := ⟨.hbm, 1714, rfl⟩
abbrev main_v1421 : Ref sig .tc := ⟨.hbm, 1715, rfl⟩
abbrev main_v1422 : Ref sig .tc := ⟨.hbm, 1716, rfl⟩
abbrev main_v1423 : Ref sig .tc := ⟨.hbm, 1717, rfl⟩
abbrev main_cst_264 : Ref sig .tc := ⟨.hbm, 1718, rfl⟩
abbrev main_v1424 : Ref sig .tc := ⟨.hbm, 1719, rfl⟩
abbrev main_v1425 : Ref sig .tc := ⟨.hbm, 1720, rfl⟩
abbrev main_cst_265 : Ref sig .tc := ⟨.hbm, 1721, rfl⟩
abbrev main_v1426 : Ref sig .tc := ⟨.hbm, 1722, rfl⟩
abbrev main_v1427 : Ref sig .tc := ⟨.hbm, 1723, rfl⟩
abbrev main_v1428 : Ref sig .tc := ⟨.hbm, 1724, rfl⟩
abbrev main_v1429 : Ref sig .tc := ⟨.hbm, 1725, rfl⟩
abbrev main_cst_266 : Ref sig .tc := ⟨.hbm, 1726, rfl⟩
abbrev main_v1430 : Ref sig .tc := ⟨.hbm, 1727, rfl⟩
abbrev main_v1431 : Ref sig .tc := ⟨.hbm, 1728, rfl⟩
abbrev main_cst_267 : Ref sig .tc := ⟨.hbm, 1729, rfl⟩
abbrev main_v1432 : Ref sig .tc := ⟨.hbm, 1730, rfl⟩
abbrev main_v1433 : Ref sig .tc := ⟨.hbm, 1731, rfl⟩
abbrev main_v1434 : Ref sig .tc := ⟨.hbm, 1732, rfl⟩
abbrev main_v1435 : Ref sig .tc := ⟨.hbm, 1733, rfl⟩
abbrev main_cst_268 : Ref sig .tc := ⟨.hbm, 1734, rfl⟩
abbrev main_v1436 : Ref sig .tc := ⟨.hbm, 1735, rfl⟩
abbrev main_v1437 : Ref sig .tc := ⟨.hbm, 1736, rfl⟩
abbrev main_cst_269 : Ref sig .tc := ⟨.hbm, 1737, rfl⟩
abbrev main_v1438 : Ref sig .tc := ⟨.hbm, 1738, rfl⟩
abbrev main_v1439 : Ref sig .tc := ⟨.hbm, 1739, rfl⟩
abbrev main_v1440 : Ref sig .tc := ⟨.hbm, 1740, rfl⟩
abbrev main_v1441 : Ref sig .tc := ⟨.hbm, 1741, rfl⟩
abbrev main_v1442 : Ref sig .tc := ⟨.hbm, 1742, rfl⟩
abbrev main_v1443 : Ref sig .tc := ⟨.hbm, 1743, rfl⟩
abbrev main_v1444 : Ref sig .tc := ⟨.hbm, 1744, rfl⟩
abbrev main_v1445 : Ref sig .tc := ⟨.hbm, 1745, rfl⟩
abbrev main_v1446 : Ref sig .tc := ⟨.hbm, 1746, rfl⟩
abbrev main_v1447 : Ref sig .tc := ⟨.hbm, 1747, rfl⟩
abbrev main_v1448 : Ref sig .tc := ⟨.hbm, 1748, rfl⟩
abbrev main_v1449 : Ref sig .tc := ⟨.hbm, 1749, rfl⟩
abbrev main_v1450 : Ref sig .tc := ⟨.hbm, 1750, rfl⟩
abbrev main_v1451 : Ref sig .tc := ⟨.hbm, 1751, rfl⟩
abbrev main_call4_cst : Ref sig .tc := ⟨.hbm, 1752, rfl⟩
abbrev main_call4_v0 : Ref sig .tc := ⟨.hbm, 1753, rfl⟩
abbrev main_v1452 : Ref sig .tc := ⟨.hbm, 1754, rfl⟩
abbrev main_v1453 : Ref sig .tc := ⟨.hbm, 1755, rfl⟩

abbrev nD : Nat := 1
abbrev τ : Topo := Topo.v7x

variable {F : FTy → Type} [FloatOps F]
-- ==== Proof.KernelRun.lean ====
/- The run of the idealized kernel with its result named: every execution of the two launches ends with the argument
   arrays as launched and the result array at `result`, the host operations and the two bodies composed. -/
module

public import proofs.«01_k».proof.Defs
public import proofs.«01_k».proof.Proof.Gen.KernelIdeal.Frame
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with every buffer of the TensorCore at the last boundary's contents. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-! ## The regions' input blocks are whole arrays -/

section Blocks
variable (V : (c : Dev nD) → (b : Ref sig .tc) → Buf (Elt F) ((c : Thread nD τ).loc b))

/-- Every window's block index at the one point of the encoder's launch. -/
theorem idx0 : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0, 0] :=
  (by decide +kernel : ∀ t : Fin grid0.N, _)
/-- Every window's block index at the one point of the decoder's launch. -/
theorem idx1 : ∀ t : Fin cfg1.N, win1_0.index t = ![0, 0, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![0, 0] :=
  (by decide +kernel : ∀ t : Fin grid1.N, _)

theorem iblk0_0 (c : Dev nD) : iblk0 V c 0 t0_0 = V c main_v0 := by blk_ext! [iblk0, idx0 t0_0]
theorem iblk0_1 (c : Dev nD) : iblk0 V c 1 t0_0 = V c main_arg1 := by blk_ext! [iblk0, idx0 t0_0]
theorem iblk0_2 (c : Dev nD) : iblk0 V c 2 t0_0 = V c main_v1 := by blk_ext! [iblk0, idx0 t0_0]
theorem iblk0_3 (c : Dev nD) : iblk0 V c 3 t0_0 = V c main_arg3 := by blk_ext! [iblk0, idx0 t0_0]
theorem iblk0_4 (c : Dev nD) : iblk0 V c 4 t0_0 = V c main_v2 := by blk_ext! [iblk0, idx0 t0_0]
theorem iblk1_0 (c : Dev nD) : iblk1 V c 0 t1_0 = V c main_v3 := by blk_ext! [iblk1, idx1 t1_0]
theorem iblk1_1 (c : Dev nD) : iblk1 V c 1 t1_0 = V c main_arg5 := by blk_ext! [iblk1, idx1 t1_0]
theorem iblk1_2 (c : Dev nD) : iblk1 V c 2 t1_0 = V c main_v4 := by blk_ext! [iblk1, idx1 t1_0]
theorem iblk1_3 (c : Dev nD) : iblk1 V c 3 t1_0 = V c main_arg7 := by blk_ext! [iblk1, idx1 t1_0]
theorem iblk1_4 (c : Dev nD) : iblk1 V c 4 t1_0 = V c main_v5 := by blk_ext! [iblk1, idx1 t1_0]
theorem iblk1_5 (c : Dev nD) : iblk1 V c 5 t1_0 = V c main_arg9 := by blk_ext! [iblk1, idx1 t1_0]
theorem iblk1_6 (c : Dev nD) : iblk1 V c 6 t1_0 = V c main_v6 := by blk_ext! [iblk1, idx1 t1_0]

/-- The encoder's array after its region: the body's output of the arrays as the region finds them. -/
theorem final0 (c : Dev nD) : (dat0 V c).arrAt 5 cfg0.N
    = out0_5 (V c main_v0) (V c main_arg1) (V c main_v1) (V c main_arg3) (V c main_v2) := by
  refine (dat0 V c).arrAt_eq_of_after_last 5 t0_0 (by decide +kernel) _ fun j => ?_
  blk_simp [idx0 t0_0]
  rw [after0_5, iblk0_0, iblk0_1, iblk0_2, iblk0_3, iblk0_4]

/-- The decoder's array after its region. -/
theorem final1 (c : Dev nD) : (dat1 V c).arrAt 7 cfg1.N
    = out1_7 (V c main_v3) (V c main_arg5) (V c main_v4) (V c main_arg7) (V c main_v5) (V c main_arg9) (V c main_v6) := by
  refine (dat1 V c).arrAt_eq_of_after_last 7 t1_0 (by decide +kernel) _ fun j => ?_
  blk_simp [idx1 t1_0]
  rw [after1_7, iblk1_0, iblk1_1, iblk1_2, iblk1_3, iblk1_4, iblk1_5, iblk1_6]

end Blocks

/-! ## The contents at the boundaries -/

/-- The encoder's result: the first body on the image's frames, with each bias as a row. -/
def enc (c : Dev nD) : Vec F S4x192x512 .f32 :=
  out0_5 (shapeCast S4x16x3072 (m ((c : Thread nD τ).loc main_arg0)) shapeCasts_S1x4x16x3072_S4x16x3072)
    (m ((c : Thread nD τ).loc main_arg1))
    (shapeCast S1x512 (m ((c : Thread nD τ).loc main_arg2)) shapeCasts_S512_S1x512)
    (m ((c : Thread nD τ).loc main_arg3))
    (shapeCast S1x2048 (m ((c : Thread nD τ).loc main_arg4)) shapeCasts_S2048_S1x2048)

/-- The decoder's result: the second body on the encoder's. -/
def dec (c : Dev nD) : Vec F S16x3072 .f32 :=
  out1_7 (enc m c)
    (m ((c : Thread nD τ).loc main_arg5))
    (shapeCast S1x2048 (m ((c : Thread nD τ).loc main_arg6)) shapeCasts_S2048_S1x2048)
    (m ((c : Thread nD τ).loc main_arg7))
    (shapeCast S1x512 (m ((c : Thread nD τ).loc main_arg8)) shapeCasts_S512_S1x512)
    (m ((c : Thread nD τ).loc main_arg9))
    (shapeCast S1x64 (m ((c : Thread nD τ).loc main_arg10)) shapeCasts_S64_S1x64)

/-- The result array: the decoder's with two leading axes of one. -/
def result (c : Dev nD) : Vec F S1x1x16x3072 .f32 :=
  broadcastInDim S1x1x16x3072 ![2, 3] bcast_S16x3072_S1x1x16x3072_2_3 (dec m c)

theorem W2_enc (c : Dev nD) : W2 m ρ c main_v3 = enc m c :=
  (W2_arr m ρ c 5).trans ((final0 _ c).trans (by
    rw [show V1 m ρ c main_arg1 = m ((c : Thread nD τ).loc main_arg1) from W1_args m ρ c _ (by decide),
      show V1 m ρ c main_arg3 = m ((c : Thread nD τ).loc main_arg3) from W1_args m ρ c _ (by decide)]
    rfl))

theorem W4_dec (c : Dev nD) : W4 m ρ c main_v7 = dec m c :=
  (W4_arr m ρ c 7).trans ((final1 _ c).trans (by
    rw [show V3 m ρ c main_arg5 = m ((c : Thread nD τ).loc main_arg5) from W3_args m ρ c _ (by decide),
      show V3 m ρ c main_arg7 = m ((c : Thread nD τ).loc main_arg7) from W3_args m ρ c _ (by decide),
      show V3 m ρ c main_arg9 = m ((c : Thread nD τ).loc main_arg9) from W3_args m ρ c _ (by decide),
      show V3 m ρ c main_v3 = enc m c from (W3_of m ρ c main_v3 (by decide)).trans (W2_enc m ρ c),
      show V3 m ρ c main_v4 = shapeCast S1x2048 (W2 m ρ c main_arg6) shapeCasts_S2048_S1x2048 from rfl,
      show V3 m ρ c main_v5 = shapeCast S1x512 (W2 m ρ c main_arg8) shapeCasts_S512_S1x512 from rfl,
      show V3 m ρ c main_v6 = shapeCast S1x64 (W2 m ρ c main_arg10) shapeCasts_S64_S1x64 from rfl,
      show W2 m ρ c main_arg6 = m ((c : Thread nD τ).loc main_arg6) from W2_args m ρ c _ (by decide),
      show W2 m ρ c main_arg8 = m ((c : Thread nD τ).loc main_arg8) from W2_args m ρ c _ (by decide),
      show W2 m ρ c main_arg10 = m ((c : Thread nD τ).loc main_arg10) from W2_args m ρ c _ (by decide)]
    rfl))

theorem W5_result (c : Dev nD) : W5 m ρ c main_v8 = result m c := by
  rw [show W5 m ρ c main_v8 = broadcastInDim S1x1x16x3072 ![2, 3] bcast_S16x3072_S1x1x16x3072_2_3 (W4 m ρ c main_v7) from rfl,
    W4_dec]
  rfl

/-- Every execution ends with the result array at `result` and the argument arrays as launched. -/
theorem run : θ_run defs (onTc (τ := τ) (main (F := F))) ⟨m, fun _ => 0, ρ⟩ (fun r => ∀ c : Dev nD,
      r.2.mem ((c : Thread nD τ).loc main_v8) = result m c
      ∧ ∀ a ∈ argRefs, r.2.mem ((c : Thread nD τ).loc a) = m ((c : Thread nD τ).loc a)) :=
  (run_last m ρ).mono fun _ h c =>
    ⟨(h c _ (mem_uc main_v8 (by decide))).trans (W5_result m ρ c),
      fun a ha => (h c _ (mem_uc a (by revert a; decide))).trans (W5_args m ρ c a ha)⟩

end Cert.KernelIdeal.Run
-- ==== Proof.Spec.lean ====
/- The mathematics of the graph-convolutional LSTM autoencoder on a ring, on extended reals and on arrays that are
   functions of two numbers, node and feature. Nothing here mentions a program. -/
module

public import Idealize.ShloMosaic.PureOps.Ideal

@[expose] public section

noncomputable section

namespace Cert.Ring

open Idealize.ShloMosaic

/-- An array read by node and feature. -/
abbrev Arr := ℕ → ℕ → EReal

/-- Every entry among the first `N` nodes and `D` features is a real number. -/
def IsReal (N D : ℕ) (z : Arr) : Prop := ∀ i < N, ∀ j < D, ∃ r : ℝ, z i j = (r : EReal)

/-- Two arrays agree on the first `N` nodes and `D` features. -/
def Agree (N D : ℕ) (y z : Arr) : Prop := ∀ i < N, ∀ j < D, y i j = z i j

/-- The distance along the ring to neighbour `k` of a node: itself, then one step either way, two steps, and so on. -/
def off (N : ℕ) (k : ℕ) : ℕ := if k % 2 = 1 then (k + 1) / 2 else if k = 0 then 0 else N - k / 2

/-- The weight of neighbour `k`: one for the node itself, minus an eighth for each of the eight others. -/
def wt (k : ℕ) : EReal := if k = 0 then 1 else ((-(1 / 8) : ℝ) : EReal)

/-- The ring's Laplacian as a sum over the nine entries of a row. -/
def lap (N : ℕ) (z : Arr) : Arr := fun i j => ∑ k : Fin 9, z ((i + off N k) % N) j * wt k

/-- The array read `k` nodes further along the ring. -/
def sh (N k : ℕ) (z : Arr) : Arr := fun i j => z ((i + k) % N) j

/-- The sum of two arrays. -/
def add (x y : Arr) : Arr := fun i j => x i j + y i j

/-- A window of eight consecutive nodes summed by doubling. -/
def win (N : ℕ) (z : Arr) : Arr :=
  add (add (add z (sh N 1 z)) (sh N 2 (add z (sh N 1 z)))) (sh N 4 (add (add z (sh N 1 z)) (sh N 2 (add z (sh N 1 z)))))

/-- The Laplacian by a window sum: nine eighths of the entry less an eighth of the nine entries around it. -/
def lapWin (N : ℕ) (z : Arr) : Arr := fun i j =>
  ((9 / 8 : ℝ) : EReal) * z i j - ((1 / 8 : ℝ) : EReal) * (sh N (N - 4) (win N z) i j + sh N 4 z i j)

/-- Two arrays side by side along the features, the first of `C` features. -/
def cat (C : ℕ) (x y : Arr) : Arr := fun i j => if j < C then x i j else y i (j - C)

/-- The second Chebyshev term from the input and the Laplacian's value `l2` of the first. -/
def cheb (z l : Arr) : Arr := fun i j => ((2 : ℝ) : EReal) * l i j - z i j

/-- The three Chebyshev terms side by side. -/
def zcat (N D : ℕ) (z : Arr) : Arr := cat D z (cat D (lap N z) (cheb z (lap N (lap N z))))

/-- The gates before their nonlinearities: the terms times the weights, plus the bias. -/
def gates (N D : ℕ) (w : Arr) (b : ℕ → EReal) (z : Arr) : Arr := fun i q =>
  (∑ k : Fin (3 * D), zcat N D z i k * w k q) + b q

/-- The new cell state from the gates and the old one: input, forget, output and candidate gates lie in this order. -/
def cellC (H : ℕ) (g c : Arr) : Arr := fun i j =>
  Ideal.logistic (g i (H + j)) * c i j + Ideal.logistic (g i j) * Ideal.tanh (g i (3 * H + j))

/-- The new hidden state from the gates and the new cell state. -/
def cellH (H : ℕ) (g c : Arr) : Arr := fun i j => Ideal.logistic (g i (2 * H + j)) * Ideal.tanh (c i j)

/-- The array of zeros. -/
def zero : Arr := fun _ _ => 0

/-- The gates of one step, from the frame and the state. -/
def stepGates (N C H : ℕ) (w : Arr) (b : ℕ → EReal) (x h : Arr) : Arr := gates N (C + H) w b (cat C x h)

/-- One step: the state is the pair of the cell and the hidden array. -/
def step (N C H : ℕ) (w : Arr) (b : ℕ → EReal) (x : Arr) (s : Arr × Arr) : Arr × Arr :=
  (cellC H (stepGates N C H w b x s.2) s.1,
    cellH H (stepGates N C H w b x s.2) (cellC H (stepGates N C H w b x s.2) s.1))

/-- The state after `t` frames, from zeros. -/
def state (N C H : ℕ) (w : Arr) (b : ℕ → EReal) (xs : ℕ → Arr) : ℕ → Arr × Arr
  | 0 => (zero, zero)
  | t + 1 => step N C H w b (xs t) (state N C H w b xs t)

/-- The positive part. -/
def relu (y : Arr) : Arr := fun i j => max (y i j) 0

/-- A layer's output at frame `t`: the positive part of the hidden state. -/
def layer (N C H : ℕ) (w : Arr) (b : ℕ → EReal) (xs : ℕ → Arr) (t : ℕ) : Arr :=
  relu (state N C H w b xs (t + 1)).2

/-- The greatest of four consecutive nodes. -/
def pool (y : Arr) : Arr := fun i j => Finset.univ.fold max ⊥ fun k : Fin 4 => y (4 * i + (k : ℕ)) j

/-- Each node four times over. -/
def unpool (y : Arr) : Arr := fun i j => y (i / 4) j

/-- The weights and biases of the five layers. -/
structure Params where
  w : ℕ → Arr
  b : ℕ → ℕ → EReal

/-- The first layer's frames, pooled. -/
def y1 (p : Params) (xs : ℕ → Arr) (t : ℕ) : Arr := pool (layer 3072 16 128 (p.w 1) (p.b 1) xs t)
/-- The second layer's frames, pooled. -/
def y2 (p : Params) (xs : ℕ → Arr) (t : ℕ) : Arr := pool (layer 768 128 512 (p.w 2) (p.b 2) (y1 p xs) t)
/-- The third layer's frames, each node repeated. -/
def y3 (p : Params) (xs : ℕ → Arr) (t : ℕ) : Arr := unpool (layer 192 512 512 (p.w 3) (p.b 3) (y2 p xs) t)
/-- The fourth layer's frames, each node repeated. -/
def y4 (p : Params) (xs : ℕ → Arr) (t : ℕ) : Arr := unpool (layer 768 512 128 (p.w 4) (p.b 4) (y3 p xs) t)
/-- The fifth layer's frames. -/
def y5 (p : Params) (xs : ℕ → Arr) (t : ℕ) : Arr := layer 3072 128 16 (p.w 5) (p.b 5) (y4 p xs) t

/-! ### What stays real -/

theorem isReal_logistic (x : EReal) : ∃ r : ℝ, Ideal.logistic x = (r : EReal) := by
  induction x with
  | bot => exact ⟨0, by simp⟩
  | coe r => exact ⟨_, Ideal.logistic_coe r⟩
  | top => exact ⟨1, by simp⟩

theorem isReal_tanh (x : EReal) : ∃ r : ℝ, Ideal.tanh x = (r : EReal) := by
  induction x with
  | bot => exact ⟨-1, by simp⟩
  | coe r => exact ⟨_, Ideal.tanh_coe r⟩
  | top => exact ⟨1, by simp⟩

/-- The hidden state is real whatever the gates and the cell state are. -/
theorem isReal_cellH (N D H : ℕ) (g c : Arr) : IsReal N D (cellH H g c) := by
  intro i _ j _
  obtain ⟨a, ha⟩ := isReal_logistic (g i (2 * H + j))
  obtain ⟨b, hb⟩ := isReal_tanh (c i j)
  exact ⟨a * b, by simp only [cellH, ha, hb, EReal.coe_mul]⟩

theorem isReal_state (N C H D : ℕ) (w : Arr) (b : ℕ → EReal) (xs : ℕ → Arr) (t : ℕ) :
    IsReal N D (state N C H w b xs t).2 := by
  cases t with
  | zero => exact fun _ _ _ _ => ⟨0, by simp [state, zero]⟩
  | succ t => exact isReal_cellH N D H _ _

theorem isReal_cat {N C H : ℕ} {x y : Arr} (hx : IsReal N C x) (hy : IsReal N H y) : IsReal N (C + H) (cat C x y) := by
  intro i hi j hj
  by_cases h : j < C
  · simpa only [cat, if_pos h] using hx i hi j h
  · simpa only [cat, if_neg h] using hy i hi (j - C) (by omega)

theorem isReal_relu {N D : ℕ} {y : Arr} (hy : IsReal N D y) : IsReal N D (relu y) := by
  intro i hi j hj
  obtain ⟨r, hr⟩ := hy i hi j hj
  exact ⟨max r 0, by
    rw [relu, hr, ← EReal.coe_zero]
    exact (Monotone.map_max (f := Real.toEReal) fun _ _ h => EReal.coe_le_coe_iff.mpr h).symm⟩

theorem isReal_layer (N C H D : ℕ) (w : Arr) (b : ℕ → EReal) (xs : ℕ → Arr) (t : ℕ) :
    IsReal N D (layer N C H w b xs t) := isReal_relu (isReal_state N C H D w b xs (t + 1))

theorem isReal_pool {N M D : ℕ} {y : Arr} (hN : M = 4 * N) (hy : IsReal M D y) : IsReal N D (pool y) := by
  intro i hi j hj
  obtain ⟨k, hk⟩ : ∃ k : Fin 4, pool y i j = y (4 * i + k) j := by
    have := Finset.exists_mem_eq_sup (Finset.univ : Finset (Fin 4)) ⟨0, Finset.mem_univ _⟩ (fun k => y (4 * i + (k : ℕ)) j)
    obtain ⟨k, -, hk⟩ := this
    exact ⟨k, hk⟩
  rw [hk]
  exact hy _ (by omega) j hj

theorem isReal_unpool {N M D : ℕ} {y : Arr} (hN : M = 4 * N) (hy : IsReal N D y) : IsReal M D (unpool y) :=
  fun i hi j hj => hy _ (by omega) j hj

theorem isReal_add {N D : ℕ} {x y : Arr} (hx : IsReal N D x) (hy : IsReal N D y) : IsReal N D (add x y) := by
  intro i hi j hj
  obtain ⟨a, ha⟩ := hx i hi j hj
  obtain ⟨b, hb⟩ := hy i hi j hj
  exact ⟨a + b, by simp only [add, ha, hb, EReal.coe_add]⟩

theorem isReal_y1 (p : Params) (xs : ℕ → Arr) (t : ℕ) : IsReal 768 128 (y1 p xs t) :=
  isReal_pool (M := 3072) rfl (isReal_layer 3072 16 128 128 _ _ xs t)

theorem isReal_y2 (p : Params) (xs : ℕ → Arr) (t : ℕ) : IsReal 192 512 (y2 p xs t) :=
  isReal_pool (M := 768) rfl (isReal_layer 768 128 512 512 _ _ _ t)

theorem isReal_y3 (p : Params) (xs : ℕ → Arr) (t : ℕ) : IsReal 768 512 (y3 p xs t) :=
  isReal_unpool (N := 192) rfl (isReal_layer 192 512 512 512 _ _ _ t)

theorem isReal_y4 (p : Params) (xs : ℕ → Arr) (t : ℕ) : IsReal 3072 128 (y4 p xs t) :=
  isReal_unpool (N := 768) rfl (isReal_layer 768 512 128 128 _ _ _ t)

/-! ### The two spellings of the Laplacian -/

/-- On real entries the window sum gives the sum over the row. -/
theorem lapWin_eq {N D : ℕ} (hN : 8 ≤ N) {z : Arr} (hz : IsReal N D z) : Agree N D (lapWin N z) (lap N z) := by
  intro i hi j hj
  obtain ⟨r, hr⟩ : ∃ r : ℕ → ℝ, ∀ a, z ((i + a) % N) j = (r (a % N) : EReal) := by
    have h : ∀ a, ∃ q : ℝ, z ((i + a % N) % N) j = (q : EReal) := fun a => hz _ (Nat.mod_lt _ (by omega)) j hj
    choose q hq using fun a => hz ((i + a) % N) (Nat.mod_lt _ (by omega)) j hj
    exact ⟨q, fun a => by rw [← hq, Nat.add_mod_mod]⟩
  have h0 : z i j = (r 0 : EReal) := by
    have h := hr 0
    rwa [Nat.add_zero, Nat.mod_eq_of_lt hi, Nat.zero_mod] at h
  have e : ∀ a b : ℕ, ((i + a) % N + b) % N = (i + (a + b)) % N := fun a b => by rw [Nat.mod_add_mod, Nat.add_assoc]
  have s0 : ∀ k, k < 8 → k % N = k := fun k hk => Nat.mod_eq_of_lt (by omega)
  have s1 : ∀ k, 0 < k → (N - k) % N = N - k := fun k hk => Nat.mod_eq_of_lt (by omega)
  have s2 : ∀ k, k < 8 → (N + k) % N = k := fun k hk => by rw [Nat.add_mod_left, s0 k hk]
  have hk : lap N z i j = (r 0 : EReal) * 1 + (r 1 : EReal) * (-(1 / 8) : ℝ) + (r (N - 1) : EReal) * (-(1 / 8) : ℝ)
      + (r 2 : EReal) * (-(1 / 8) : ℝ) + (r (N - 2) : EReal) * (-(1 / 8) : ℝ) + (r 3 : EReal) * (-(1 / 8) : ℝ)
      + (r (N - 3) : EReal) * (-(1 / 8) : ℝ) + (r 4 : EReal) * (-(1 / 8) : ℝ) + (r (N - 4) : EReal) * (-(1 / 8) : ℝ) := by
    rw [lap, Fin.sum_univ_castSucc, Fin.sum_univ_eight]
    simp only [hr, Fin.val_castSucc, Fin.val_last]
    simp [off, wt, s0, s1]
  have m0 : N - 4 + 1 = N - 3 := by omega
  have m1 : N - 4 + 2 = N - 2 := by omega
  have m2 : N - 2 + 1 = N - 1 := by omega
  have m3 : N - 4 + 4 = N + 0 := by omega
  rw [hk]
  simp only [lapWin, sh, win, add, Nat.mod_add_mod, Nat.add_assoc, m0, m1, m2, m3, hr, h0, Nat.zero_add]
  rw [s1 4 (by omega), s1 3 (by omega), s1 2 (by omega), s1 1 (by omega), s2 0 (by omega), s2 1 (by omega), s2 2 (by omega),
    s2 3 (by omega), s0 4 (by omega)]
  norm_cast
  ring

/-- The Laplacian of real entries is real. -/
theorem isReal_lap {N D : ℕ} {z : Arr} (hz : IsReal N D z) : IsReal N D (lap N z) := by
  intro i hi j hj
  have h : ∀ k : Fin 9, ∃ r : ℝ, z ((i + off N k) % N) j * wt k = (r : EReal) := by
    intro k
    obtain ⟨r, hr⟩ := hz ((i + off N k) % N) (Nat.mod_lt _ (by omega)) j hj
    by_cases hk : (k : ℕ) = 0
    · exact ⟨r, by rw [hr, wt, if_pos hk, mul_one]⟩
    · exact ⟨r * (-(1 / 8)), by rw [hr, wt, if_neg hk, EReal.coe_mul]⟩
  choose r hr using h
  refine ⟨∑ k, r k, ?_⟩
  rw [lap, Finset.sum_congr rfl fun k _ => hr k]
  exact (map_sum (⟨⟨Real.toEReal, EReal.coe_zero⟩, EReal.coe_add⟩ : ℝ →+ EReal) r _).symm

end Cert.Ring
-- ==== Proof.KernelOps.lean ====
/- The kernel's own operations, at any sizes: how each is spelled and which array of `Spec` it holds at the ideal
   values. `N` is the number of nodes, `C` of a frame's features, `H` of hidden features. -/
module

public import proofs.«01_k».proof.Proof.Spec
public import Idealize.ShloMosaic.Lib.ValueLayout
public import Idealize.ShloMosaic.Lib.MatmulPlain
public import Idealize.ShloMosaic.Lib.Pipeline.Value
public import Idealize.ShloMosaic.Lib.Pointwise

@[expose] public section

noncomputable section

namespace Cert.Ring

open Idealize.ShloMosaic

/-! ### Shapes -/

/-- A matrix's rows from `k` on. -/
theorem slices_rows {n d k m : ℕ} (h : k + m ≤ n) : (⟨2, ![n, d]⟩ : Shape).Slices ![k, 0] ⟨2, ![m, d]⟩ :=
  ⟨rfl, fun a => match a with | ⟨0, _⟩ => h | ⟨1, _⟩ => (Nat.zero_add d).le⟩

/-- A matrix's columns from `k` on. -/
theorem slices_cols {n d k m : ℕ} (h : k + m ≤ d) : (⟨2, ![n, d]⟩ : Shape).Slices ![0, k] ⟨2, ![n, m]⟩ :=
  ⟨rfl, fun a => match a with | ⟨0, _⟩ => (Nat.zero_add n).le | ⟨1, _⟩ => h⟩

/-- One matrix above another. -/
theorem concat_rows {n a b d : ℕ} (h : a + b = n) :
    Shape.Concatenates [⟨2, ![a, d]⟩, ⟨2, ![b, d]⟩] ⟨2, ![n, d]⟩ (0 : Fin 2) := by
  refine ⟨le_refl 2, fun s hs => ?_, ?_⟩
  · simp only [List.mem_cons, List.not_mem_nil, or_false] at hs
    rcases hs with rfl | rfl <;> exact ⟨rfl, fun b hb => match b, hb with | ⟨0, _⟩, hb => absurd rfl hb | ⟨1, _⟩, _ => rfl⟩
  · simpa using h

/-- Matrices side by side: two. -/
theorem concat_cols {n a b d : ℕ} (h : a + b = d) :
    Shape.Concatenates [⟨2, ![n, a]⟩, ⟨2, ![n, b]⟩] ⟨2, ![n, d]⟩ (1 : Fin 2) := by
  refine ⟨le_refl 2, fun s hs => ?_, ?_⟩
  · simp only [List.mem_cons, List.not_mem_nil, or_false] at hs
    rcases hs with rfl | rfl <;> exact ⟨rfl, fun b hb => match b, hb with | ⟨1, _⟩, hb => absurd rfl hb | ⟨0, _⟩, _ => rfl⟩
  · simpa using h

/-- Matrices side by side: three of one width. -/
theorem concat_cols3 {n d : ℕ} :
    Shape.Concatenates [⟨2, ![n, d]⟩, ⟨2, ![n, d]⟩, ⟨2, ![n, d]⟩] ⟨2, ![n, 3 * d]⟩ (1 : Fin 2) := by
  refine ⟨Nat.le_succ 2, fun s hs => ?_, ?_⟩
  · simp only [List.mem_cons, List.not_mem_nil, or_false, or_self] at hs
    subst hs
    exact ⟨rfl, fun b hb => match b, hb with | ⟨1, _⟩, hb => absurd rfl hb | ⟨0, _⟩, _ => rfl⟩
  · simp
    omega

theorem broadcasts_row {n d : ℕ} : (⟨2, ![1, d]⟩ : Shape).Broadcasts ⟨2, ![n, d]⟩ :=
  ⟨le_refl 2, fun a => match a with | ⟨0, _⟩ => .inl rfl | ⟨1, _⟩ => .inr fun _ => rfl⟩

theorem broadcasts_mid {m d : ℕ} : (⟨3, ![m, 1, d]⟩ : Shape).Broadcasts ⟨3, ![m, 4, d]⟩ :=
  ⟨le_refl 3, fun a => match a with | ⟨0, _⟩ => .inr fun _ => rfl | ⟨1, _⟩ => .inl rfl | ⟨2, _⟩ => .inr fun _ => rfl⟩

theorem casts_split {m d : ℕ} : (⟨2, ![4 * m, d]⟩ : Shape).ShapeCasts ⟨3, ![m, 4, d]⟩ := by
  simp only [Shape.ShapeCasts, Shape.numel, Fin.prod_univ_succ, Fin.prod_univ_zero]
  simp
  ring

theorem casts_mid {m d : ℕ} : (⟨2, ![m, d]⟩ : Shape).ShapeCasts ⟨3, ![m, 1, d]⟩ := by
  simp only [Shape.ShapeCasts, Shape.numel, Fin.prod_univ_succ, Fin.prod_univ_zero]
  simp

theorem casts_drop {m d : ℕ} : (⟨3, ![1, m, d]⟩ : Shape).ShapeCasts ⟨2, ![m, d]⟩ := by
  simp only [Shape.ShapeCasts, Shape.numel, Fin.prod_univ_succ, Fin.prod_univ_zero]
  simp

theorem reduces_mid {m d : ℕ} : (⟨3, ![m, 4, d]⟩ : Shape).Reduces [1] ⟨2, ![m, d]⟩ :=
  ⟨rfl, Nat.two_pos, fun a => match a with | ⟨0, _⟩ => rfl | ⟨1, _⟩ => rfl⟩

theorem transposes_two {m d : ℕ} : (⟨2, ![m, d]⟩ : Shape).Transposes [1, 0] ⟨2, ![d, m]⟩ :=
  ⟨List.Perm.swap 0 1 [], rfl, fun a => match a with | ⟨0, _⟩ => rfl | ⟨1, _⟩ => rfl⟩

/-! ### The operations as the kernel spells them -/

variable {F : FTy → Type} [FloatOps F]

/-- The rows turned by `k` places. -/
def kSh (N D k : ℕ) (hk : k ≤ N) (z : FVec F ⟨2, ![N, D]⟩ .f32) : FVec F ⟨2, ![N, D]⟩ .f32 :=
  concatenate ⟨2, ![N, D]⟩ (0 : Fin 2)
    [⟨⟨2, ![N - k, D]⟩, extractStridedSlice ⟨2, ![N - k, D]⟩ ![k, 0] z (slices_rows (by omega))⟩,
      ⟨⟨2, ![k, D]⟩, extractStridedSlice ⟨2, ![k, D]⟩ ![0, 0] z (slices_rows (by omega))⟩] (concat_rows (by omega))

/-- The window sum of eight rows. -/
def kWin (N D : ℕ) (hN : 8 ≤ N) (z : FVec F ⟨2, ![N, D]⟩ .f32) : FVec F ⟨2, ![N, D]⟩ .f32 :=
  addf (addf (addf z (kSh N D 1 (by omega) z)) (kSh N D 2 (by omega) (addf z (kSh N D 1 (by omega) z))))
    (kSh N D 4 (by omega) (addf (addf z (kSh N D 1 (by omega) z)) (kSh N D 2 (by omega) (addf z (kSh N D 1 (by omega) z)))))

/-- The Laplacian by the window sum. -/
def kLap (N D : ℕ) (hN : 8 ≤ N) (z : FVec F ⟨2, ![N, D]⟩ .f32) : FVec F ⟨2, ![N, D]⟩ .f32 :=
  subf (mulf (broadcast ⟨2, ![N, D]⟩ (Scalar.ofBits .f32 0x3F900000#32)) z)
    (mulf (broadcast ⟨2, ![N, D]⟩ (Scalar.ofBits .f32 0x3E000000#32))
      (addf (kSh N D (N - 4) (by omega) (kWin N D hN z)) (kSh N D 4 (by omega) z)))

/-- A frame and a hidden state side by side. -/
def kCat (N C H : ℕ) (x : FVec F ⟨2, ![N, C]⟩ .f32) (h : FVec F ⟨2, ![N, H]⟩ .f32) : FVec F ⟨2, ![N, C + H]⟩ .f32 :=
  concatenate ⟨2, ![N, C + H]⟩ (1 : Fin 2) [⟨⟨2, ![N, C]⟩, x⟩, ⟨⟨2, ![N, H]⟩, h⟩] (concat_cols rfl)

/-- The three Chebyshev terms side by side. -/
def kZcat (N D : ℕ) (hN : 8 ≤ N) (z : FVec F ⟨2, ![N, D]⟩ .f32) : FVec F ⟨2, ![N, 3 * D]⟩ .f32 :=
  concatenate ⟨2, ![N, 3 * D]⟩ (1 : Fin 2) [⟨⟨2, ![N, D]⟩, z⟩, ⟨⟨2, ![N, D]⟩, kLap N D hN z⟩,
    ⟨⟨2, ![N, D]⟩, subf (mulf (broadcast ⟨2, ![N, D]⟩ (Scalar.ofBits .f32 0x40000000#32)) (kLap N D hN (kLap N D hN z))) z⟩]
    concat_cols3

/-- The gates. -/
def kGates (N D M : ℕ) (hN : 8 ≤ N) (w : FVec F ⟨2, ![3 * D, M]⟩ .f32) (b : FVec F ⟨2, ![1, M]⟩ .f32)
    (z : FVec F ⟨2, ![N, D]⟩ .f32) : FVec F ⟨2, ![N, M]⟩ .f32 :=
  addf (matmul (DotDims.plain N (3 * D) M) none (kZcat N D hN z) w (constant ⟨2, ![N, M]⟩ .f32 0x00000000#32))
    (broadcastTo ⟨2, ![N, M]⟩ (shapeCast ⟨2, ![1, M]⟩ b rfl) broadcasts_row)

/-- The new cell state. -/
def kC (N H : ℕ) (g : FVec F ⟨2, ![N, 4 * H]⟩ .f32) (c : FVec F ⟨2, ![N, H]⟩ .f32) : FVec F ⟨2, ![N, H]⟩ .f32 :=
  addf (mulf (logistic (extractStridedSlice ⟨2, ![N, H]⟩ ![0, H] g (slices_cols (by omega)))) c)
    (mulf (logistic (extractStridedSlice ⟨2, ![N, H]⟩ ![0, 0] g (slices_cols (by omega))))
      (tanh (extractStridedSlice ⟨2, ![N, H]⟩ ![0, 3 * H] g (slices_cols (by omega)))))

/-- The new hidden state. -/
def kH (N H : ℕ) (g : FVec F ⟨2, ![N, 4 * H]⟩ .f32) (c : FVec F ⟨2, ![N, H]⟩ .f32) : FVec F ⟨2, ![N, H]⟩ .f32 :=
  mulf (logistic (extractStridedSlice ⟨2, ![N, H]⟩ ![0, 2 * H] g (slices_cols (by omega)))) (tanh c)

/-- The array of zeros. -/
def kZero (N H : ℕ) : FVec F ⟨2, ![N, H]⟩ .f32 := broadcast ⟨2, ![N, H]⟩ (Scalar.ofBits .f32 0x00000000#32)

/-- The positive part. -/
def kRelu (N H : ℕ) (y : FVec F ⟨2, ![N, H]⟩ .f32) : FVec F ⟨2, ![N, H]⟩ .f32 :=
  maximumf y (broadcast ⟨2, ![N, H]⟩ (Scalar.ofBits .f32 0x00000000#32))

/-- The greatest of each four rows. -/
def kPool (M H : ℕ) (y : FVec F ⟨2, ![4 * M, H]⟩ .f32) : FVec F ⟨2, ![M, H]⟩ .f32 :=
  multiReduction .maximumf [1] ⟨2, ![M, H]⟩ (shapeCast ⟨3, ![M, 4, H]⟩ y casts_split) 0xFF800000#32 reduces_mid (.inl rfl) rfl

/-- Each row four times. -/
def kUnpool (M H : ℕ) (y : FVec F ⟨2, ![M, H]⟩ .f32) : FVec F ⟨2, ![4 * M, H]⟩ .f32 :=
  shapeCast ⟨2, ![4 * M, H]⟩
    (broadcastTo ⟨3, ![M, 4, H]⟩ (shapeCast ⟨3, ![M, 1, H]⟩ (shapeCast ⟨3, ![M, 1, H]⟩ y casts_mid) rfl) broadcasts_mid)
    casts_split.symm

/-- A frame stored feature by node, read node by feature. -/
def kFrame (N C : ℕ) (x : FVec F ⟨3, ![1, C, N]⟩ .f32) : FVec F ⟨2, ![N, C]⟩ .f32 :=
  transpose ⟨2, ![N, C]⟩ [1, 0] (shapeCast ⟨2, ![C, N]⟩ x casts_drop) transposes_two

/-- The state after `t` frames: the cell and the hidden array. -/
def kState (N C H : ℕ) (hN : 8 ≤ N) (w : FVec F ⟨2, ![3 * (C + H), 4 * H]⟩ .f32) (b : FVec F ⟨2, ![1, 4 * H]⟩ .f32)
    (xs : ℕ → FVec F ⟨2, ![N, C]⟩ .f32) : ℕ → FVec F ⟨2, ![N, H]⟩ .f32 × FVec F ⟨2, ![N, H]⟩ .f32
  | 0 => (kZero N H, kZero N H)
  | t + 1 =>
    (kC N H (kGates N (C + H) (4 * H) hN w b (kCat N C H (xs t) (kState N C H hN w b xs t).2)) (kState N C H hN w b xs t).1,
      kH N H (kGates N (C + H) (4 * H) hN w b (kCat N C H (xs t) (kState N C H hN w b xs t).2))
        (kC N H (kGates N (C + H) (4 * H) hN w b (kCat N C H (xs t) (kState N C H hN w b xs t).2)) (kState N C H hN w b xs t).1))

/-- A layer's output at frame `t`. -/
def kLayer (N C H : ℕ) (hN : 8 ≤ N) (w : FVec F ⟨2, ![3 * (C + H), 4 * H]⟩ .f32) (b : FVec F ⟨2, ![1, 4 * H]⟩ .f32)
    (xs : ℕ → FVec F ⟨2, ![N, C]⟩ .f32) (t : ℕ) : FVec F ⟨2, ![N, H]⟩ .f32 :=
  kRelu N H (kState N C H hN w b xs (t + 1)).2

end Cert.Ring
-- ==== Proof.KernelAt.lean ====
/- Which array of `Spec` each of the kernel's operations holds, at the ideal values. -/
module

public import proofs.«01_k».proof.Proof.KernelOps
public import Idealize.ShloMosaic.PureOps.Ideal.Laws

@[expose] public section

noncomputable section

namespace Cert.Ring

open Idealize.ShloMosaic hiding ix1 ix2 ix3 ix4 ix5 eq_ix1 eq_ix2 eq_ix3 eq_ix4
open Idealize.ShloMosaic.ValueIdx

/-- A matrix of the program holds an array: they agree at every index. -/
def Is2 {N D : ℕ} (K : FVec Ideal ⟨2, ![N, D]⟩ .f32) (f : Arr) : Prop :=
  ∀ (i : ℕ) (hi : i < N) (j : ℕ) (hj : j < D), K (ix2 ⟨i, hi⟩ ⟨j, hj⟩) = f i j

/-- A bias stored as one row. -/
def IsRow {M : ℕ} (K : FVec Ideal ⟨2, ![1, M]⟩ .f32) (b : ℕ → EReal) : Prop :=
  ∀ (q : ℕ) (hq : q < M), K (ix2 (0 : Fin 1) ⟨q, hq⟩) = b q

variable {N D C H M : ℕ} {K L : FVec Ideal ⟨2, ![N, D]⟩ .f32} {f g : Arr}

/-- A matrix holds any array that agrees with one it holds. -/
theorem Is2.congr (h : Is2 K f) (e : Agree N D f g) : Is2 K g := fun i hi j hj => (h i hi j hj).trans (e i hi j hj)

theorem lit_nine_eighths : Ideal.ofBits .f32 0x3F900000#32 = ((9 / 8 : ℝ) : EReal) := by
  simp [Ideal.ofBits, Ideal.ieee, -EReal.coe_mul]; norm_num
theorem lit_eighth : Ideal.ofBits .f32 0x3E000000#32 = ((1 / 8 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_zero : Ideal.ofBits .f32 0x00000000#32 = 0 := by
  simp [Ideal.ofBits, Ideal.ieee, -EReal.coe_mul]
theorem lit_neg_inf : Ideal.ofBits .f32 0xFF800000#32 = ⊥ := by
  simp [Ideal.ofBits, Ideal.ieee, -EReal.coe_mul]

theorem is2_add (hK : Is2 K f) (hL : Is2 L g) : Is2 (addf K L) (add f g) := fun i hi j hj =>
  congrArg₂ (· + ·) (hK i hi j hj) (hL i hi j hj)

/-- Rows turned around the ring. -/
theorem is2_sh (k : ℕ) (hk : k ≤ N) (hK : Is2 K f) : Is2 (kSh N D k hk K) (sh N k f) := by
  intro i hi j hj
  unfold kSh
  by_cases h : i < N - k
  · refine (concatenate_pair_apply_left (t := ⟨2, ![N, D]⟩) (s₁ := ⟨2, ![N - k, D]⟩) (s₂ := ⟨2, ![k, D]⟩)
      (0 : Fin 2) _ _ _ _ rfl (ix2 (⟨i, h⟩ : Fin (N - k)) ⟨j, hj⟩)
      fun b => match b with | ⟨0, _⟩ => rfl | ⟨1, _⟩ => rfl).trans ?_
    rw [slice2_axis0_apply k K _ _ _ ⟨k + i, by omega⟩ rfl, hK, sh, Nat.mod_eq_of_lt (by omega), Nat.add_comm]
  · refine (concatenate_pair_apply_right (t := ⟨2, ![N, D]⟩) (s₁ := ⟨2, ![N - k, D]⟩) (s₂ := ⟨2, ![k, D]⟩)
      (0 : Fin 2) _ _ _ _ rfl rfl (ix2 (⟨i - (N - k), by omega⟩ : Fin k) ⟨j, hj⟩)
      (fun b hb => match b, hb with | ⟨0, _⟩, hb => absurd rfl hb | ⟨1, _⟩, _ => rfl) (by
        show i - (N - k) + (N - k) = i
        omega)).trans ?_
    rw [slice2_axis0_apply 0 K _ (⟨i - (N - k), by omega⟩ : Fin k) _ ⟨i - (N - k), by omega⟩ (Nat.zero_add _).symm, hK, sh]
    congr 1
    rw [show i + k = i - (N - k) + N by omega, Nat.add_mod_right, Nat.mod_eq_of_lt (by omega)]

theorem is2_win (hN : 8 ≤ N) (hK : Is2 K f) : Is2 (kWin N D hN K) (win N f) :=
  have h1 := is2_add hK (is2_sh 1 (by omega) hK)
  have h2 := is2_add h1 (is2_sh 2 (by omega) h1)
  is2_add h2 (is2_sh 4 (by omega) h2)

/-- On real entries the kernel's Laplacian is the ring's. -/
theorem is2_lap (hN : 8 ≤ N) (hf : IsReal N D f) (hK : Is2 K f) : Is2 (kLap N D hN K) (lap N f) := by
  refine Is2.congr (fun i hi j hj => ?_) (lapWin_eq hN hf)
  have h := is2_add (is2_sh (N - 4) (by omega) (is2_win hN hK)) (is2_sh 4 (by omega) hK) i hi j hj
  show Ideal.ofBits .f32 0x3F900000#32 * K _ - Ideal.ofBits .f32 0x3E000000#32 * addf _ _ _ = _
  rw [h, hK, lit_nine_eighths, lit_eighth]
  rfl

/-- Two matrices side by side. -/
theorem is2_cat {X : FVec Ideal ⟨2, ![N, C]⟩ .f32} {Y : FVec Ideal ⟨2, ![N, H]⟩ .f32} {x y : Arr} (hX : Is2 X x) (hY : Is2 Y y) :
    Is2 (kCat N C H X Y) (cat C x y) := by
  intro i hi j hj
  unfold kCat
  by_cases h : j < C
  · refine (concatenate_pair_apply_left (t := ⟨2, ![N, C + H]⟩) (s₁ := ⟨2, ![N, C]⟩) (s₂ := ⟨2, ![N, H]⟩)
      (1 : Fin 2) _ _ _ _ rfl (ix2 (⟨i, hi⟩ : Fin N) (⟨j, h⟩ : Fin C))
      fun b => match b with | ⟨0, _⟩ => rfl | ⟨1, _⟩ => rfl).trans ?_
    rw [hX, cat, if_pos h]
  · refine (concatenate_pair_apply_right (t := ⟨2, ![N, C + H]⟩) (s₁ := ⟨2, ![N, C]⟩) (s₂ := ⟨2, ![N, H]⟩)
      (1 : Fin 2) _ _ _ _ rfl rfl (ix2 (⟨i, hi⟩ : Fin N) (⟨j - C, by omega⟩ : Fin H))
      (fun b hb => match b, hb with | ⟨1, _⟩, hb => absurd rfl hb | ⟨0, _⟩, _ => rfl) (by
        show j - C + C = j
        omega)).trans ?_
    rw [hY, cat, if_neg h]

theorem is2_cheb (hK : Is2 K f) (hL : Is2 L g) :
    Is2 (subf (mulf (broadcast ⟨2, ![N, D]⟩ (Scalar.ofBits .f32 0x40000000#32)) L) K) (cheb f g) := by
  intro i hi j hj
  show Ideal.ofBits .f32 0x40000000#32 * L _ - K _ = _
  rw [hK, hL, lit_two]
  rfl

/-- Three matrices side by side. -/
theorem is2_cat3 {X Y Z : FVec Ideal ⟨2, ![N, D]⟩ .f32} {x y z : Arr} (hX : Is2 X x) (hY : Is2 Y y) (hZ : Is2 Z z) :
    Is2 (concatenate ⟨2, ![N, 3 * D]⟩ (1 : Fin 2) [⟨⟨2, ![N, D]⟩, X⟩, ⟨⟨2, ![N, D]⟩, Y⟩, ⟨⟨2, ![N, D]⟩, Z⟩] concat_cols3)
      (cat D x (cat D y z)) := by
  intro i hi j hj
  have piece : ∀ (k : ℕ) (hk : k < 3) (W : FVec Ideal ⟨2, ![N, D]⟩ .f32) (a : ℕ) (ha : a < D) (hj' : D * k + a = j)
      (hW : ([⟨⟨2, ![N, D]⟩, X⟩, ⟨⟨2, ![N, D]⟩, Y⟩, ⟨⟨2, ![N, D]⟩, Z⟩] :
        List ((s : Shape) × (s.Idx → EReal)))[k]'hk = ⟨⟨2, ![N, D]⟩, W⟩),
      concatenate ⟨2, ![N, 3 * D]⟩ (1 : Fin 2) [⟨⟨2, ![N, D]⟩, X⟩, ⟨⟨2, ![N, D]⟩, Y⟩, ⟨⟨2, ![N, D]⟩, Z⟩] concat_cols3
        (ix2 (⟨i, hi⟩ : Fin N) (⟨j, hj⟩ : Fin (3 * D))) = W (ix2 ⟨i, hi⟩ ⟨a, ha⟩) := by
    intro k hk W a ha hj' hW
    refine concatenate_apply_piece (t := ⟨2, ![N, 3 * D]⟩) (1 : Fin 2)
      [⟨⟨2, ![N, D]⟩, X⟩, ⟨⟨2, ![N, D]⟩, Y⟩, ⟨⟨2, ![N, D]⟩, Z⟩] concat_cols3 _ k hk _ W hW rfl (D * k) ?_ (ix2 ⟨i, hi⟩ ⟨a, ha⟩)
      (fun b hb => match b, hb with | ⟨1, _⟩, hb => absurd rfl hb | ⟨0, _⟩, _ => rfl) hj'
    match k, hk with
    | 0, _ => simp
    | 1, _ => simp
    | 2, _ => simp; omega
  by_cases h : j < D
  · rw [piece 0 (by omega) X j h (by omega) rfl, hX, cat, if_pos h]
  · by_cases h' : j - D < D
    · rw [piece 1 (by omega) Y (j - D) h' (by omega) rfl, hY, cat, if_neg h, cat, if_pos h']
    · rw [piece 2 (by omega) Z (j - D - D) (by omega) (by omega) rfl, hZ, cat, if_neg h, cat, if_neg h']

theorem is2_zcat (hN : 8 ≤ N) (hf : IsReal N D f) (hK : Is2 K f) : Is2 (kZcat N D hN K) (zcat N D f) :=
  have hl := is2_lap hN hf hK
  is2_cat3 hK hl (is2_cheb hK (is2_lap hN (isReal_lap hf) hl))

/-- The gates. -/
theorem is2_gates (hN : 8 ≤ N) (hf : IsReal N D f) (hK : Is2 K f) {W : FVec Ideal ⟨2, ![3 * D, M]⟩ .f32} {w : Arr} (hW : Is2 W w)
    {B : FVec Ideal ⟨2, ![1, M]⟩ .f32} {b : ℕ → EReal} (hB : IsRow B b) : Is2 (kGates N D M hN W B K) (gates N D w b f) := by
  intro i hi j hj
  show FloatOps.matmul _ _ _ _ _ _ + broadcastTo _ _ _ _ = _
  rw [Ideal.matmul_plain_apply, broadcastTo_1b_ab_apply, shapeCast_self, hB]
  show Ideal.ofBits .f32 0x00000000#32 + _ + _ = _
  rw [lit_zero, zero_add, gates]
  congr 1
  exact Finset.sum_congr rfl fun k _ => congrArg₂ (· * ·) (is2_zcat hN hf hK i hi k k.isLt) (hW k k.isLt j hj)

/-- A quarter of the gates. -/
theorem is2_cols {G : FVec Ideal ⟨2, ![N, M]⟩ .f32} (hG : Is2 G g) (o : ℕ) (ho : o + H ≤ M) :
    Is2 (extractStridedSlice ⟨2, ![N, H]⟩ ![0, o] G (slices_cols ho)) fun i j => g i (o + j) := fun i hi j hj => by
  rw [slice2_axis1_apply o G _ _ _ ⟨o + j, by omega⟩ rfl, hG]

section
variable {G : FVec Ideal ⟨2, ![N, 4 * H]⟩ .f32} {X : FVec Ideal ⟨2, ![N, H]⟩ .f32} {c : Arr}

theorem is2_cellC (hG : Is2 G g) (hX : Is2 X c) : Is2 (kC N H G X) (cellC H g c) := by
  intro i hi j hj
  show Ideal.logistic _ * X _ + Ideal.logistic _ * Ideal.tanh _ = _
  rw [is2_cols hG H (by omega) i hi j hj, is2_cols hG 0 (by omega) i hi j hj, is2_cols hG (3 * H) (by omega) i hi j hj, hX]
  simp only [Nat.zero_add]
  rfl

theorem is2_cellH (hG : Is2 G g) (hX : Is2 X c) : Is2 (kH N H G X) (cellH H g c) := by
  intro i hi j hj
  show Ideal.logistic _ * Ideal.tanh _ = _
  rw [is2_cols hG (2 * H) (by omega) i hi j hj, hX]
  rfl
end

theorem is2_zero : Is2 (kZero N H) zero := fun i hi j hj => lit_zero

theorem is2_relu (hK : Is2 K f) : Is2 (kRelu N D K) (relu f) := by
  intro i hi j hj
  show max (K _) (Ideal.ofBits .f32 0x00000000#32) = _
  rw [hK, lit_zero]
  rfl

theorem is2_pool {Y : FVec Ideal ⟨2, ![4 * M, H]⟩ .f32} {y : Arr} (hY : Is2 Y y) : Is2 (kPool M H Y) (pool y) := by
  intro i hi j hj
  unfold kPool
  refine (multiReduction_maximumf_eq_fold _ _ _ _ _ _).trans ?_
  rw [Shape.Reduces.fold_fiber_r3_a1]
  show Finset.univ.fold max (Ideal.ofBits .f32 0xFF800000#32) _ = _
  rw [lit_neg_inf, pool]
  refine Finset.fold_congr fun k _ => ?_
  rw [← hY (4 * i + k) (by omega) j hj]
  refine shapeCast_apply Y _ _ _ ?_
  rw [Shape.rowMajor_val_three, Shape.rowMajor_val_two]
  show (4 * i + k.val) * H + j = (i * 4 + k.val) * H + j
  ring

theorem is2_unpool {Y : FVec Ideal ⟨2, ![M, H]⟩ .f32} {y : Arr} (hY : Is2 Y y) : Is2 (kUnpool M H Y) (unpool y) := by
  intro i hi j hj
  unfold kUnpool
  refine (shapeCast_apply _ _ _ (ix3 (⟨i / 4, by omega⟩ : Fin M) (⟨i % 4, by omega⟩ : Fin 4) (⟨j, hj⟩ : Fin H)) ?_).trans ?_
  · rw [Shape.rowMajor_val_three, Shape.rowMajor_val_two]
    show (i / 4 * 4 + i % 4) * H + j = i * H + j
    rw [Nat.div_add_mod']
  · refine (broadcastTo_apply _ _ _ (ix3 (⟨i / 4, by omega⟩ : Fin M) (0 : Fin 1) (⟨j, hj⟩ : Fin H)) fun a => ?_).trans ?_
    · match a with
      | ⟨0, _⟩ =>
        show i / 4 = if M = 1 then 0 else i / 4
        split
        · omega
        · rfl
      | ⟨1, _⟩ => rfl
      | ⟨2, _⟩ =>
        show j = if H = 1 then 0 else j
        split
        · omega
        · rfl
    · rw [shapeCast_self, ← show Y (ix2 ⟨i / 4, by omega⟩ ⟨j, hj⟩) = unpool y i j from hY _ _ _ _]
      refine shapeCast_apply Y _ _ _ ?_
      rw [Shape.rowMajor_val_three, Shape.rowMajor_val_two]
      show i / 4 * H + j = (i / 4 * 1 + 0) * H + j
      ring

theorem is2_frame {X : FVec Ideal ⟨3, ![1, C, N]⟩ .f32} {x : Arr}
    (hx : ∀ (i : ℕ) (hi : i < N) (j : ℕ) (hj : j < C), X (ix3 (0 : Fin 1) ⟨j, hj⟩ ⟨i, hi⟩) = x i j) : Is2 (kFrame N C X) x :=
  fun i hi j hj => by rw [kFrame, transpose_ix2_apply, shapeCast_1ab_ab_apply, hx]

section Layer
variable {W : FVec Ideal ⟨2, ![3 * (C + H), 4 * H]⟩ .f32} {B : FVec Ideal ⟨2, ![1, 4 * H]⟩ .f32}
  {xs : ℕ → FVec Ideal ⟨2, ![N, C]⟩ .f32} {w : Arr} {b : ℕ → EReal} {ys : ℕ → Arr}

/-- The state after `t` frames: real frames suffice. -/
theorem is2_state (hN : 8 ≤ N) (hW : Is2 W w) (hB : IsRow B b) (t : ℕ) (hx : ∀ s < t, Is2 (xs s) (ys s))
    (hr : ∀ s < t, IsReal N C (ys s)) :
    Is2 (kState N C H hN W B xs t).1 (state N C H w b ys t).1 ∧ Is2 (kState N C H hN W B xs t).2 (state N C H w b ys t).2 := by
  induction t with
  | zero => exact ⟨is2_zero, is2_zero⟩
  | succ t ih =>
    obtain ⟨hc, hh⟩ := ih (fun s hs => hx s (by omega)) fun s hs => hr s (by omega)
    have hg := is2_gates hN (isReal_cat (hr t (by omega)) (isReal_state N C H H w b ys t)) (is2_cat (hx t (by omega)) hh) hW hB
    have hc' := is2_cellC hg hc
    exact ⟨hc', is2_cellH hg hc'⟩

/-- A layer's output at frame `t`. -/
theorem is2_layer (hN : 8 ≤ N) (hW : Is2 W w) (hB : IsRow B b) (t : ℕ) (hx : ∀ s ≤ t, Is2 (xs s) (ys s))
    (hr : ∀ s ≤ t, IsReal N C (ys s)) : Is2 (kLayer N C H hN W B xs t) (layer N C H w b ys t) :=
  is2_relu (is2_state hN hW hB (t + 1) (fun s hs => hx s (by omega)) fun s hs => hr s (by omega)).2
end Layer

end Cert.Ring
-- ==== Proof.Inputs.lean ====
/- The arguments as arrays of `Spec`. -/
module

public import proofs.«01_k».proof.Proof.KernelAt

@[expose] public section

noncomputable section

namespace Cert.Ring

open Idealize.ShloMosaic hiding ix1 ix2 ix3 ix4 ix5 eq_ix1 eq_ix2 eq_ix3 eq_ix4
open Idealize.ShloMosaic.ValueIdx

/-- A matrix argument, read by row and column. -/
def ofMat {N D : ℕ} (K : FVec Ideal ⟨2, ![N, D]⟩ .f32) : Arr :=
  fun i j => if h : i < N ∧ j < D then K (ix2 ⟨i, h.1⟩ ⟨j, h.2⟩) else 0

/-- A vector argument. -/
def ofVec {M : ℕ} (K : FVec Ideal ⟨1, ![M]⟩ .f32) : ℕ → EReal := fun q => if h : q < M then K (ix1 ⟨q, h⟩) else 0

/-- Frame `t` of the image, read by node and feature. -/
def ofImage {T C N : ℕ} (X : FVec Ideal ⟨4, ![1, T, C, N]⟩ .f32) (t : ℕ) : Arr :=
  fun i j => if h : t < T ∧ i < N ∧ j < C then X (ix4 (0 : Fin 1) ⟨t, h.1⟩ ⟨j, h.2.2⟩ ⟨i, h.2.1⟩) else 0

theorem is2_ofMat {N D : ℕ} (K : FVec Ideal ⟨2, ![N, D]⟩ .f32) : Is2 K (ofMat K) := fun i hi j hj => by
  rw [ofMat, dif_pos ⟨hi, hj⟩]

theorem ofVec_apply {M : ℕ} (K : FVec Ideal ⟨1, ![M]⟩ .f32) (q : ℕ) (hq : q < M) : ofVec K q = K (ix1 ⟨q, hq⟩) := by
  rw [ofVec, dif_pos hq]

theorem ofImage_apply {T C N : ℕ} (X : FVec Ideal ⟨4, ![1, T, C, N]⟩ .f32) (t : ℕ) (ht : t < T) (i : ℕ) (hi : i < N) (j : ℕ)
    (hj : j < C) : ofImage X t i j = X (ix4 (0 : Fin 1) ⟨t, ht⟩ ⟨j, hj⟩ ⟨i, hi⟩) := by
  rw [ofImage, dif_pos ⟨ht, hi, hj⟩]

/-- The image, the weights and the biases. -/
structure Args where
  x : FVec Ideal ⟨4, ![1, 4, 16, 3072]⟩ .f32
  W1 : FVec Ideal ⟨2, ![432, 512]⟩ .f32
  b1 : FVec Ideal ⟨1, ![512]⟩ .f32
  W2 : FVec Ideal ⟨2, ![1920, 2048]⟩ .f32
  b2 : FVec Ideal ⟨1, ![2048]⟩ .f32
  W3 : FVec Ideal ⟨2, ![3072, 2048]⟩ .f32
  b3 : FVec Ideal ⟨1, ![2048]⟩ .f32
  W4 : FVec Ideal ⟨2, ![1920, 512]⟩ .f32
  b4 : FVec Ideal ⟨1, ![512]⟩ .f32
  W5 : FVec Ideal ⟨2, ![432, 64]⟩ .f32
  b5 : FVec Ideal ⟨1, ![64]⟩ .f32

/-- The five layers' weights and biases. -/
def Args.p (A : Args) : Params where
  w l := match l with
    | 1 => ofMat A.W1
    | 2 => ofMat A.W2
    | 3 => ofMat A.W3
    | 4 => ofMat A.W4
    | _ => ofMat A.W5
  b l := match l with
    | 1 => ofVec A.b1
    | 2 => ofVec A.b2
    | 3 => ofVec A.b3
    | 4 => ofVec A.b4
    | _ => ofVec A.b5

/-- The image's frames. -/
def Args.xs (A : Args) : ℕ → Arr := ofImage A.x

/-- The four frames are real. -/
def Args.Real (A : Args) : Prop := ∀ t < 4, IsReal 3072 16 (A.xs t)

end Cert.Ring
-- ==== Proof.Encoder.lean ====
/- The first launch's payloads are the layers of `KernelOps`. -/
module

public import proofs.«01_k».proof.Proof.KernelOps
public import proofs.«01_k».proof.Proof.Gen.KernelIdeal.Frame

@[expose] public section

set_option maxRecDepth 16384

noncomputable section

namespace Cert.Ring

open Cert.KernelIdeal Cert.KernelIdeal.Gen
open Idealize.ShloMosaic

variable {F : FTy → Type} [FloatOps F] [Cert.KernelIdeal.Facts]

/-- Four arrays in a row. -/
def four {α : Type} (a b c d : α) : ℕ → α
  | 0 => a
  | 1 => b
  | 2 => c
  | _ => d

/-- The first layer's frames as the launch reads them. -/
def encX (x0 : Vec F S4x16x3072 .f32) : ℕ → FVec F ⟨2, ![3072, 16]⟩ .f32 :=
  four (kFrame 3072 16 (View.ld x0 r0_0)) (kFrame 3072 16 (View.ld x0 r0_1)) (kFrame 3072 16 (View.ld x0 r0_2))
    (kFrame 3072 16 (View.ld x0 r0_3))

/-- The first layer's frames, pooled. -/
def encY1 (x0 : Vec F S4x16x3072 .f32) (x1 : Vec F S432x512 .f32) (x2 : Vec F S1x512 .f32) (t : ℕ) : FVec F ⟨2, ![768, 128]⟩ .f32 :=
  kPool 768 128 (kLayer 3072 16 128 (by omega) (View.ld x1 r0_4) (View.ld x2 r0_5) (encX x0) t)

/-- The second layer's frames, pooled. -/
def encY2 (x0 : Vec F S4x16x3072 .f32) (x1 : Vec F S432x512 .f32) (x2 : Vec F S1x512 .f32) (x3 : Vec F S1920x2048 .f32)
    (x4 : Vec F S1x2048 .f32) (t : ℕ) : FVec F ⟨2, ![192, 512]⟩ .f32 :=
  kPool 192 512 (kLayer 768 128 512 (by omega) (View.ld x3 r0_6) (View.ld x4 r0_7) (encY1 x0 x1 x2) t)

/-- What one launch leaves of frame `t`: the pooled layer as a slab of one. -/
def encSlab (x0 : Vec F S4x16x3072 .f32) (x1 : Vec F S432x512 .f32) (x2 : Vec F S1x512 .f32) (x3 : Vec F S1920x2048 .f32)
    (x4 : Vec F S1x2048 .f32) (t : ℕ) : FVec F ⟨3, ![1, 192, 512]⟩ .f32 :=
  shapeCast ⟨3, ![1, 192, 512]⟩ (encY2 x0 x1 x2 x3 x4 t) casts_drop.symm

section
variable (x0 : Vec F S4x16x3072 .f32) (x1 : Vec F S432x512 .f32) (x2 : Vec F S1x512 .f32) (x3 : Vec F S1920x2048 .f32)
  (x4 : Vec F S1x2048 .f32)

theorem pay79_eq : k0_pay79 x0 x1 x2 x3 x4 = encY1 x0 x1 x2 0 := rfl
theorem pay82_eq : k0_pay82 x0 x1 x2 x3 x4 = encY1 x0 x1 x2 1 := rfl
theorem pay87_eq : k0_pay87 x0 x1 x2 x3 x4 = encY1 x0 x1 x2 2 := rfl
theorem pay88_eq : k0_pay88 x0 x1 x2 x3 x4 = encY1 x0 x1 x2 3 := rfl

/-- The first launch's array is the four slabs. -/
theorem out0_5_eq : out0_5 x0 x1 x2 x3 x4 =
    View.canon [⟨r0_11, encSlab x0 x1 x2 x3 x4 3⟩, ⟨r0_10, encSlab x0 x1 x2 x3 x4 2⟩, ⟨r0_9, encSlab x0 x1 x2 x3 x4 1⟩,
      ⟨r0_8, encSlab x0 x1 x2 x3 x4 0⟩] := rfl
end
end Cert.Ring
-- ==== Proof.Decoder.lean ====
/- The second launch's payload is the decoder's layers of `KernelOps`. -/
module

public import proofs.«01_k».proof.Proof.Encoder

@[expose] public section

set_option maxRecDepth 16384

noncomputable section

namespace Cert.Ring

open Cert.KernelIdeal Cert.KernelIdeal.Gen
open Idealize.ShloMosaic

variable {F : FTy → Type} [FloatOps F] [Cert.KernelIdeal.Facts]

/-- A slab of one frame as a matrix. -/
def kSlab (N H : ℕ) (x : FVec F ⟨3, ![1, N, H]⟩ .f32) : FVec F ⟨2, ![N, H]⟩ .f32 := shapeCast ⟨2, ![N, H]⟩ x casts_drop

/-- The third layer's frames as the launch reads them. -/
def decX (x0 : Vec F S4x192x512 .f32) : ℕ → FVec F ⟨2, ![192, 512]⟩ .f32 :=
  four (kSlab 192 512 (View.ld x0 r1_0)) (kSlab 192 512 (View.ld x0 r1_1)) (kSlab 192 512 (View.ld x0 r1_2))
    (kSlab 192 512 (View.ld x0 r1_3))

/-- The third layer's frames, each node repeated. -/
def decY3 (x0 : Vec F S4x192x512 .f32) (x1 : Vec F S3072x2048 .f32) (x2 : Vec F S1x2048 .f32) (t : ℕ) :
    FVec F ⟨2, ![768, 512]⟩ .f32 :=
  kUnpool 192 512 (kLayer 192 512 512 (by omega) (View.ld x1 r1_4) (View.ld x2 r1_5) (decX x0) t)

/-- The fourth layer's frames, each node repeated. -/
def decY4 (x0 : Vec F S4x192x512 .f32) (x1 : Vec F S3072x2048 .f32) (x2 : Vec F S1x2048 .f32) (x3 : Vec F S1920x512 .f32)
    (x4 : Vec F S1x512 .f32) (t : ℕ) : FVec F ⟨2, ![3072, 128]⟩ .f32 :=
  kUnpool 768 128 (kLayer 768 512 128 (by omega) (View.ld x3 r1_6) (View.ld x4 r1_7) (decY3 x0 x1 x2) t)

/-- The fifth layer's last frame, stored feature by node. -/
def decOut (x0 : Vec F S4x192x512 .f32) (x1 : Vec F S3072x2048 .f32) (x2 : Vec F S1x2048 .f32) (x3 : Vec F S1920x512 .f32)
    (x4 : Vec F S1x512 .f32) (x5 : Vec F S432x64 .f32) (x6 : Vec F S1x64 .f32) : FVec F ⟨2, ![16, 3072]⟩ .f32 :=
  transpose ⟨2, ![16, 3072]⟩ [1, 0]
    (kLayer 3072 128 16 (by omega) (View.ld x5 r1_8) (View.ld x6 r1_9) (decY4 x0 x1 x2 x3 x4) 3) transposes_two

section
variable (x0 : Vec F S4x192x512 .f32) (x1 : Vec F S3072x2048 .f32) (x2 : Vec F S1x2048 .f32) (x3 : Vec F S1920x512 .f32)
  (x4 : Vec F S1x512 .f32) (x5 : Vec F S432x64 .f32) (x6 : Vec F S1x64 .f32)

/-- The second launch's array is the transposed last frame. -/
theorem out1_7_eq : out1_7 x0 x1 x2 x3 x4 x5 x6 = View.canon [⟨r1_10, decOut x0 x1 x2 x3 x4 x5 x6⟩] := rfl
end
end Cert.Ring
-- ==== Proof.KernelValue.lean ====
/- The kernel's result at the ideal values is the autoencoder of `Spec`. -/
module

public import proofs.«01_k».proof.Proof.Inputs
public import proofs.«01_k».proof.Proof.Decoder
public import proofs.«01_k».proof.Proof.KernelRun

@[expose] public section

set_option maxRecDepth 16384

noncomputable section

namespace Cert.Ring

open Cert.KernelIdeal Cert.KernelIdeal.Gen
open Idealize.ShloMosaic hiding ix1 ix2 ix3 ix4 ix5 eq_ix1 eq_ix2 eq_ix3 eq_ix4
open Idealize.ShloMosaic.ValueIdx

/-- Slab `t` of a stack, as places of the stack. -/
theorem emb_slab {a b : ℕ} (t : ℕ) (ht : t < 4)
    (inb : ∀ x, (![t, 0, 0] : Fin 3 → ℕ) x + (⟨3, ![1, a, b]⟩ : Shape).size x ≤ (⟨3, ![4, a, b]⟩ : Shape).size x) (i : Fin a)
    (j : Fin b) :
    (Rect.unit (s := ⟨3, ![4, a, b]⟩) ![t, 0, 0] (⟨3, ![1, a, b]⟩ : Shape).size inb).emb (ix3 (0 : Fin 1) i j)
      = ix3 ⟨t, ht⟩ i j := by
  funext x
  apply Fin.ext
  match x with
  | ⟨0, _⟩ => exact (show t + 1 * 0 = t by omega)
  | ⟨1, _⟩ => exact (show 0 + 1 * i.val = i.val by omega)
  | ⟨2, _⟩ => exact (show 0 + 1 * j.val = j.val by omega)

/-- A load of slab `t` of a stack reads the stack there. -/
theorem ld_slab {a b : ℕ} (X : Vec Ideal ⟨3, ![4, a, b]⟩ .f32) (t : ℕ) (ht : t < 4)
    (inb : ∀ x, (![t, 0, 0] : Fin 3 → ℕ) x + (⟨3, ![1, a, b]⟩ : Shape).size x ≤ (⟨3, ![4, a, b]⟩ : Shape).size x) (i : Fin a)
    (j : Fin b) :
    View.ld X (Rect.unit (s := ⟨3, ![4, a, b]⟩) ![t, 0, 0] (⟨3, ![1, a, b]⟩ : Shape).size inb) (ix3 (0 : Fin 1) i j)
      = X (ix3 ⟨t, ht⟩ i j) := by
  rw [← emb_slab t ht inb i j]
  rfl

/-- A stack written slab by slab holds, in slab `t`, what was written there. -/
theorem canon_slabs {a b : ℕ} (w : ℕ → Vec Ideal ⟨3, ![1, a, b]⟩ .f32)
    (inb : ∀ t : ℕ, t < 4 → ∀ x, (![t, 0, 0] : Fin 3 → ℕ) x + (⟨3, ![1, a, b]⟩ : Shape).size x ≤ (⟨3, ![4, a, b]⟩ : Shape).size x)
    (t : ℕ) (ht : t < 4) (i : Fin a) (j : Fin b) :
    View.canon (Val := Elt Ideal) (s := ⟨3, ![4, a, b]⟩) (e := .f32)
      [⟨Rect.unit (s := ⟨3, ![4, a, b]⟩) ![3, 0, 0] (⟨3, ![1, a, b]⟩ : Shape).size (inb 3 (by omega)), w 3⟩,
        ⟨Rect.unit (s := ⟨3, ![4, a, b]⟩) ![2, 0, 0] (⟨3, ![1, a, b]⟩ : Shape).size (inb 2 (by omega)), w 2⟩,
        ⟨Rect.unit (s := ⟨3, ![4, a, b]⟩) ![1, 0, 0] (⟨3, ![1, a, b]⟩ : Shape).size (inb 1 (by omega)), w 1⟩,
        ⟨Rect.unit (s := ⟨3, ![4, a, b]⟩) ![0, 0, 0] (⟨3, ![1, a, b]⟩ : Shape).size (inb 0 (by omega)), w 0⟩]
      (ix3 ⟨t, ht⟩ i j) = w t (ix3 (0 : Fin 1) i j) := by
  have miss : ∀ (s : ℕ) (hs : s < 4) (L : List (View.Piece (Elt Ideal) (⟨3, ![4, a, b]⟩ : Shape) .f32)), s ≠ t →
      View.canon (Val := Elt Ideal) (⟨Rect.unit (s := ⟨3, ![4, a, b]⟩) ![s, 0, 0] (⟨3, ![1, a, b]⟩ : Shape).size (inb s hs), w s⟩ :: L)
        (ix3 ⟨t, ht⟩ i j) = View.canon L (ix3 ⟨t, ht⟩ i j) := fun s hs L hst =>
    View.canon_cons_of_not_mem _ L (Rect.not_mem_set_of_axis _ _ (0 : Fin 3) s 1 rfl rfl rfl
      (show t < s ∨ s + 1 ≤ t by omega))
  have hit : ∀ (L : List (View.Piece (Elt Ideal) (⟨3, ![4, a, b]⟩ : Shape) .f32)),
      View.canon (Val := Elt Ideal) (⟨Rect.unit (s := ⟨3, ![4, a, b]⟩) ![t, 0, 0] (⟨3, ![1, a, b]⟩ : Shape).size (inb t ht), w t⟩ :: L)
        (ix3 ⟨t, ht⟩ i j) = w t (ix3 (0 : Fin 1) i j) := fun L =>
    (congrArg _ (emb_slab t ht (inb t ht) i j).symm).trans (View.canon_cons_emb (Rect.unit (s := ⟨3, ![4, a, b]⟩) ![t, 0, 0] (⟨3, ![1, a, b]⟩ : Shape).size (inb t ht)) (w t) L
      (ix3 (0 : Fin 1) i j))
  match t, ht, miss, hit with
  | 0, _, miss, hit => exact (miss 3 (by omega) _ (by omega)).trans ((miss 2 (by omega) _ (by omega)).trans ((miss 1 (by omega) _ (by omega)).trans (hit _)))
  | 1, _, miss, hit => exact (miss 3 (by omega) _ (by omega)).trans ((miss 2 (by omega) _ (by omega)).trans (hit _))
  | 2, _, miss, hit => exact (miss 3 (by omega) _ (by omega)).trans (hit _)
  | 3, _, miss, hit => exact hit _

/-- A load of a whole matrix holds what the matrix holds. -/
theorem is2_ld {N D : ℕ} {K : Vec Ideal ⟨2, ![N, D]⟩ .f32} {f : Arr} (hK : Is2 K f)
    (inb : ∀ x, (![0, 0] : Fin 2 → ℕ) x + (⟨2, ![N, D]⟩ : Shape).size x ≤ (⟨2, ![N, D]⟩ : Shape).size x) :
    Is2 (View.ld K (Rect.unit (s := ⟨2, ![N, D]⟩) ![0, 0] (⟨2, ![N, D]⟩ : Shape).size inb)) f := by
  rw [View.ld_unit_zero (funext fun x => match x with | ⟨0, _⟩ => rfl | ⟨1, _⟩ => rfl)]
  exact hK

/-- A bias vector loaded as a row. -/
theorem isRow_ld {M : ℕ} (b : Vec Ideal ⟨1, ![M]⟩ .f32) (h : (⟨1, ![M]⟩ : Shape).ShapeCasts ⟨2, ![1, M]⟩)
    (inb : ∀ x, (![0, 0] : Fin 2 → ℕ) x + (⟨2, ![1, M]⟩ : Shape).size x ≤ (⟨2, ![1, M]⟩ : Shape).size x) :
    IsRow (View.ld (shapeCast ⟨2, ![1, M]⟩ b h : Vec Ideal ⟨2, ![1, M]⟩ .f32)
      (Rect.unit (s := ⟨2, ![1, M]⟩) ![0, 0] (⟨2, ![1, M]⟩ : Shape).size inb)) (ofVec b) := by
  rw [View.ld_unit_zero (funext fun x => match x with | ⟨0, _⟩ => rfl | ⟨1, _⟩ => rfl)]
  intro q hq
  rw [shapeCast_a_1a_apply, ofVec_apply b q hq]

variable [Cert.KernelIdeal.Facts] (A : Args)

/-- The frames as the first launch takes them. -/
abbrev Args.kx : Vec Ideal S4x16x3072 .f32 := shapeCast S4x16x3072 A.x shapeCasts_S1x4x16x3072_S4x16x3072
/-- The biases as rows. -/
abbrev Args.k1 : Vec Ideal S1x512 .f32 := shapeCast S1x512 A.b1 shapeCasts_S512_S1x512
abbrev Args.k2 : Vec Ideal S1x2048 .f32 := shapeCast S1x2048 A.b2 shapeCasts_S2048_S1x2048
abbrev Args.k3 : Vec Ideal S1x2048 .f32 := shapeCast S1x2048 A.b3 shapeCasts_S2048_S1x2048
abbrev Args.k4 : Vec Ideal S1x512 .f32 := shapeCast S1x512 A.b4 shapeCasts_S512_S1x512
abbrev Args.k5 : Vec Ideal S1x64 .f32 := shapeCast S1x64 A.b5 shapeCasts_S64_S1x64

theorem is2_encX (t : ℕ) (ht : t < 4) : Is2 (encX A.kx t) (A.xs t) := by
  have h : ∀ (t : ℕ) (ht : t < 4) inb, Is2 (kFrame 3072 16 (View.ld A.kx
      (Rect.unit (s := S4x16x3072) ![t, 0, 0] S1x16x3072.size inb))) (A.xs t) := fun t ht inb =>
    is2_frame fun i hi j hj => by
      rw [Args.xs, ofImage_apply A.x t ht i hi j hj, ← shapeCast_1abc_abc_apply A.x shapeCasts_S1x4x16x3072_S4x16x3072]
      exact ld_slab A.kx t ht inb _ _
  match t, ht with
  | 0, ht => exact h 0 ht _
  | 1, ht => exact h 1 ht _
  | 2, ht => exact h 2 ht _
  | 3, ht => exact h 3 ht _

variable {A} (hx : A.Real)
include hx

theorem is2_encY1 (t : ℕ) (ht : t < 4) : Is2 (encY1 A.kx A.W1 A.k1 t) (y1 A.p A.xs t) :=
  is2_pool (is2_layer (by omega) (is2_ld (is2_ofMat A.W1) _) (isRow_ld A.b1 _ _) t (fun s hs => is2_encX A s (by omega))
    fun s hs => hx s (by omega))

theorem is2_encY2 (t : ℕ) (ht : t < 4) : Is2 (encY2 A.kx A.W1 A.k1 A.W2 A.k2 t) (y2 A.p A.xs t) :=
  is2_pool (is2_layer (by omega) (is2_ld (is2_ofMat A.W2) _) (isRow_ld A.b2 _ _) t
    (fun s hs => is2_encY1 hx s (by omega)) fun s _ => isReal_y1 A.p A.xs s)

/-- The first launch leaves the second layer's frame `t` in slab `t`. -/
theorem out0_5_apply (t : ℕ) (ht : t < 4) (i : ℕ) (hi : i < 192) (j : ℕ) (hj : j < 512) :
    out0_5 A.kx A.W1 A.k1 A.W2 A.k2 (ix3 ⟨t, ht⟩ ⟨i, hi⟩ ⟨j, hj⟩) = y2 A.p A.xs t i j := by
  rw [out0_5_eq]
  refine (canon_slabs (encSlab A.kx A.W1 A.k1 A.W2 A.k2) (fun t ht x => ?_) t ht _ _).trans ?_
  · match x with
    | ⟨0, _⟩ => exact (show t + 1 ≤ 4 by omega)
    | ⟨1, _⟩ => exact (show 0 + 192 ≤ 192 by omega)
    | ⟨2, _⟩ => exact (show 0 + 512 ≤ 512 by omega)
  · rw [encSlab, shapeCast_ab_1ab_apply]
    exact is2_encY2 hx t ht i hi j hj

/-- An array that holds the second layer's frame `t` in slab `t`. -/
def IsEnc (A : Args) (E : Vec Ideal S4x192x512 .f32) : Prop :=
  ∀ (t : ℕ) (ht : t < 4) (i : ℕ) (hi : i < 192) (j : ℕ) (hj : j < 512),
    E (ix3 ⟨t, ht⟩ ⟨i, hi⟩ ⟨j, hj⟩) = y2 A.p A.xs t i j

omit hx
variable {E : Vec Ideal S4x192x512 .f32} (hE : IsEnc A E)
include hE

theorem is2_decX (t : ℕ) (ht : t < 4) : Is2 (decX E t) (y2 A.p A.xs t) := by
  have h : ∀ (t : ℕ) (ht : t < 4) inb, Is2 (kSlab 192 512 (View.ld E
      (Rect.unit (s := S4x192x512) ![t, 0, 0] S1x192x512.size inb))) (y2 A.p A.xs t) := fun t ht inb i hi j hj => by
    rw [kSlab, shapeCast_1ab_ab_apply, ← hE t ht i hi j hj]
    exact ld_slab E t ht inb _ _
  match t, ht with
  | 0, ht => exact h 0 ht _
  | 1, ht => exact h 1 ht _
  | 2, ht => exact h 2 ht _
  | 3, ht => exact h 3 ht _

theorem is2_decY3 (t : ℕ) (ht : t < 4) : Is2 (decY3 E A.W3 A.k3 t) (y3 A.p A.xs t) :=
  is2_unpool (is2_layer (by omega) (is2_ld (is2_ofMat A.W3) _) (isRow_ld A.b3 _ _) t
    (fun s hs => is2_decX hE s (by omega)) fun s _ => isReal_y2 A.p A.xs s)

theorem is2_decY4 (t : ℕ) (ht : t < 4) : Is2 (decY4 E A.W3 A.k3 A.W4 A.k4 t) (y4 A.p A.xs t) :=
  is2_unpool (is2_layer (by omega) (is2_ld (is2_ofMat A.W4) _) (isRow_ld A.b4 _ _) t
    (fun s hs => is2_decY3 hE s (by omega)) fun s _ => isReal_y3 A.p A.xs s)

/-- The second launch leaves the fifth layer's last frame, feature by node. -/
theorem out1_7_apply (i : ℕ) (hi : i < 3072) (j : ℕ) (hj : j < 16) :
    out1_7 E A.W3 A.k3 A.W4 A.k4 A.W5 A.k5 (ix2 ⟨j, hj⟩ ⟨i, hi⟩) = y5 A.p A.xs 3 i j := by
  rw [out1_7_eq, View.canon_cons_unit_zero (funext fun x => match x with | ⟨0, _⟩ => rfl | ⟨1, _⟩ => rfl), decOut,
    transpose_ix2_apply]
  exact is2_layer (by omega) (is2_ld (is2_ofMat A.W5) _) (isRow_ld A.b5 _ _) 3
    (fun s hs => is2_decY4 hE s (by omega)) (fun s _ => isReal_y4 A.p A.xs s) i hi j hj

omit hE in
/-- What the two launches leave: the fifth layer's last frame. -/
theorem launches_apply (hx : A.Real) (i : ℕ) (hi : i < 3072) (j : ℕ) (hj : j < 16) :
    out1_7 (out0_5 A.kx A.W1 A.k1 A.W2 A.k2) A.W3 A.k3 A.W4 A.k4 A.W5 A.k5 (ix2 ⟨j, hj⟩ ⟨i, hi⟩) = y5 A.p A.xs 3 i j :=
  out1_7_apply (out0_5_apply hx) i hi j hj

end Cert.Ring
-- ==== Proof.RefOps.lean ====
/- The reference's operations, at any sizes, as the host program spells them. `N` is the number of nodes, `C` of a frame's
   features, `H` of hidden features, `E` of the Laplacian's entries. -/
module

public import proofs.«01_k».proof.Proof.KernelOps

@[expose] public section

noncomputable section

namespace Cert.Ring

open Idealize.ShloMosaic

/-! ### Shapes -/

theorem bcast_fill {t : Shape} : (⟨0, ![]⟩ : Shape).BroadcastsInDim t ![] := ⟨fun a => a.elim0, fun a => a.elim0⟩

theorem bcast_col {e : ℕ} : (⟨1, ![e]⟩ : Shape).BroadcastsInDim ⟨2, ![e, 1]⟩ ![0] :=
  ⟨fun a b _ => Subsingleton.elim a b, fun a => match a with | ⟨0, _⟩ => .inr rfl⟩

theorem bcast_mid {e : ℕ} : (⟨1, ![e]⟩ : Shape).BroadcastsInDim ⟨3, ![1, e, 1]⟩ ![1] :=
  ⟨fun a b _ => Subsingleton.elim a b, fun a => match a with | ⟨0, _⟩ => .inr rfl⟩

theorem bcast_last {e : ℕ} : (⟨1, ![e]⟩ : Shape).BroadcastsInDim ⟨3, ![1, 1, e]⟩ ![2] :=
  ⟨fun a b _ => Subsingleton.elim a b, fun a => match a with | ⟨0, _⟩ => .inr rfl⟩

theorem bcast_feat {e d : ℕ} : (⟨3, ![1, e, 1]⟩ : Shape).BroadcastsInDim ⟨3, ![1, e, d]⟩ ![0, 1, 2] :=
  ⟨(by decide : Function.Injective (![0, 1, 2] : Fin 3 → Fin 3)), fun a => match a with | ⟨0, _⟩ => .inl rfl | ⟨1, _⟩ => .inr rfl | ⟨2, _⟩ => .inl rfl⟩

theorem bcast_node {n m : ℕ} : (⟨3, ![1, 1, m]⟩ : Shape).BroadcastsInDim ⟨3, ![1, n, m]⟩ ![0, 1, 2] :=
  ⟨(by decide : Function.Injective (![0, 1, 2] : Fin 3 → Fin 3)), fun a => match a with | ⟨0, _⟩ => .inl rfl | ⟨1, _⟩ => .inl rfl | ⟨2, _⟩ => .inr rfl⟩

theorem bcast_frame {n d : ℕ} : (⟨3, ![1, n, d]⟩ : Shape).BroadcastsInDim ⟨4, ![1, 1, n, d]⟩ ![0, 2, 3] :=
  ⟨(by decide : Function.Injective (![0, 2, 3] : Fin 3 → Fin 4)), fun a => match a with | ⟨0, _⟩ => .inl rfl | ⟨1, _⟩ => .inr rfl | ⟨2, _⟩ => .inr rfl⟩

theorem bcast_four {d n : ℕ} : (⟨4, ![1, 4, d, n]⟩ : Shape).BroadcastsInDim ⟨5, ![1, 4, d, n, 4]⟩ ![0, 1, 2, 3] :=
  ⟨(by decide : Function.Injective (![0, 1, 2, 3] : Fin 4 → Fin 5)), fun a => match a with | ⟨0, _⟩ => .inl rfl | ⟨1, _⟩ => .inr rfl | ⟨2, _⟩ => .inr rfl | ⟨3, _⟩ => .inr rfl⟩

theorem slices_frame {c n t : ℕ} : (⟨4, ![1, 4, c, n]⟩ : Shape).Slices ![0, t % 4, 0, 0] ⟨4, ![1, 1, c, n]⟩ :=
  ⟨rfl, fun a => match a with
    | ⟨0, _⟩ => le_refl 1
    | ⟨1, _⟩ => (show t % 4 + 1 ≤ 4 by omega)
    | ⟨2, _⟩ => (Nat.zero_add c).le
    | ⟨3, _⟩ => (Nat.zero_add n).le⟩

theorem slices_gate {n m h k : ℕ} (hk : k + h ≤ m) : (⟨3, ![1, n, m]⟩ : Shape).Slices ![0, 0, k] ⟨3, ![1, n, h]⟩ :=
  ⟨rfl, fun a => match a with | ⟨0, _⟩ => le_refl 1 | ⟨1, _⟩ => (Nat.zero_add n).le | ⟨2, _⟩ => hk⟩

theorem casts_frame {c n : ℕ} : (⟨4, ![1, 1, c, n]⟩ : Shape).ShapeCasts ⟨3, ![1, c, n]⟩ := by
  simp only [Shape.ShapeCasts, Shape.numel, Fin.prod_univ_succ, Fin.prod_univ_zero]
  simp

theorem casts_four {d n : ℕ} : (⟨4, ![1, 4, d, 4 * n]⟩ : Shape).ShapeCasts ⟨5, ![1, 4, d, n, 4]⟩ := by
  simp only [Shape.ShapeCasts, Shape.numel, Fin.prod_univ_succ, Fin.prod_univ_zero]
  simp
  exact .inl (by ring)

theorem casts_join {d n : ℕ} : (⟨5, ![1, 4, d, n, 4]⟩ : Shape).ShapeCasts ⟨4, ![1, 4, d, 4 * n]⟩ := by
  simp only [Shape.ShapeCasts, Shape.numel, Fin.prod_univ_succ, Fin.prod_univ_zero]
  simp
  exact .inl (by ring)

theorem transposes_021 {c n : ℕ} : (⟨3, ![1, c, n]⟩ : Shape).Transposes [0, 2, 1] ⟨3, ![1, n, c]⟩ :=
  ⟨(by decide : ([0, 2, 1] : List (Fin 3)).Perm (List.finRange 3)), rfl, fun a => match a with | ⟨0, _⟩ => rfl | ⟨1, _⟩ => rfl | ⟨2, _⟩ => rfl⟩

theorem transposes_102 {a b c : ℕ} : (⟨3, ![a, b, c]⟩ : Shape).Transposes [1, 0, 2] ⟨3, ![b, a, c]⟩ :=
  ⟨(by decide : ([1, 0, 2] : List (Fin 3)).Perm (List.finRange 3)), rfl, fun a => match a with | ⟨0, _⟩ => rfl | ⟨1, _⟩ => rfl | ⟨2, _⟩ => rfl⟩

theorem transposes_0132 {n d : ℕ} : (⟨4, ![1, 4, n, d]⟩ : Shape).Transposes [0, 1, 3, 2] ⟨4, ![1, 4, d, n]⟩ :=
  ⟨(by decide : ([0, 1, 3, 2] : List (Fin 4)).Perm (List.finRange 4)), rfl, fun a => match a with | ⟨0, _⟩ => rfl | ⟨1, _⟩ => rfl | ⟨2, _⟩ => rfl | ⟨3, _⟩ => rfl⟩

theorem reducesTo_four {d n : ℕ} : (⟨5, ![1, 4, d, n, 4]⟩ : Shape).ReducesTo [4] ⟨4, ![1, 4, d, n]⟩ :=
  ⟨rfl, fun a => match a with | ⟨0, _⟩ => rfl | ⟨1, _⟩ => rfl | ⟨2, _⟩ => rfl | ⟨3, _⟩ => rfl⟩

theorem concat_feat {n a b : ℕ} :
    Shape.Concatenates [⟨3, ![1, n, a]⟩, ⟨3, ![1, n, b]⟩] ⟨3, ![1, n, a + b]⟩ (2 : Fin 3) := by
  refine ⟨le_refl 2, fun s hs => ?_, ?_⟩
  · simp only [List.mem_cons, List.not_mem_nil, or_false] at hs
    rcases hs with rfl | rfl <;>
      exact ⟨rfl, fun b hb => match b, hb with | ⟨0, _⟩, _ => rfl | ⟨1, _⟩, _ => rfl | ⟨2, _⟩, hb => absurd rfl hb⟩
  · simp

theorem concat_feat3 {n d : ℕ} :
    Shape.Concatenates [⟨3, ![1, n, d]⟩, ⟨3, ![1, n, d]⟩, ⟨3, ![1, n, d]⟩] ⟨3, ![1, n, 3 * d]⟩ (2 : Fin 3) := by
  refine ⟨Nat.le_succ 2, fun s hs => ?_, ?_⟩
  · simp only [List.mem_cons, List.not_mem_nil, or_false, or_self] at hs
    subst hs
    exact ⟨rfl, fun b hb => match b, hb with | ⟨0, _⟩, _ => rfl | ⟨1, _⟩, _ => rfl | ⟨2, _⟩, hb => absurd rfl hb⟩
  · simp
    omega

theorem concat_frames {n d : ℕ} :
    Shape.Concatenates [⟨4, ![1, 1, n, d]⟩, ⟨4, ![1, 1, n, d]⟩, ⟨4, ![1, 1, n, d]⟩, ⟨4, ![1, 1, n, d]⟩] ⟨4, ![1, 4, n, d]⟩
      (1 : Fin 4) := by
  refine ⟨by simp, fun s hs => ?_, ?_⟩
  · simp only [List.mem_cons, List.not_mem_nil, or_false, or_self] at hs
    subst hs
    exact ⟨rfl, fun b hb => match b, hb with
      | ⟨0, _⟩, _ => rfl | ⟨1, _⟩, hb => absurd rfl hb | ⟨2, _⟩, _ => rfl | ⟨3, _⟩, _ => rfl⟩
  · simp

/-- The columns' entries: entry `e` of the result is the row that word `e` names. -/
def rowGather (N E D : ℕ) (hN : 1 ≤ N) : GatherDims ⟨3, ![1, N, D]⟩ ⟨2, ![E, 1]⟩ ⟨3, ![1, E, D]⟩ where
  offsetDims := [0, 2]
  collapsedSliceDims := [1]
  operandBatchingDims := []
  startIndicesBatchingDims := []
  startIndexMap := [1]
  indexVectorDim := 1
  sliceSizes := ![1, 1, D]
  wf := ⟨(by decide : ([0, 2] : List (Fin 3)).Pairwise (· < ·)), (by decide : ([1] : List (Fin 3)).Pairwise (· < ·)), .nil,
    fun _ _ => List.not_mem_nil, (by decide : ([1] : List (Fin 3)).Nodup), fun _ _ => List.not_mem_nil, .nil,
    fun _ h => absurd h List.not_mem_nil, (by decide : 1 ≤ 2), rfl,
    fun a => match a with | ⟨0, _⟩ => le_refl 1 | ⟨1, _⟩ => hN | ⟨2, _⟩ => le_refl D,
    fun a ha => (List.mem_singleton.mp ha) ▸ rfl, fun _ h => absurd h List.not_mem_nil,
    ⟨rfl, fun k => k.elim0⟩, ⟨rfl, fun k => match k with | ⟨0, _⟩ => rfl⟩,
    ⟨rfl, fun k => match k with | ⟨0, _⟩ => rfl | ⟨1, _⟩ => rfl⟩⟩

/-- The rows' sums: update `e` goes to the row that word `e` names. -/
def rowScatter (N E D : ℕ) : ScatterDims ⟨3, ![N, 1, D]⟩ ⟨2, ![E, 1]⟩ ⟨3, ![E, 1, D]⟩ where
  updateWindowDims := [1, 2]
  insertedWindowDims := [0]
  scatterDimsToOperandDims := [0]
  indexVectorDim := 1
  wf := ⟨(by decide : ([1, 2] : List (Fin 3)).Pairwise (· < ·)), (by decide : ([0] : List (Fin 3)).Pairwise (· < ·)),
    (by decide : ([0] : List (Fin 3)).Nodup), (by decide : 1 ≤ 2), rfl,
    ⟨rfl, fun k => match k with | ⟨0, _⟩ => rfl⟩, ⟨rfl, fun k => match k with | ⟨0, _⟩ => le_refl 1 | ⟨1, _⟩ => le_refl D⟩⟩

/-- A product over the features. -/
def featDot (N K M : ℕ) : DotDims ⟨3, ![1, N, K]⟩ ⟨2, ![K, M]⟩ ⟨3, ![1, N, M]⟩ where
  lhsContracting := [2]
  rhsContracting := [0]
  lhsNonContracting := [0, 1]
  rhsNonContracting := [1]
  lhsBatch := []
  rhsBatch := []
  wf := ⟨rfl, by simp, rfl, by simp, by simp, by simp,
    (by decide : ([0, 1, 2] : List (Fin 3)).Perm (List.finRange 3)), (by decide : ([1, 0] : List (Fin 2)).Perm (List.finRange 2)), rfl, (by decide : 0 < 3),
    fun b => match b with | ⟨0, _⟩ => rfl | ⟨1, _⟩ => rfl | ⟨2, _⟩ => rfl⟩

/-! ### The operations -/

variable {F : FTy → Type} [FloatOps F]

/-- An array of one literal. -/
def rFill (s : Shape) (b : BitVec 32) : FVec F s .f32 := broadcastInDim s ![] bcast_fill (constant ⟨0, ![]⟩ .f32 b)

/-- A word array of one literal. -/
def rFillI (s : Shape) (b : BitVec 32) : IVec s 32 := broadcastInDim s ![] bcast_fill (constantI ⟨0, ![]⟩ 32 b)

/-- Frame `t` of a layer's array, node by feature. -/
def rX (N C t : ℕ) (y : FVec F ⟨4, ![1, 4, C, N]⟩ .f32) : FVec F ⟨3, ![1, N, C]⟩ .f32 :=
  transpose ⟨3, ![1, N, C]⟩ [0, 2, 1]
    (shapeCast ⟨3, ![1, C, N]⟩ (extractStridedSlice ⟨4, ![1, 1, C, N]⟩ ![0, t % 4, 0, 0] y slices_frame) casts_frame) transposes_021

/-- A frame and a hidden state side by side. -/
def rCat (N C H : ℕ) (x : FVec F ⟨3, ![1, N, C]⟩ .f32) (h : FVec F ⟨3, ![1, N, H]⟩ .f32) : FVec F ⟨3, ![1, N, C + H]⟩ .f32 :=
  concatenate ⟨3, ![1, N, C + H]⟩ (2 : Fin 3) [⟨⟨3, ![1, N, C]⟩, x⟩, ⟨⟨3, ![1, N, H]⟩, h⟩] concat_feat

/-- The Laplacian's entries: rows, columns and values. -/
structure Entries (F : FTy → Type) (E : ℕ) where
  rows : IVec ⟨1, ![E]⟩ 32
  cols : IVec ⟨1, ![E]⟩ 32
  vals : FVec F ⟨1, ![E]⟩ .f32

/-- The sparse product: gather by the columns, times the values, add by the rows. -/
def rLap (N E D : ℕ) (hN : 1 ≤ N) (l : Entries F E) (z : FVec F ⟨3, ![1, N, D]⟩ .f32) : FVec F ⟨3, ![1, N, D]⟩ .f32 :=
  transpose ⟨3, ![1, N, D]⟩ [1, 0, 2]
    (Host.scatterAdd (rowScatter N E D) (rFill ⟨3, ![N, 1, D]⟩ 0x00000000#32) (broadcastInDim ⟨2, ![E, 1]⟩ ![0] bcast_col l.rows)
      (transpose ⟨3, ![E, 1, D]⟩ [1, 0, 2]
        (mulf
          (Host.gather (rowGather N E D hN) z
            (broadcastInDim ⟨2, ![E, 1]⟩ ![0] bcast_col
              (select (cmpi .slt l.cols (rFillI ⟨1, ![E]⟩ 0#32)) (addi l.cols (rFillI ⟨1, ![E]⟩ (BitVec.ofNat 32 N))) l.cols)))
          (broadcastInDim ⟨3, ![1, E, D]⟩ ![0, 1, 2] bcast_feat (broadcastInDim ⟨3, ![1, E, 1]⟩ ![1] bcast_mid l.vals)))
        transposes_102))
    transposes_102

/-- The three Chebyshev terms side by side. -/
def rZcat (N E D : ℕ) (hN : 1 ≤ N) (l : Entries F E) (z : FVec F ⟨3, ![1, N, D]⟩ .f32) : FVec F ⟨3, ![1, N, 3 * D]⟩ .f32 :=
  concatenate ⟨3, ![1, N, 3 * D]⟩ (2 : Fin 3) [⟨⟨3, ![1, N, D]⟩, z⟩, ⟨⟨3, ![1, N, D]⟩, rLap N E D hN l z⟩,
    ⟨⟨3, ![1, N, D]⟩, subf (mulf (rFill ⟨3, ![1, N, D]⟩ 0x40000000#32) (rLap N E D hN l (rLap N E D hN l z))) z⟩] concat_feat3

/-- The gates. -/
def rGates (N E D M : ℕ) (hN : 1 ≤ N) (l : Entries F E) (w : FVec F ⟨2, ![3 * D, M]⟩ .f32) (b : FVec F ⟨1, ![M]⟩ .f32)
    (z : FVec F ⟨3, ![1, N, D]⟩ .f32) : FVec F ⟨3, ![1, N, M]⟩ .f32 :=
  addf (Host.dotGeneral (featDot N (3 * D) M) none (rZcat N E D hN l z) w)
    (broadcastInDim ⟨3, ![1, N, M]⟩ ![0, 1, 2] bcast_node (broadcastInDim ⟨3, ![1, 1, M]⟩ ![2] bcast_last b))

/-- The logistic function as it is written out. -/
def rSig (s : Shape) (y : FVec F s .f32) : FVec F s .f32 :=
  Host.divf (rFill s 0x3F800000#32) (addf (rFill s 0x3F800000#32) (Host.exp (Host.negf y)))

/-- The gate at column `k`. -/
def rGate (N H k : ℕ) (hk : k + H ≤ 4 * H) (g : FVec F ⟨3, ![1, N, 4 * H]⟩ .f32) : FVec F ⟨3, ![1, N, H]⟩ .f32 :=
  extractStridedSlice ⟨3, ![1, N, H]⟩ ![0, 0, k] g (slices_gate hk)

/-- The new cell state. -/
def rC (N H : ℕ) (g : FVec F ⟨3, ![1, N, 4 * H]⟩ .f32) (c : FVec F ⟨3, ![1, N, H]⟩ .f32) : FVec F ⟨3, ![1, N, H]⟩ .f32 :=
  addf (mulf (rSig ⟨3, ![1, N, H]⟩ (rGate N H H (by omega) g)) c)
    (mulf (rSig ⟨3, ![1, N, H]⟩ (rGate N H 0 (by omega) g)) (Host.tanh (rGate N H (3 * H) (by omega) g)))

/-- The new hidden state. -/
def rH (N H : ℕ) (g : FVec F ⟨3, ![1, N, 4 * H]⟩ .f32) (c : FVec F ⟨3, ![1, N, H]⟩ .f32) : FVec F ⟨3, ![1, N, H]⟩ .f32 :=
  mulf (rSig ⟨3, ![1, N, H]⟩ (rGate N H (2 * H) (by omega) g)) (Host.tanh c)

variable (N C H E : ℕ) (hN : 1 ≤ N) (l : Entries F E) (w : FVec F ⟨2, ![3 * (C + H), 4 * H]⟩ .f32) (b : FVec F ⟨1, ![4 * H]⟩ .f32)

/-- The gates of one step. -/
def rStepGates (x : FVec F ⟨3, ![1, N, C]⟩ .f32) (h : FVec F ⟨3, ![1, N, H]⟩ .f32) : FVec F ⟨3, ![1, N, 4 * H]⟩ .f32 :=
  rGates N E (C + H) (4 * H) hN l w b (rCat N C H x h)

/-- The cell and the hidden state after `t` frames of the layer's array. -/
def rState (y : FVec F ⟨4, ![1, 4, C, N]⟩ .f32) : ℕ → FVec F ⟨3, ![1, N, H]⟩ .f32 × FVec F ⟨3, ![1, N, H]⟩ .f32
  | 0 => (rFill _ 0x00000000#32, rFill _ 0x00000000#32)
  | t + 1 =>
    (rC N H (rStepGates N C H E hN l w b (rX N C t y) (rState y t).2) (rState y t).1,
      rH N H (rStepGates N C H E hN l w b (rX N C t y) (rState y t).2)
        (rC N H (rStepGates N C H E hN l w b (rX N C t y) (rState y t).2) (rState y t).1))

/-- The hidden state after `t` frames, as one frame of a stack. -/
def rFrame (y : FVec F ⟨4, ![1, 4, C, N]⟩ .f32) (t : ℕ) : FVec F ⟨4, ![1, 1, N, H]⟩ .f32 :=
  broadcastInDim ⟨4, ![1, 1, N, H]⟩ ![0, 2, 3] bcast_frame (rState N C H E hN l w b y t).2

/-- A layer: the four hidden states stacked, feature by node, and their positive part. -/
def rLayer (y : FVec F ⟨4, ![1, 4, C, N]⟩ .f32) : FVec F ⟨4, ![1, 4, H, N]⟩ .f32 :=
  maximumf
    (transpose ⟨4, ![1, 4, H, N]⟩ [0, 1, 3, 2]
      (concatenate ⟨4, ![1, 4, N, H]⟩ (1 : Fin 4)
        [⟨⟨4, ![1, 1, N, H]⟩, rFrame N C H E hN l w b y 1⟩, ⟨⟨4, ![1, 1, N, H]⟩, rFrame N C H E hN l w b y 2⟩,
          ⟨⟨4, ![1, 1, N, H]⟩, rFrame N C H E hN l w b y 3⟩, ⟨⟨4, ![1, 1, N, H]⟩, rFrame N C H E hN l w b y 4⟩] concat_frames)
      transposes_0132)
    (rFill ⟨4, ![1, 4, H, N]⟩ 0x00000000#32)

/-- The greatest of each four nodes. -/
def rPool (D M : ℕ) (y : FVec F ⟨4, ![1, 4, D, 4 * M]⟩ .f32) : FVec F ⟨4, ![1, 4, D, M]⟩ .f32 :=
  Host.reduce FloatOps.maximumf (shapeCast ⟨5, ![1, 4, D, M, 4]⟩ y casts_four) (constant ⟨0, ![]⟩ .f32 0xFF800000#32)
    reducesTo_four (by decide)

/-- Each node four times over. -/
def rUnpool (D M : ℕ) (y : FVec F ⟨4, ![1, 4, D, M]⟩ .f32) : FVec F ⟨4, ![1, 4, D, 4 * M]⟩ .f32 :=
  shapeCast ⟨4, ![1, 4, D, 4 * M]⟩ (broadcastInDim ⟨5, ![1, 4, D, M, 4]⟩ ![0, 1, 2, 3] bcast_four y) casts_join

end Cert.Ring
-- ==== Proof.RefSparse.lean ====
/- The reference's sparse product, at the ideal values: on the ring's entries it is the ring's Laplacian. -/
module

public import proofs.«01_k».proof.Proof.RefOps
public import proofs.«01_k».proof.Proof.KernelAt
public import Idealize.ShloMosaic.Lib.Routing.OpsPair
public import Idealize.ShloMosaic.Lib.IdealHost
public import Idealize.ShloMosaic.Lib.Pointwise.Reduce

@[expose] public section

noncomputable section

namespace Cert.Ring

open Idealize.ShloMosaic hiding ix1 ix2 ix3 ix4 ix5 eq_ix1 eq_ix2 eq_ix3 eq_ix4
open Idealize.ShloMosaic.ValueIdx

/-- A batch of one matrix holds an array. -/
def Is3 {N D : ℕ} (K : FVec Ideal ⟨3, ![1, N, D]⟩ .f32) (f : Arr) : Prop :=
  ∀ (i : ℕ) (hi : i < N) (j : ℕ) (hj : j < D), K (ix3 (0 : Fin 1) ⟨i, hi⟩ ⟨j, hj⟩) = f i j

/-- The entries of the ring on `N` nodes: neighbour by neighbour, and for each neighbour node by node. -/
structure IsRing (N : ℕ) {E : ℕ} (l : Entries Ideal E) : Prop where
  rows : ∀ (k : ℕ) (hk : k < 9) (i : ℕ) (hi : i < N) (h : k * N + i < E), l.rows (ix1 ⟨k * N + i, h⟩) = BitVec.ofNat 32 i
  cols : ∀ (k : ℕ) (hk : k < 9) (i : ℕ) (hi : i < N) (h : k * N + i < E),
    l.cols (ix1 ⟨k * N + i, h⟩) = BitVec.ofNat 32 ((i + off N k) % N)
  vals : ∀ (k : ℕ) (hk : k < 9) (i : ℕ) (hi : i < N) (h : k * N + i < E), l.vals (ix1 ⟨k * N + i, h⟩) = wt k

variable {N E D : ℕ}

/-- A list as one column. -/
theorem column_apply {α : Type} (x : (⟨1, ![E]⟩ : Shape).Idx → α) (e : Fin E) :
    broadcastInDim ⟨2, ![E, 1]⟩ ![0] bcast_col x (ix2 e (0 : Fin 1)) = x (ix1 e) :=
  broadcastInDim_apply _ bcast_col x _ _ fun a => match a with
    | ⟨0, _⟩ => by
      show e.val = if E = 1 then 0 else e.val
      split
      · have := e.isLt; omega
      · rfl

/-- A list along the middle axis, repeated along the features. -/
theorem spread_apply (x : FVec Ideal ⟨1, ![E]⟩ .f32) (e : Fin E) (j : Fin D) :
    broadcastInDim ⟨3, ![1, E, D]⟩ ![0, 1, 2] bcast_feat (broadcastInDim ⟨3, ![1, E, 1]⟩ ![1] bcast_mid x) (ix3 (0 : Fin 1) e j)
      = x (ix1 e) := by
  refine (broadcastInDim_apply _ bcast_feat _ _ (ix3 (0 : Fin 1) e (0 : Fin 1)) fun a => match a with
    | ⟨0, _⟩ => rfl
    | ⟨1, _⟩ => by
      show e.val = if E = 1 then 0 else e.val
      split
      · have := e.isLt; omega
      · rfl
    | ⟨2, _⟩ => rfl).trans ?_
  exact broadcastInDim_apply _ bcast_mid x _ _ fun a => match a with
    | ⟨0, _⟩ => by
      show e.val = if E = 1 then 0 else e.val
      split
      · have := e.isLt; omega
      · rfl

/-- The gather reads, for entry `e`, the row that word `e` names. -/
theorem gather_row (hN : 1 ≤ N) (z : FVec Ideal ⟨3, ![1, N, D]⟩ .f32) (idx : IVec ⟨2, ![E, 1]⟩ 32) (e : Fin E) (j : Fin D)
    (c : Fin N) (hc : (idx (ix2 e (0 : Fin 1))).toInt = (c.val : ℤ)) :
    Host.gather (rowGather N E D hN) z idx (ix3 (0 : Fin 1) e j) = z (ix3 (0 : Fin 1) c j) := by
  have hs : (rowGather N E D hN).siIdx (ix3 (0 : Fin 1) e j) ⟨0, Nat.one_pos⟩ = ix2 e (0 : Fin 1) := by
    funext a
    match a with
    | ⟨0, _⟩ => rfl
    | ⟨1, _⟩ => exact Subsingleton.elim (α := Fin 1) _ _
  show z ((rowGather N E D hN).operandIdx (ix3 (0 : Fin 1) e j) idx) = _
  congr 1
  funext a
  apply Fin.ext
  match a with
  | ⟨0, _⟩ => rfl
  | ⟨1, _⟩ =>
    show min (idx ((rowGather N E D hN).siIdx (ix3 (0 : Fin 1) e j) ⟨0, Nat.one_pos⟩)).toInt.toNat (N - 1) + 0 + 0 = c.val
    rw [hs, hc]
    have := c.isLt
    simp
    omega
  | ⟨2, _⟩ => exact (show 0 + 0 + j.val = j.val by omega)

/-- Update `(e, ·, d)` lands at row `i`, feature `j`, exactly when word `e` names `i` and `d` is `j`. -/
theorem scatter_row (idx : IVec ⟨2, ![E, 1]⟩ 32) (e : Fin E) (u : Fin 1) (d : Fin D) (i : Fin N) (j : Fin D) :
    (rowScatter N E D).resultIdx? (ix3 e u d) idx = some (ix3 i (0 : Fin 1) j)
      ↔ (idx (ix2 e (0 : Fin 1))).toInt = (i.val : ℤ) ∧ d = j := by
  have hs : (rowScatter N E D).siIdx (ix3 e u d) ⟨0, Nat.one_pos⟩ = ix2 e (0 : Fin 1) := by
    funext a
    match a with
    | ⟨0, _⟩ => rfl
    | ⟨1, _⟩ => exact Subsingleton.elim (α := Fin 1) _ _
  have h0 : (rowScatter N E D).start (ix3 e u d) idx (0 : Fin 3) = (idx (ix2 e (0 : Fin 1))).toInt := by
    rw [← hs]
    rfl
  rw [Idealize.ShloMosaic.Routing.resultIdx?_eq_some]
  constructor
  · intro h
    have a0 := h (0 : Fin 3)
    have a2 : (0 : ℤ) + (d.val : ℤ) = (j.val : ℤ) := h (2 : Fin 3)
    rw [h0] at a0
    have a0' : (idx (ix2 e (0 : Fin 1))).toInt + (0 : ℤ) = (i.val : ℤ) := a0
    exact ⟨by omega, Fin.ext (by omega)⟩
  · rintro ⟨h, rfl⟩ a
    match a with
    | ⟨0, _⟩ =>
      refine (congrArg (· + _) h0).trans ?_
      exact (show (idx (ix2 e (0 : Fin 1))).toInt + (0 : ℤ) = (i.val : ℤ) by omega)
    | ⟨1, _⟩ => exact (show (0 : ℤ) + (u.val : ℤ) = ((0 : ℕ) : ℤ) by omega)
    | ⟨2, _⟩ => exact (show (0 : ℤ) + (d.val : ℤ) = (d.val : ℤ) by omega)

/-- A small word read signed. -/
theorem toInt_small {n : ℕ} (h : n < 2 ^ 31) : (BitVec.ofNat 32 n).toInt = (n : ℤ) := by
  rw [BitVec.toInt_eq_toNat_of_lt (by rw [BitVec.toNat_ofNat, Nat.mod_eq_of_lt] <;> omega), BitVec.toNat_ofNat,
    Nat.mod_eq_of_lt (by omega)]

/-- The sparse product over the ring's entries is the ring's Laplacian. -/
theorem is3_lap (hN : 1 ≤ N) (hN' : N < 2 ^ 27) (hE : E = 9 * N) {l : Entries Ideal E} (hl : IsRing N l)
    {K : FVec Ideal ⟨3, ![1, N, D]⟩ .f32} {f : Arr} (hK : Is3 K f) : Is3 (rLap N E D hN l K) (lap N f) := by
  subst hE
  intro i hi j hj
  have lt : ∀ k : Fin 9, k.val * N + i < 9 * N := fun k => by
    have : k.val * N ≤ 8 * N := Nat.mul_le_mul_right N (by omega)
    omega
  unfold rLap
  refine (transpose_apply _ _ transposes_102 _ (ix3 (⟨i, hi⟩ : Fin N) (0 : Fin 1) (⟨j, hj⟩ : Fin D)) fun b => match b with
    | ⟨0, _⟩ => rfl | ⟨1, _⟩ => rfl | ⟨2, _⟩ => rfl).trans ?_
  refine (congrArg (fun s : EReal => s + _) lit_zero).trans ((zero_add _).trans ?_)
  refine (Finset.sum_filter_eq_sum_of_fiber _ (fun k : Fin 9 => ix3 (⟨k.val * N + i, lt k⟩ : Fin (9 * N)) (0 : Fin 1) (⟨j, hj⟩ : Fin D))
    ?_ ?_ _).trans ?_
  · intro a b h
    have h' : a.val * N + i = b.val * N + i := congrArg Fin.val (congrFun h (0 : Fin 3))
    exact Fin.ext (Nat.eq_of_mul_eq_mul_right hN (by omega))
  · intro u
    obtain ⟨e, u1, d, rfl⟩ : ∃ (e : Fin (9 * N)) (u1 : Fin 1) (d : Fin D), u = ix3 e u1 d := ⟨u 0, u 1, u 2, eq_ix3 u⟩
    have hk : e.val / N < 9 := (Nat.div_lt_iff_lt_mul hN).mpr e.isLt
    have hm : e.val % N < N := Nat.mod_lt _ hN
    have he : e = ⟨e.val / N * N + e.val % N, by rw [Nat.div_add_mod']; exact e.isLt⟩ := Fin.ext (Nat.div_add_mod' _ _).symm
    have hr : (l.rows (ix1 e)).toInt = ((e.val % N : ℕ) : ℤ) := by
      rw [he, hl.rows _ hk _ hm, toInt_small (by omega)]
      simp
    rw [scatter_row, column_apply, hr]
    constructor
    · rintro ⟨h, rfl⟩
      refine ⟨⟨e.val / N, hk⟩, ?_⟩
      have : (⟨e.val / N * N + i, lt ⟨e.val / N, hk⟩⟩ : Fin (9 * N)) = e := Fin.ext (by
        have := Nat.div_add_mod' e.val N
        have hi' : e.val % N = i := by exact_mod_cast h
        show e.val / N * N + i = e.val
        omega)
      rw [this, Subsingleton.elim (0 : Fin 1) u1]
    · rintro ⟨k, h⟩
      have h0 : k.val * N + i = e.val := congrArg Fin.val (congrFun h (0 : Fin 3))
      have h2 : (⟨j, hj⟩ : Fin D) = d := congrFun h (2 : Fin 3)
      refine ⟨?_, h2.symm⟩
      rw [← h0, Nat.add_comm, Nat.add_mul_mod_self_right, Nat.mod_eq_of_lt hi]
  · refine Finset.sum_congr rfl fun k _ => ?_
    have hc : (i + off N k) % N < N := Nat.mod_lt _ hN
    refine (transpose_apply _ _ transposes_102 _ (ix3 (0 : Fin 1) (⟨k.val * N + i, lt k⟩ : Fin (9 * N)) (⟨j, hj⟩ : Fin D))
      fun b => match b with | ⟨0, _⟩ => rfl | ⟨1, _⟩ => rfl | ⟨2, _⟩ => rfl).trans ?_
    refine congrArg₂ (· * ·) (((gather_row hN K _ _ _ ⟨(i + off N k) % N, hc⟩ ?_)).trans (hK _ _ _ _))
      ((spread_apply _ _ _).trans (hl.vals k k.isLt i hi _))
    rw [column_apply]
    show (Scalar.select (IntOp.cmpi .slt (l.cols _) 0#32) _ (l.cols _)).toInt = _
    rw [hl.cols k k.isLt i hi, Idealize.ShloMosaic.Routing.wrap_of_lt _ _ (by rw [BitVec.toNat_ofNat, Nat.mod_eq_of_lt] <;> omega), toInt_small (by omega)]

end Cert.Ring
-- ==== Proof.RefAt.lean ====
/- Which array of `Spec` each of the reference's operations holds, at the ideal values. -/
module

public import proofs.«01_k».proof.Proof.RefSparse
public import proofs.«01_k».proof.Proof.Inputs

@[expose] public section

noncomputable section

namespace Cert.Ring

open Idealize.ShloMosaic hiding ix1 ix2 ix3 ix4 ix5 eq_ix1 eq_ix2 eq_ix3 eq_ix4
open Idealize.ShloMosaic.ValueIdx

/-- Four frames, each feature by node, hold four arrays. -/
def IsStack {N C : ℕ} (Y : FVec Ideal ⟨4, ![1, 4, C, N]⟩ .f32) (ys : ℕ → Arr) : Prop :=
  ∀ (t : ℕ) (ht : t < 4) (i : ℕ) (hi : i < N) (j : ℕ) (hj : j < C), Y (ix4 (0 : Fin 1) ⟨t, ht⟩ ⟨j, hj⟩ ⟨i, hi⟩) = ys t i j

theorem isStack_ofImage {N C : ℕ} (X : FVec Ideal ⟨4, ![1, 4, C, N]⟩ .f32) : IsStack X (ofImage X) :=
  fun t ht i hi j hj => (ofImage_apply X t ht i hi j hj).symm

variable {N C H E D M : ℕ}

theorem fill_apply (s : Shape) (b : BitVec 32) (i : s.Idx) : (rFill s b : FVec Ideal s .f32) i = Ideal.ofBits .f32 b := by
  unfold rFill
  rw [broadcastInDim_scalar_apply]
  rfl

/-- One frame of a stack. -/
theorem is3_x {Y : FVec Ideal ⟨4, ![1, 4, C, N]⟩ .f32} {ys : ℕ → Arr} (hY : IsStack Y ys) (t : ℕ) (ht : t < 4) :
    Is3 (rX N C t Y) (ys t) := by
  intro i hi j hj
  unfold rX
  rw [transpose_ix3_021_apply]
  refine (shapeCast_apply _ casts_frame _ (ix4 (0 : Fin 1) (0 : Fin 1) (⟨j, hj⟩ : Fin C) (⟨i, hi⟩ : Fin N)) ?_).trans ?_
  · rw [Shape.rowMajor_val_three, Shape.rowMajor_val_four]
    show ((0 * 1 + 0) * C + j) * N + i = (0 * C + j) * N + i
    simp
  · refine (extractStridedSlice_apply ![0, t % 4, 0, 0] Y slices_frame
      (ix4 (0 : Fin 1) (0 : Fin 1) (⟨j, hj⟩ : Fin C) (⟨i, hi⟩ : Fin N)) (ix4 (0 : Fin 1) ⟨t, ht⟩ (⟨j, hj⟩ : Fin C) (⟨i, hi⟩ : Fin N))
      fun a => match a with
        | ⟨0, _⟩ => rfl
        | ⟨1, _⟩ => (show t = t % 4 + 0 by omega)
        | ⟨2, _⟩ => (show j = 0 + j by omega)
        | ⟨3, _⟩ => (show i = 0 + i by omega)).trans (hY t ht i hi j hj)

/-- Two matrices side by side. -/
theorem is3_cat {X : FVec Ideal ⟨3, ![1, N, C]⟩ .f32} {Y : FVec Ideal ⟨3, ![1, N, H]⟩ .f32} {x y : Arr} (hX : Is3 X x)
    (hY : Is3 Y y) : Is3 (rCat N C H X Y) (cat C x y) := by
  intro i hi j hj
  unfold rCat
  by_cases h : j < C
  · refine (concatenate_pair_apply_left (t := ⟨3, ![1, N, C + H]⟩) (s₁ := ⟨3, ![1, N, C]⟩) (s₂ := ⟨3, ![1, N, H]⟩)
      (2 : Fin 3) _ _ _ _ rfl (ix3 (0 : Fin 1) (⟨i, hi⟩ : Fin N) (⟨j, h⟩ : Fin C))
      fun b => match b with | ⟨0, _⟩ => rfl | ⟨1, _⟩ => rfl | ⟨2, _⟩ => rfl).trans ?_
    rw [hX, cat, if_pos h]
  · refine (concatenate_pair_apply_right (t := ⟨3, ![1, N, C + H]⟩) (s₁ := ⟨3, ![1, N, C]⟩) (s₂ := ⟨3, ![1, N, H]⟩)
      (2 : Fin 3) _ _ _ _ rfl rfl (ix3 (0 : Fin 1) (⟨i, hi⟩ : Fin N) (⟨j - C, by omega⟩ : Fin H))
      (fun b hb => match b, hb with | ⟨2, _⟩, hb => absurd rfl hb | ⟨0, _⟩, _ => rfl | ⟨1, _⟩, _ => rfl) (by
        show j - C + C = j
        omega)).trans ?_
    rw [hY, cat, if_neg h]

/-- Three matrices side by side. -/
theorem is3_cat3 {X Y Z : FVec Ideal ⟨3, ![1, N, D]⟩ .f32} {x y z : Arr} (hX : Is3 X x) (hY : Is3 Y y) (hZ : Is3 Z z) :
    Is3 (concatenate ⟨3, ![1, N, 3 * D]⟩ (2 : Fin 3) [⟨⟨3, ![1, N, D]⟩, X⟩, ⟨⟨3, ![1, N, D]⟩, Y⟩, ⟨⟨3, ![1, N, D]⟩, Z⟩]
      concat_feat3) (cat D x (cat D y z)) := by
  intro i hi j hj
  have piece : ∀ (k : ℕ) (hk : k < 3) (W : FVec Ideal ⟨3, ![1, N, D]⟩ .f32) (a : ℕ) (ha : a < D) (hj' : D * k + a = j)
      (hW : ([⟨⟨3, ![1, N, D]⟩, X⟩, ⟨⟨3, ![1, N, D]⟩, Y⟩, ⟨⟨3, ![1, N, D]⟩, Z⟩] :
        List ((s : Shape) × (s.Idx → EReal)))[k]'hk = ⟨⟨3, ![1, N, D]⟩, W⟩),
      concatenate ⟨3, ![1, N, 3 * D]⟩ (2 : Fin 3) [⟨⟨3, ![1, N, D]⟩, X⟩, ⟨⟨3, ![1, N, D]⟩, Y⟩, ⟨⟨3, ![1, N, D]⟩, Z⟩] concat_feat3
        (ix3 (0 : Fin 1) (⟨i, hi⟩ : Fin N) (⟨j, hj⟩ : Fin (3 * D))) = W (ix3 (0 : Fin 1) ⟨i, hi⟩ ⟨a, ha⟩) := by
    intro k hk W a ha hj' hW
    refine concatenate_apply_piece (t := ⟨3, ![1, N, 3 * D]⟩) (2 : Fin 3)
      [⟨⟨3, ![1, N, D]⟩, X⟩, ⟨⟨3, ![1, N, D]⟩, Y⟩, ⟨⟨3, ![1, N, D]⟩, Z⟩] concat_feat3 _ k hk _ W hW rfl (D * k) ?_
      (ix3 (0 : Fin 1) ⟨i, hi⟩ ⟨a, ha⟩)
      (fun b hb => match b, hb with | ⟨2, _⟩, hb => absurd rfl hb | ⟨0, _⟩, _ => rfl | ⟨1, _⟩, _ => rfl) hj'
    match k, hk with
    | 0, _ => simp
    | 1, _ => simp
    | 2, _ => simp; omega
  by_cases h : j < D
  · rw [piece 0 (by omega) X j h (by omega) rfl, hX, cat, if_pos h]
  · by_cases h' : j - D < D
    · rw [piece 1 (by omega) Y (j - D) h' (by omega) rfl, hY, cat, if_neg h, cat, if_pos h']
    · rw [piece 2 (by omega) Z (j - D - D) (by omega) (by omega) rfl, hZ, cat, if_neg h, cat, if_neg h']

/-- What the sizes of a layer satisfy. -/
structure Sizes (N E : ℕ) : Prop where
  pos : 1 ≤ N
  small : N < 2 ^ 27
  entries : E = 9 * N

section Gates
variable (hs : Sizes N E) {l : Entries Ideal E} (hl : IsRing N l)
include hs hl

theorem is3_zcat {K : FVec Ideal ⟨3, ![1, N, D]⟩ .f32} {f : Arr} (hK : Is3 K f) : Is3 (rZcat N E D hs.pos l K) (zcat N D f) := by
  have h1 := is3_lap hs.pos hs.small hs.entries hl hK
  refine is3_cat3 hK h1 fun i hi j hj => ?_
  show (rFill ⟨3, ![1, N, D]⟩ 0x40000000#32 : FVec Ideal _ .f32) _ * rLap N E D hs.pos l _ _ - K _ = _
  rw [fill_apply, lit_two, is3_lap hs.pos hs.small hs.entries hl h1, hK]
  rfl

omit hs hl in
/-- A batch of one matrix times a matrix, read at an index. -/
theorem featDot_apply (K : FVec Ideal ⟨3, ![1, N, D]⟩ .f32) (W : FVec Ideal ⟨2, ![D, M]⟩ .f32) (u : Fin 1) (i : Fin N) (q : Fin M) :
    Host.dotGeneral (featDot N D M) none K W (ix3 u i q) = ∑ k : Fin D, K (ix3 u i k) * W (ix2 k q) := by
  show FloatOps.dotGeneral _ none _ K W (ix3 u i q) = _
  rw [Ideal.dotGeneral_apply, ← Equiv.sum_comp (contrEquiv1 (featDot N D M) D rfl rfl).symm]
  refine Finset.sum_congr rfl fun k _ => ?_
  have hk := contrEquiv1_symm_val (featDot N D M) D rfl rfl k
  have el : (featDot N D M).lhsIdx (ix3 u i q) ((contrEquiv1 (featDot N D M) D rfl rfl).symm k) = ix3 u i k := by
    funext a
    apply Fin.ext
    match a with
    | ⟨0, _⟩ => rfl
    | ⟨1, _⟩ => rfl
    | ⟨2, _⟩ => exact hk
  have er : (featDot N D M).rhsIdx (ix3 u i q) ((contrEquiv1 (featDot N D M) D rfl rfl).symm k) = ix2 k q := by
    funext a
    apply Fin.ext
    match a with
    | ⟨0, _⟩ => exact hk
    | ⟨1, _⟩ => rfl
  rw [el, er]

omit hs hl in
/-- A bias repeated over the nodes. -/
theorem bias_apply (B : FVec Ideal ⟨1, ![M]⟩ .f32) (i : Fin N) (q : Fin M) :
    broadcastInDim ⟨3, ![1, N, M]⟩ ![0, 1, 2] bcast_node (broadcastInDim ⟨3, ![1, 1, M]⟩ ![2] bcast_last B) (ix3 (0 : Fin 1) i q)
      = B (ix1 q) := by
  have hq : q.val = if M = 1 then 0 else q.val := by
    split
    · have := q.isLt; omega
    · rfl
  refine (broadcastInDim_apply _ bcast_node _ (ix3 (0 : Fin 1) i q) (ix3 (0 : Fin 1) (0 : Fin 1) q) fun a => match a with
    | ⟨0, _⟩ => rfl | ⟨1, _⟩ => rfl | ⟨2, _⟩ => hq).trans ?_
  exact broadcastInDim_apply _ bcast_last B _ _ fun a => match a with | ⟨0, _⟩ => hq

/-- The gates. -/
theorem is3_gates {K : FVec Ideal ⟨3, ![1, N, D]⟩ .f32} {f : Arr} (hK : Is3 K f) {W : FVec Ideal ⟨2, ![3 * D, M]⟩ .f32} {w : Arr}
    (hW : Is2 W w) (B : FVec Ideal ⟨1, ![M]⟩ .f32) : Is3 (rGates N E D M hs.pos l W B K) (gates N D w (ofVec B) f) := by
  intro i hi j hj
  show Host.dotGeneral _ _ _ _ _ + broadcastInDim _ _ _ _ _ = _
  rw [featDot_apply, bias_apply, ← ofVec_apply B j hj, gates]
  congr 1
  exact Finset.sum_congr rfl fun k _ => congrArg₂ (· * ·) (is3_zcat hs hl hK i hi k k.isLt) (hW k k.isLt j hj)
end Gates

/-- The logistic function as it is written out is the logistic function. -/
theorem sig_apply (s : Shape) (y : FVec Ideal s .f32) (i : s.Idx) : rSig s y i = Ideal.logistic (y i) := by
  show Ideal.div ((rFill s 0x3F800000#32 : FVec Ideal s .f32) i)
    ((rFill s 0x3F800000#32 : FVec Ideal s .f32) i + Ideal.exp (-(y i))) = _
  rw [fill_apply, Ideal.ofBits_one_f32]
  rfl

section Cell
variable {G : FVec Ideal ⟨3, ![1, N, 4 * H]⟩ .f32} {g : Arr} (hG : Is3 G g) {X : FVec Ideal ⟨3, ![1, N, H]⟩ .f32} {c : Arr}
  (hX : Is3 X c)
include hG

/-- A quarter of the gates. -/
theorem is3_gate (k : ℕ) (hk : k + H ≤ 4 * H) : Is3 (rGate N H k hk G) fun i j => g i (k + j) := fun i hi j hj => by
  unfold rGate
  exact (extractStridedSlice_apply ![0, 0, k] G (slices_gate hk)
    (ix3 (0 : Fin 1) (⟨i, hi⟩ : Fin N) (⟨j, hj⟩ : Fin H)) (ix3 (0 : Fin 1) (⟨i, hi⟩ : Fin N) (⟨k + j, by omega⟩ : Fin (4 * H)))
    fun a => match a with
      | ⟨0, _⟩ => rfl
      | ⟨1, _⟩ => (show i = 0 + i by omega)
      | ⟨2, _⟩ => rfl).trans (hG i hi (k + j) (by omega))

include hX

theorem is3_cellC : Is3 (rC N H G X) (cellC H g c) := by
  intro i hi j hj
  show (rSig (F := Ideal) _ _ _ * X _ + rSig (F := Ideal) _ _ _ * Ideal.tanh _ : EReal) = _
  rw [sig_apply, sig_apply, is3_gate hG H (by omega) i hi j hj, is3_gate hG 0 (by omega) i hi j hj,
    is3_gate hG (3 * H) (by omega) i hi j hj, hX]
  simp only [Nat.zero_add]
  rfl

theorem is3_cellH : Is3 (rH N H G X) (cellH H g c) := by
  intro i hi j hj
  show (rSig (F := Ideal) _ _ _ * Ideal.tanh _ : EReal) = _
  rw [sig_apply, is3_gate hG (2 * H) (by omega) i hi j hj, hX]
  rfl
end Cell

section Layer
variable (hs : Sizes N E) {l : Entries Ideal E} (hl : IsRing N l) {W : FVec Ideal ⟨2, ![3 * (C + H), 4 * H]⟩ .f32} {w : Arr}
  (hW : Is2 W w) (B : FVec Ideal ⟨1, ![4 * H]⟩ .f32) {Y : FVec Ideal ⟨4, ![1, 4, C, N]⟩ .f32} {ys : ℕ → Arr} (hY : IsStack Y ys)
include hs hl hW hY

/-- The state after `t` frames. -/
theorem is3_state (t : ℕ) (ht : t ≤ 4) :
    Is3 (rState N C H E hs.pos l W B Y t).1 (state N C H w (ofVec B) ys t).1
      ∧ Is3 (rState N C H E hs.pos l W B Y t).2 (state N C H w (ofVec B) ys t).2 := by
  induction t with
  | zero =>
    have h0 : Is3 (rFill ⟨3, ![1, N, H]⟩ 0x00000000#32 : FVec Ideal _ .f32) zero := fun i hi j hj =>
      (fill_apply _ _ _).trans lit_zero
    exact ⟨h0, h0⟩
  | succ t ih =>
    obtain ⟨hc, hh⟩ := ih (by omega)
    have hg := is3_gates hs hl (is3_cat (is3_x hY t (by omega)) hh) hW B
    have hc' := is3_cellC hg hc
    exact ⟨hc', is3_cellH hg hc'⟩

theorem frame_apply (t : ℕ) (ht : t ≤ 4) (i : ℕ) (hi : i < N) (j : ℕ) (hj : j < H) :
    rFrame N C H E hs.pos l W B Y t (ix4 (0 : Fin 1) (0 : Fin 1) ⟨i, hi⟩ ⟨j, hj⟩) = (state N C H w (ofVec B) ys t).2 i j := by
  unfold rFrame
  refine (broadcastInDim_apply _ bcast_frame _ _ (ix3 (0 : Fin 1) ⟨i, hi⟩ ⟨j, hj⟩) fun a => match a with
    | ⟨0, _⟩ => rfl
    | ⟨1, _⟩ => by
      show i = if N = 1 then 0 else i
      split
      · omega
      · rfl
    | ⟨2, _⟩ => by
      show j = if H = 1 then 0 else j
      split
      · omega
      · rfl).trans ((is3_state hs hl hW B hY t ht).2 i hi j hj)

/-- A layer holds the layer's four arrays. -/
theorem isStack_layer : IsStack (rLayer N C H E hs.pos l W B Y) (layer N C H w (ofVec B) ys) := by
  intro t ht i hi j hj
  unfold rLayer
  show max (transpose _ _ _ _ _) ((rFill _ 0x00000000#32 : FVec Ideal _ .f32) _) = max _ _
  rw [fill_apply, lit_zero]
  congr 1
  refine (transpose_apply _ _ transposes_0132 _ (ix4 (0 : Fin 1) (⟨t, ht⟩ : Fin 4) (⟨i, hi⟩ : Fin N) (⟨j, hj⟩ : Fin H)) fun b =>
    match b with | ⟨0, _⟩ => rfl | ⟨1, _⟩ => rfl | ⟨2, _⟩ => rfl | ⟨3, _⟩ => rfl).trans ?_
  refine (concatenate_apply_piece (t := ⟨4, ![1, 4, N, H]⟩) (1 : Fin 4)
    [⟨⟨4, ![1, 1, N, H]⟩, rFrame N C H E hs.pos l W B Y 1⟩, ⟨⟨4, ![1, 1, N, H]⟩, rFrame N C H E hs.pos l W B Y 2⟩,
      ⟨⟨4, ![1, 1, N, H]⟩, rFrame N C H E hs.pos l W B Y 3⟩, ⟨⟨4, ![1, 1, N, H]⟩, rFrame N C H E hs.pos l W B Y 4⟩] concat_frames _ t ht ⟨4, ![1, 1, N, H]⟩
    (rFrame N C H E hs.pos l W B Y (t + 1)) ?_ rfl t ?_ (ix4 (0 : Fin 1) (0 : Fin 1) (⟨i, hi⟩ : Fin N) (⟨j, hj⟩ : Fin H))
    (fun b hb => match b, hb with | ⟨1, _⟩, hb => absurd rfl hb | ⟨0, _⟩, _ => rfl | ⟨2, _⟩, _ => rfl | ⟨3, _⟩, _ => rfl) ?_).trans
      (frame_apply hs hl hW B hY (t + 1) (by omega) i hi j hj)
  · match t, ht with
    | 0, _ => rfl
    | 1, _ => rfl
    | 2, _ => rfl
    | 3, _ => rfl
  · match t, ht with
    | 0, _ => simp
    | 1, _ => simp
    | 2, _ => simp
    | 3, _ => simp
  · rfl
end Layer

/-- The greatest of each four nodes. -/
theorem isStack_pool {Y : FVec Ideal ⟨4, ![1, 4, D, 4 * M]⟩ .f32} {ys : ℕ → Arr} (hY : IsStack Y ys) :
    IsStack (rPool D M Y) fun t => pool (ys t) := by
  intro t ht i hi j hj
  unfold rPool
  refine (Host.reduce_eq_fold _ _ _ _ _ _).trans ?_
  rw [Shape.ReducesTo.fold_fiber_r5_a4]
  show Finset.univ.fold max (Ideal.ofBits .f32 0xFF800000#32) _ = _
  rw [lit_neg_inf]
  refine Finset.fold_congr fun k _ => ?_
  rw [← hY t ht (4 * i + k) (by omega) j hj]
  refine shapeCast_apply Y _ _ _ ?_
  rw [Shape.rowMajor_val_five, Shape.rowMajor_val_four]
  show ((0 * 4 + t) * D + j) * (4 * M) + (4 * i + k.val) = (((0 * 4 + t) * D + j) * M + i) * 4 + k.val
  ring

/-- Each node four times over. -/
theorem isStack_unpool {Y : FVec Ideal ⟨4, ![1, 4, D, M]⟩ .f32} {ys : ℕ → Arr} (hY : IsStack Y ys) :
    IsStack (rUnpool D M Y) fun t => unpool (ys t) := by
  intro t ht i hi j hj
  unfold rUnpool
  refine (shapeCast_apply _ casts_join _ (ix5 (0 : Fin 1) (⟨t, ht⟩ : Fin 4) (⟨j, hj⟩ : Fin D) (⟨i / 4, by omega⟩ : Fin M)
    (⟨i % 4, by omega⟩ : Fin 4)) ?_).trans ?_
  · rw [Shape.rowMajor_val_five, Shape.rowMajor_val_four]
    show (((0 * 4 + t) * D + j) * M + i / 4) * 4 + i % 4 = ((0 * 4 + t) * D + j) * (4 * M) + i
    have := Nat.div_add_mod i 4
    rw [Nat.add_mul, Nat.mul_assoc, Nat.mul_comm M 4]
    omega
  · refine (broadcastInDim_apply _ bcast_four _ _ (ix4 (0 : Fin 1) (⟨t, ht⟩ : Fin 4) (⟨j, hj⟩ : Fin D) (⟨i / 4, by omega⟩ : Fin M))
      fun a => match a with
        | ⟨0, _⟩ => rfl
        | ⟨1, _⟩ => rfl
        | ⟨2, _⟩ => by
          show j = if D = 1 then 0 else j
          split
          · omega
          · rfl
        | ⟨3, _⟩ => by
          show i / 4 = if M = 1 then 0 else i / 4
          split
          · omega
          · rfl).trans (hY t ht (i / 4) (by omega) j hj)

end Cert.Ring
-- ==== Proof.RefForm.lean ====
/- The reference's results as layers of `RefOps`: the host program's terms and these are the same. -/
module

public import proofs.«01_k».proof.Proof.RefOps
public import proofs.«01_k».proof.Proof.Gen.ReferenceIdeal.Run

@[expose] public section

set_option maxRecDepth 16384

noncomputable section

namespace Cert.Ring

open Cert.ReferenceIdeal Cert.ReferenceIdeal.Gen Cert.ReferenceIdeal.Value
open Idealize.ShloMosaic Idealize.ShloMosaic.TcCoe Idealize.SL.Sem

variable {F : FTy → Type} [FloatOps F] (V : Valuation τ sig (Elt F))

/-- The Laplacian's entries on 3072 nodes. -/
def entries1 : Entries F 27648 :=
  ⟨V (Proc.devRef .tc main_arg11), V (Proc.devRef .tc main_arg12), V (Proc.devRef .tc main_arg13)⟩
/-- The Laplacian's entries on 768 nodes. -/
def entries2 : Entries F 6912 :=
  ⟨V (Proc.devRef .tc main_arg14), V (Proc.devRef .tc main_arg15), V (Proc.devRef .tc main_arg16)⟩
/-- The Laplacian's entries on 192 nodes. -/
def entries3 : Entries F 1728 :=
  ⟨V (Proc.devRef .tc main_arg17), V (Proc.devRef .tc main_arg18), V (Proc.devRef .tc main_arg19)⟩

/-- The first layer and its pooling. -/
theorem layer1_eq : res_main_v290 V = rPool 128 768 (rLayer 3072 16 128 27648 (by decide) (entries1 V)
    (V (Proc.devRef .tc main_arg1)) (V (Proc.devRef .tc main_arg2)) (V (Proc.devRef .tc main_arg0))) := rfl

/-- The second layer and its pooling. -/
theorem layer2_eq : res_main_v581 V = rPool 512 192 (rLayer 768 128 512 6912 (by decide) (entries2 V)
    (V (Proc.devRef .tc main_arg3)) (V (Proc.devRef .tc main_arg4)) (res_main_v290 V)) := rfl

/-- The third layer, each node repeated. -/
theorem layer3_eq : res_main_v872 V = rUnpool 512 192 (rLayer 192 512 512 1728 (by decide) (entries3 V)
    (V (Proc.devRef .tc main_arg5)) (V (Proc.devRef .tc main_arg6)) (res_main_v581 V)) := rfl

/-- The fourth layer, each node repeated. -/
theorem layer4_eq : res_main_v1163 V = rUnpool 128 768 (rLayer 768 512 128 6912 (by decide) (entries2 V)
    (V (Proc.devRef .tc main_arg7)) (V (Proc.devRef .tc main_arg8)) (res_main_v872 V)) := rfl

/-- The fifth layer. -/
def layer5 : FVec F S1x4x16x3072 .f32 := rLayer 3072 128 16 27648 (by decide) (entries1 V)
  (V (Proc.devRef .tc main_arg9)) (V (Proc.devRef .tc main_arg10)) (res_main_v1163 V)

/-- The reference ends, its result is the last frame of the fifth layer, and its arguments are unchanged. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1453) = extractStridedSlice S1x1x16x3072 ![0, 3, 0, 0]
        (layer5 (StableHlo.launchContents m c)) slices_S1x4x16x3072_S1x1x16x3072_0_3_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  run m ρ

end Cert.Ring
-- ==== Proof.RefValue.lean ====
/- What the reference returns: `Spec`'s fifth layer at the last frame. -/
module

public import proofs.«01_k».proof.Proof.RefAt
public import proofs.«01_k».proof.Proof.RefForm

@[expose] public section

noncomputable section

namespace Cert.Ring

open Idealize.ShloMosaic hiding ix1 ix2 ix3 ix4 ix5 eq_ix1 eq_ix2 eq_ix3 eq_ix4
open Idealize.ShloMosaic.ValueIdx
open Cert.ReferenceIdeal.Gen Cert.ReferenceIdeal.Value Idealize.ShloMosaic.TcCoe Idealize.SL.Sem
open Cert.ReferenceIdeal

variable (V : Valuation τ sig (Elt Ideal))

/-- The reference's float arguments. -/
def refArgs : Args where
  x := V (Proc.devRef .tc main_arg0)
  W1 := V (Proc.devRef .tc main_arg1)
  b1 := V (Proc.devRef .tc main_arg2)
  W2 := V (Proc.devRef .tc main_arg3)
  b2 := V (Proc.devRef .tc main_arg4)
  W3 := V (Proc.devRef .tc main_arg5)
  b3 := V (Proc.devRef .tc main_arg6)
  W4 := V (Proc.devRef .tc main_arg7)
  b4 := V (Proc.devRef .tc main_arg8)
  W5 := V (Proc.devRef .tc main_arg9)
  b5 := V (Proc.devRef .tc main_arg10)

/-- The three Laplacians' entries are the rings'. -/
structure Rings : Prop where
  one : IsRing 3072 (entries1 V)
  two : IsRing 768 (entries2 V)
  three : IsRing 192 (entries3 V)

theorem sizes1 : Sizes 3072 27648 := ⟨by decide, by decide, by decide⟩
theorem sizes2 : Sizes 768 6912 := ⟨by decide, by decide, by decide⟩
theorem sizes3 : Sizes 192 1728 := ⟨by decide, by decide, by decide⟩

variable {V} (hV : Rings V)
include hV

theorem isStack_v290 : IsStack (N := 768) (C := 128) (res_main_v290 V) (y1 (refArgs V).p (refArgs V).xs) := by
  rw [layer1_eq]
  exact isStack_pool (isStack_layer sizes1 hV.one (is2_ofMat _) _ (isStack_ofImage _))

theorem isStack_v581 : IsStack (N := 192) (C := 512) (res_main_v581 V) (y2 (refArgs V).p (refArgs V).xs) := by
  rw [layer2_eq]
  exact isStack_pool (isStack_layer sizes2 hV.two (is2_ofMat _) _ (isStack_v290 hV))

theorem isStack_v872 : IsStack (N := 768) (C := 512) (res_main_v872 V) (y3 (refArgs V).p (refArgs V).xs) := by
  rw [layer3_eq]
  exact isStack_unpool (isStack_layer sizes3 hV.three (is2_ofMat _) _ (isStack_v581 hV))

theorem isStack_v1163 : IsStack (N := 3072) (C := 128) (res_main_v1163 V) (y4 (refArgs V).p (refArgs V).xs) := by
  rw [layer4_eq]
  exact isStack_unpool (isStack_layer sizes2 hV.two (is2_ofMat _) _ (isStack_v872 hV))

theorem isStack_layer5 : IsStack (N := 3072) (C := 16) (layer5 V) (y5 (refArgs V).p (refArgs V).xs) :=
  isStack_layer sizes1 hV.one (is2_ofMat _) _ (isStack_v1163 hV)

/-- The reference's result, read at feature `j` of node `i`. -/
theorem reference_apply (i : ℕ) (hi : i < 3072) (j : ℕ) (hj : j < 16) :
    extractStridedSlice S1x1x16x3072 ![0, 3, 0, 0] (layer5 V) slices_S1x4x16x3072_S1x1x16x3072_0_3_0_0
      (ix4 (0 : Fin 1) (0 : Fin 1) ⟨j, hj⟩ ⟨i, hi⟩) = y5 (refArgs V).p (refArgs V).xs 3 i j :=
  (extractStridedSlice_apply ![0, 3, 0, 0] (layer5 V) slices_S1x4x16x3072_S1x1x16x3072_0_3_0_0
    (ix4 (0 : Fin 1) (0 : Fin 1) (⟨j, hj⟩ : Fin 16) (⟨i, hi⟩ : Fin 3072))
    (ix4 (0 : Fin 1) (3 : Fin 4) (⟨j, hj⟩ : Fin 16) (⟨i, hi⟩ : Fin 3072)) fun a => match a with
      | ⟨0, _⟩ => rfl
      | ⟨1, _⟩ => rfl
      | ⟨2, _⟩ => (show j = 0 + j by omega)
      | ⟨3, _⟩ => (show i = 0 + i by omega)).trans (isStack_layer5 hV 3 (by omega) i hi j hj)

end Cert.Ring
-- ==== Proof.PreAt.lean ====
/- What the precondition says: the Laplacians' entries are the rings', and the image is real. -/
module

public import proofs.«01_k».proof.Proof.RefSparse
public import proofs.«01_k».proof.Proof.Inputs
public import proofs.«01_k».proof.Pre_ring_and_finite
public import Idealize.ShloMosaic.Lib.ReduceAll
public import Idealize.ShloMosaic.Lib.WordCmp

@[expose] public section

noncomputable section

namespace Cert.Ring

open Idealize.ShloMosaic hiding ix1 ix2 ix3 ix4 ix5 eq_ix1 eq_ix2 eq_ix3 eq_ix4
open Idealize.ShloMosaic.ValueIdx Idealize.ShloMosaic.WordCmp

/-! ### One list of a matrix, tested -/

theorem bcast_row {n : ℕ} : (⟨1, ![n]⟩ : Shape).BroadcastsInDim ⟨2, ![1, n]⟩ ![1] :=
  ⟨fun a b _ => Subsingleton.elim a b, fun a => match a with | ⟨0, _⟩ => .inr rfl⟩

theorem bcast_rows {n : ℕ} : (⟨2, ![1, n]⟩ : Shape).BroadcastsInDim ⟨2, ![9, n]⟩ ![0, 1] :=
  ⟨(by decide : Function.Injective (![0, 1] : Fin 2 → Fin 2)), fun a => match a with | ⟨0, _⟩ => .inl rfl | ⟨1, _⟩ => .inr rfl⟩

theorem bcast_cols {n : ℕ} : (⟨2, ![9, 1]⟩ : Shape).BroadcastsInDim ⟨2, ![9, n]⟩ ![0, 1] :=
  ⟨(by decide : Function.Injective (![0, 1] : Fin 2 → Fin 2)), fun a => match a with | ⟨0, _⟩ => .inr rfl | ⟨1, _⟩ => .inl rfl⟩

theorem numel_pos : 0 < (⟨0, ![]⟩ : Shape).numel := by decide

instance : Subsingleton (⟨0, ![]⟩ : Shape).Idx := ⟨fun a b => funext fun i => i.elim0⟩

variable {F : FTy → Type} [FloatOps F] {N E : ℕ}

/-- All of a matrix's bits. -/
def pAll (h : (⟨2, ![9, N]⟩ : Shape).ReducesTo [0, 1] ⟨0, ![]⟩) (x : IVec ⟨2, ![9, N]⟩ 1) : IVec ⟨0, ![]⟩ 1 :=
  Host.reduce IntOp.andi x (constantI ⟨0, ![]⟩ 1 1#1) h numel_pos

/-- The node of each entry: its column of the nine by `N` matrix. -/
def pNode (N : ℕ) : IVec ⟨2, ![9, N]⟩ 32 :=
  broadcastInDim ⟨2, ![9, N]⟩ ![0, 1] bcast_rows (broadcastInDim ⟨2, ![1, N]⟩ ![1] bcast_row (iotaInDim ⟨1, ![N]⟩ 32 0))

/-- A table of nine along the matrix's rows. -/
def pTable {α : Type} (N : ℕ) (o : Fin 9 → α) : (⟨2, ![9, N]⟩ : Shape).Idx → α :=
  broadcastInDim ⟨2, ![9, N]⟩ ![0, 1] bcast_cols
    (broadcastInDim ⟨2, ![9, 1]⟩ ![0] bcast_col fun i : (⟨1, ![9]⟩ : Shape).Idx => o ((⟨1, ![9]⟩ : Shape).rowMajor i))

/-- The neighbour of each entry: the node and the offset, less `N` where the sum reaches it. -/
def pNeighbour (N : ℕ) (o : Fin 9 → BitVec 32) : IVec ⟨2, ![9, N]⟩ 32 :=
  select (cmpi .slt (addi (pNode N) (pTable N o))
      (broadcastInDim ⟨2, ![9, N]⟩ ![] bcast_fill (constantI ⟨0, ![]⟩ 32 (BitVec.ofNat 32 N))))
    (addi (pNode N) (pTable N o))
    (subi (addi (pNode N) (pTable N o))
      (broadcastInDim ⟨2, ![9, N]⟩ ![] bcast_fill (constantI ⟨0, ![]⟩ 32 (BitVec.ofNat 32 N))))

/-- The test that one Laplacian's entries are a ring's. -/
def pRing (hr : (⟨2, ![9, N]⟩ : Shape).ReducesTo [0, 1] ⟨0, ![]⟩) (hc : (⟨1, ![E]⟩ : Shape).ShapeCasts ⟨2, ![9, N]⟩)
    (o w : Fin 9 → BitVec 32) (l : Entries F E) : IVec ⟨0, ![]⟩ 1 :=
  andi (andi (pAll hr (cmpi .eq (shapeCast ⟨2, ![9, N]⟩ l.rows hc) (pNode N)))
      (pAll hr (cmpi .eq (shapeCast ⟨2, ![9, N]⟩ l.cols hc) (pNeighbour N o))))
    (pAll hr (cmpf .oeq (shapeCast ⟨2, ![9, N]⟩ l.vals hc) (pTable N fun k => FloatOps.ofBits .f32 (w k))))

/-- The test that every pixel is finite. -/
def pFinite (hr : (⟨4, ![1, 4, 16, 3072]⟩ : Shape).ReducesTo [0, 1, 2, 3] ⟨0, ![]⟩) (x : FVec F ⟨4, ![1, 4, 16, 3072]⟩ .f32) :
    IVec ⟨0, ![]⟩ 1 :=
  Host.reduce IntOp.andi
    (cmpf .olt (Host.absf x) (broadcastInDim ⟨4, ![1, 4, 16, 3072]⟩ ![] bcast_fill (constant ⟨0, ![]⟩ .f32 0x7F800000#32)))
    (constantI ⟨0, ![]⟩ 1 1#1) hr numel_pos

theorem node_apply (k : Fin 9) (i : Fin N) : pNode N (ix2 k i) = BitVec.ofNat 32 i := by
  have hi : i.val = if N = 1 then 0 else i.val := by
    split
    · have := i.isLt; omega
    · rfl
  refine (broadcastInDim_apply _ bcast_rows _ (ix2 k i) (ix2 (0 : Fin 1) i) fun a => match a with
    | ⟨0, _⟩ => rfl | ⟨1, _⟩ => hi).trans ?_
  exact broadcastInDim_apply _ bcast_row _ (ix2 (0 : Fin 1) i) (ix1 i) fun a => match a with | ⟨0, _⟩ => hi

theorem table_apply {α : Type} (o : Fin 9 → α) (k : Fin 9) (i : Fin N) : pTable N o (ix2 k i) = o k := by
  refine (broadcastInDim_apply _ bcast_cols _ (ix2 k i) (ix2 k (0 : Fin 1)) fun a => match a with
    | ⟨0, _⟩ => rfl | ⟨1, _⟩ => rfl).trans ?_
  rw [column_apply]
  exact congrArg o (Fin.ext (Shape.rowMajor_val_one (ix1 k)))

/-- The neighbour is the node and the offset around the ring. -/
theorem neighbour_apply (hN : 8 ≤ N) (hN' : N < 2 ^ 27) (o : Fin 9 → BitVec 32) (ho : ∀ k : Fin 9, o k = BitVec.ofNat 32 (off N k))
    (k : Fin 9) (i : Fin N) : pNeighbour N o (ix2 k i) = BitVec.ofNat 32 ((i + off N k) % N) := by
  have hk : off N k < N := by
    have := k.isLt
    unfold off
    split
    · omega
    · split <;> omega
  have hi := i.isLt
  show Scalar.select (IntOp.cmpi .slt (pNode N _ + pTable N o _) _) (pNode N _ + pTable N o _)
    (pNode N _ + pTable N o _ - _) = _
  rw [node_apply, table_apply, ho, broadcastInDim_scalar_apply, ← BitVec.ofNat_add]
  show Scalar.select (IntOp.cmpi .slt _ (BitVec.ofNat 32 N)) _ (_ - BitVec.ofNat 32 N) = _
  by_cases h : i.val + off N k < N
  · rw [select_of_eq_one ((cmpi_slt_ofNat_eq_one_iff (by omega) (by omega)).2 h), Nat.mod_eq_of_lt h]
  · rw [select_of_eq_zero ((BitVec.eq_zero_or_eq_one _).resolve_right fun e =>
        h ((cmpi_slt_ofNat_eq_one_iff (by omega) (by omega)).1 e)), Nat.mod_eq_sub_mod (by omega),
      Nat.mod_eq_of_lt (by omega)]
    apply BitVec.eq_of_toNat_eq
    simp only [BitVec.toNat_sub, BitVec.toNat_ofNat]
    omega

theorem cast_apply {α : Type} (hc : (⟨1, ![E]⟩ : Shape).ShapeCasts ⟨2, ![9, N]⟩) (x : (⟨1, ![E]⟩ : Shape).Idx → α) (k : ℕ)
    (hk : k < 9) (i : ℕ) (hi : i < N) (h : k * N + i < E) :
    shapeCast ⟨2, ![9, N]⟩ x hc (ix2 ⟨k, hk⟩ ⟨i, hi⟩) = x (ix1 ⟨k * N + i, h⟩) := by
  refine shapeCast_apply x hc _ _ ?_
  rw [Shape.rowMajor_val_one, Shape.rowMajor_val_two]
  rfl

theorem and_one {x y : IVec ⟨0, ![]⟩ 1} (h : andi x y = fun _ => 1#1) : x = (fun _ => 1#1) ∧ y = fun _ => 1#1 := by
  have key : ∀ a b : BitVec 1, IntOp.andi a b = 1#1 → a = 1#1 ∧ b = 1#1 := by decide
  exact ⟨funext fun i => (key _ _ (congrFun h i)).1, funext fun i => (key _ _ (congrFun h i)).2⟩

theorem all_one {hr : (⟨2, ![9, N]⟩ : Shape).ReducesTo [0, 1] ⟨0, ![]⟩} {x : IVec ⟨2, ![9, N]⟩ 1} (h : pAll hr x = fun _ => 1#1)
    (i : (⟨2, ![9, N]⟩ : Shape).Idx) : x i = 1#1 :=
  Host.reduce_andi_all x _ hr numel_pos (fun a => a.elim0) (congrFun h _) i

theorem eq_of_cmpi {a b : BitVec 32} (h : IntOp.cmpi .eq a b = 1#1) : a = b := by
  simpa only [IntOp.cmpi, ofBool_eq_one_iff, beq_iff_eq] using h

theorem lit_minus_eighth : Ideal.ofBits .f32 0xBE000000#32 = ((-(1 / 8) : ℝ) : EReal) := by
  simp [Ideal.ofBits, Ideal.ieee, -EReal.coe_mul]; norm_num

/-- The test passes only on a ring's entries. -/
theorem isRing_of_test (hN : 8 ≤ N) (hN' : N < 2 ^ 27) {hr : (⟨2, ![9, N]⟩ : Shape).ReducesTo [0, 1] ⟨0, ![]⟩}
    {hc : (⟨1, ![E]⟩ : Shape).ShapeCasts ⟨2, ![9, N]⟩} {o w : Fin 9 → BitVec 32} (ho : ∀ k : Fin 9, o k = BitVec.ofNat 32 (off N k))
    (hw : ∀ k : Fin 9, Ideal.ofBits .f32 (w k) = wt k) {l : Entries Ideal E} (h : pRing hr hc o w l = fun _ => 1#1) : IsRing N l := by
  obtain ⟨h12, h3⟩ := and_one h
  obtain ⟨h1, h2⟩ := and_one h12
  refine ⟨fun k hk i hi hE => ?_, fun k hk i hi hE => ?_, fun k hk i hi hE => ?_⟩
  · rw [← cast_apply hc l.rows k hk i hi hE, ← node_apply ⟨k, hk⟩ ⟨i, hi⟩]
    exact eq_of_cmpi (all_one h1 _)
  · rw [← cast_apply hc l.cols k hk i hi hE, ← neighbour_apply hN hN' o ho ⟨k, hk⟩ ⟨i, hi⟩]
    exact eq_of_cmpi (all_one h2 _)
  · rw [← cast_apply hc l.vals k hk i hi hE, ← hw ⟨k, hk⟩]
    have e : Ideal.cmp .oeq _ _ = 1#1 := all_one h3 (ix2 ⟨k, hk⟩ ⟨i, hi⟩)
    rw [table_apply] at e
    simpa [Ideal.cmp, ofBool_eq_one_iff] using e

theorem isReal_of_test {hr : (⟨4, ![1, 4, 16, 3072]⟩ : Shape).ReducesTo [0, 1, 2, 3] ⟨0, ![]⟩}
    {x : FVec Ideal ⟨4, ![1, 4, 16, 3072]⟩ .f32} (h : pFinite hr x = fun _ => 1#1) (t : ℕ) (ht : t < 4) : IsReal 3072 16 (ofImage x t) := by
  intro i hi j hj
  rw [ofImage_apply x t ht i hi j hj]
  have e : Ideal.cmp .olt (max (x (ix4 (0 : Fin 1) ⟨t, ht⟩ ⟨j, hj⟩ ⟨i, hi⟩) : EReal) (-(x (ix4 (0 : Fin 1) ⟨t, ht⟩ ⟨j, hj⟩ ⟨i, hi⟩) : EReal)))
      (Ideal.ofBits .f32 0x7F800000#32) = 1#1 :=
    Host.reduce_andi_all _ _ hr numel_pos (fun a => a.elim0) (congrFun h _) (ix4 (0 : Fin 1) ⟨t, ht⟩ ⟨j, hj⟩ ⟨i, hi⟩)
  have htop : Ideal.ofBits .f32 0x7F800000#32 = ⊤ := by simp [Ideal.ofBits, Ideal.ieee]
  rw [htop] at e
  generalize (x (ix4 (0 : Fin 1) ⟨t, ht⟩ ⟨j, hj⟩ ⟨i, hi⟩) : EReal) = y at e ⊢
  induction y using EReal.rec with
  | bot => simp [Ideal.cmp] at e
  | coe r => exact ⟨r, rfl⟩
  | top => simp [Ideal.cmp] at e

/-! ### The printed predicate -/

open Cert.Pre_ring_and_finite in
/-- The precondition gives the three rings and a real image. -/
theorem pre_reads [Cert.Pre_ring_and_finite.Facts] (a0 : FVec Ideal S1x4x16x3072 .f32) (a1 a2 a3 a4 a5 a6 a7 a8 a9 a10)
    (a11 a12 : IVec S27648 32) (a13 : FVec Ideal S27648 .f32) (a14 a15 : IVec S6912 32) (a16 : FVec Ideal S6912 .f32)
    (a17 a18 : IVec S1728 32) (a19 : FVec Ideal S1728 .f32)
    (h : fn (F := Ideal) a0 a1 a2 a3 a4 a5 a6 a7 a8 a9 a10 a11 a12 a13 a14 a15 a16 a17 a18 a19 = fun _ => 1#1) :
    (∀ t < 4, IsReal 3072 16 (ofImage a0 t)) ∧ IsRing 3072 (⟨a11, a12, a13⟩ : Entries Ideal 27648)
      ∧ IsRing 768 (⟨a14, a15, a16⟩ : Entries Ideal 6912) ∧ IsRing 192 (⟨a17, a18, a19⟩ : Entries Ideal 1728) := by
  have e : fn (F := Ideal) a0 a1 a2 a3 a4 a5 a6 a7 a8 a9 a10 a11 a12 a13 a14 a15 a16 a17 a18 a19
      = andi (andi (andi (pFinite Facts.reducesTo_S1x4x16x3072_S_d0_1_2_3 a0)
          (pRing Facts.reducesTo_S9x3072_S_d0_1 Facts.shapeCasts_S27648_S9x3072 lit0 lit1 ⟨a11, a12, a13⟩))
          (pRing Facts.reducesTo_S9x768_S_d0_1 Facts.shapeCasts_S6912_S9x768 lit2 lit3 ⟨a14, a15, a16⟩))
          (pRing Facts.reducesTo_S9x192_S_d0_1 Facts.shapeCasts_S1728_S9x192 lit4 lit5 ⟨a17, a18, a19⟩) := rfl
  rw [e] at h
  obtain ⟨h012, h3⟩ := and_one h
  obtain ⟨h01, h2⟩ := and_one h012
  obtain ⟨h0, h1⟩ := and_one h01
  have w1 : ∀ k : Fin 9, Ideal.ofBits .f32 (lit1 k) = wt k := by
    intro k
    by_cases hk : k = 0
    · subst hk
      exact Ideal.ofBits_one_f32
    · have hl : lit1 k = 0xBE000000#32 := by
        revert k
        decide
      rw [hl, lit_minus_eighth, wt, if_neg fun h : k.val = 0 => hk (Fin.ext h)]
  exact ⟨fun t ht => isReal_of_test h0 t ht, isRing_of_test (by decide) (by decide) (by decide) w1 h1,
    isRing_of_test (by decide) (by decide) (by decide) w1 h2, isRing_of_test (by decide) (by decide) (by decide) w1 h3⟩

/-- The side conditions of the printed predicate. -/
theorem preFacts : Cert.Pre_ring_and_finite.Facts := by
  constructor <;> decide

end Cert.Ring
-- ==== Proof.Equal.lean ====
/- The kernel's result and the reference's are the same array. -/
module

public import proofs.«01_k».proof.Proof.KernelRun
public import proofs.«01_k».proof.Proof.KernelValue
public import proofs.«01_k».proof.Proof.RefValue
public import proofs.«01_k».proof.Proof.PreAt

@[expose] public section

noncomputable section

namespace Cert.Ring

open Idealize.ShloMosaic hiding ix1 ix2 ix3 ix4 ix5 eq_ix1 eq_ix2 eq_ix3 eq_ix4
open Idealize.ShloMosaic.ValueIdx Idealize.ShloMosaic.TcCoe
open Cert.KernelIdeal

variable (m : (ℓ : Loc nD τ sig) → Buf (Elt Ideal) ℓ) (c : Dev nD)

/-- The kernel's float arguments on a device. -/
def kernelArgs : Args where
  x := m ((c.tc : Thread nD τ).loc main_arg0)
  W1 := m ((c.tc : Thread nD τ).loc main_arg1)
  b1 := m ((c.tc : Thread nD τ).loc main_arg2)
  W2 := m ((c.tc : Thread nD τ).loc main_arg3)
  b2 := m ((c.tc : Thread nD τ).loc main_arg4)
  W3 := m ((c.tc : Thread nD τ).loc main_arg5)
  b3 := m ((c.tc : Thread nD τ).loc main_arg6)
  W4 := m ((c.tc : Thread nD τ).loc main_arg7)
  b4 := m ((c.tc : Thread nD τ).loc main_arg8)
  W5 := m ((c.tc : Thread nD τ).loc main_arg9)
  b5 := m ((c.tc : Thread nD τ).loc main_arg10)

/-- The kernel's result on a real image, read at feature `j` of node `i`. -/
theorem result_apply (hx : (kernelArgs m c).Real) (i : ℕ) (hi : i < 3072) (j : ℕ) (hj : j < 16) :
    Run.result m c (ix4 (0 : Fin 1) (0 : Fin 1) ⟨j, hj⟩ ⟨i, hi⟩) = y5 (kernelArgs m c).p (kernelArgs m c).xs 3 i j := by
  unfold Run.result
  refine (broadcastInDim_apply _ _ _ (ix4 (0 : Fin 1) (0 : Fin 1) (⟨j, hj⟩ : Fin 16) (⟨i, hi⟩ : Fin 3072))
    (ix2 (⟨j, hj⟩ : Fin 16) (⟨i, hi⟩ : Fin 3072)) fun a => match a with | ⟨0, _⟩ => rfl | ⟨1, _⟩ => rfl).trans ?_
  exact launches_apply hx i hi j hj

/-- From memories that agree on the arguments, under the precondition, the two results are equal. -/
theorem results_eq (V : Valuation Cert.ReferenceIdeal.τ Cert.ReferenceIdeal.sig (Elt Ideal)) (hA : refArgs V = kernelArgs m c)
    (hx : (kernelArgs m c).Real) (hV : Rings V) :
    extractStridedSlice Cert.ReferenceIdeal.S1x1x16x3072 ![0, 3, 0, 0] (layer5 V)
      Cert.ReferenceIdeal.Gen.slices_S1x4x16x3072_S1x1x16x3072_0_3_0_0 = Run.result m c := by
  funext q
  obtain ⟨a, b, j, i, rfl⟩ : ∃ (a b : Fin 1) (j : Fin 16) (i : Fin 3072), q = ix4 a b j i :=
    ⟨q 0, q 1, q 2, q 3, eq_ix4 q⟩
  obtain rfl : a = 0 := Subsingleton.elim _ _
  obtain rfl : b = 0 := Subsingleton.elim _ _
  refine (reference_apply hV i.val i.isLt j.val j.isLt).trans ?_
  rw [hA]
  exact (result_apply m c hx i.val i.isLt j.val j.isLt).symm

end Cert.Ring
-- ==== Proof.lean ====
/- The proof of the five claims: the three frames, that no operation of the kernel was replaced, and that the kernel and the
   reference agree on the extended reals. -/
module

public import proofs.«01_k».proof.Defs
public import proofs.«01_k».proof.Proof.Gen.Kernel.Frame
public import proofs.«01_k».proof.Proof.Gen.KernelIdeal.Frame
public import proofs.«01_k».proof.Proof.Equal
public import Idealize.ShloMosaic.Lib.Quiescent

@[expose] public section

noncomputable section

namespace Cert.Proof

open Idealize.ShloMosaic Idealize.ShloMosaic.TcCoe Idealize.SL.Sem

/-- The reference ends with its arguments unchanged and, having no semaphore, with every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.Ring.reference_run (F := Ideal) m ρ)

instance : Cert.Pre_ring_and_finite.Facts := Cert.Ring.preFacts

/-- Under the precondition the kernel and the reference, run at the ideal values from the same arguments, end with equal results
    and unchanged arguments. -/
theorem algebraic : Cert.algebraic_KernelIdeal_ReferenceIdeal_pre_ring_and_finite := by
  intro m g m' g' hpre hagree
  refine ⟨Cert.KernelIdeal.Run.result m, ?_, ?_⟩
  · refine (θ_run Cert.KernelIdeal.defs _ _).mono (fun r h c => ⟨(h c).1, ?_⟩) (Cert.KernelIdeal.Run.run m g)
    have k := (h c).2
    simp only [List.forall_mem_cons] at k
    obtain ⟨k0, k1, k2, k3, k4, k5, k6, k7, k8, k9, k10, k11, k12, k13, k14, k15, k16, k17, k18, k19, _⟩ := k
    exact ⟨k0, k1, k2, k3, k4, k5, k6, k7, k8, k9, k10, k11, k12, k13, k14, k15, k16, k17, k18, k19⟩
  · refine (θ_run Cert.ReferenceIdeal.defs _ _).mono (fun r h c => ⟨(h c).1.trans ?_, (h c).2⟩) (Cert.Ring.reference_run m' g')
    obtain ⟨k0, k1, k2, k3, k4, k5, k6, k7, k8, k9, k10, k11, k12, k13, k14, k15, k16, k17, k18, k19⟩ := hagree c
    obtain ⟨hx, r1, r2, r3⟩ := Cert.Ring.pre_reads _ _ _ _ _ _ _ _ _ _ _ _ _ _ _ _ _ _ _ _ (hpre c)
    rw [← k11, ← k12, ← k13] at r1
    rw [← k14, ← k15, ← k16] at r2
    rw [← k17, ← k18, ← k19] at r3
    refine Cert.Ring.results_eq m c (StableHlo.launchContents m' c) ?_ hx ⟨r1, r2, r3⟩
    show Cert.Ring.Args.mk _ _ _ _ _ _ _ _ _ _ _ = Cert.Ring.Args.mk _ _ _ _ _ _ _ _ _ _ _
    exact Cert.Ring.Args.mk.injEq .. |>.mpr ⟨k0, k1, k2, k3, k4, k5, k6, k7, k8, k9, k10⟩

theorem claim : Cert.Claim := ⟨Cert.Kernel.Gen.facts, Cert.KernelIdeal.Gen.facts, Cert.ReferenceIdeal.Gen.facts, Cert.Ring.preFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
